-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "half_log2e" .f32 0x3F38AA3B#32 (((Real.log 2)⁻¹ * (1 / 2) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v44)) (v4 : (c : Dev Cert.KernelIdeal.nD) → Buf (Elt Ideal) ((c.tc : Thread Cert.KernelIdeal.nD Cert.KernelIdeal.τ).loc Cert.KernelIdeal.main_v45)) (v5 : (c : Dev Cert.KernelIdeal.nD) → Buf (Elt Ideal) ((c.tc : Thread Cert.KernelIdeal.nD Cert.KernelIdeal.τ).loc Cert.KernelIdeal.main_v46)) (v6 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_v44) = v3 c
          ∧ r.2.mem ((c.tc : Thread Cert.KernelIdeal.nD Cert.KernelIdeal.τ).loc Cert.KernelIdeal.main_v45) = v4 c
          ∧ r.2.mem ((c.tc : Thread Cert.KernelIdeal.nD Cert.KernelIdeal.τ).loc Cert.KernelIdeal.main_v46) = v5 c
          ∧ r.2.mem ((c.tc : Thread Cert.KernelIdeal.nD Cert.KernelIdeal.τ).loc Cert.KernelIdeal.main_v49) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88_0) = v0 c
          ∧ r.2.mem ((c.tc : Thread Cert.ReferenceIdeal.nD Cert.ReferenceIdeal.τ).loc Cert.ReferenceIdeal.main_v88_1) = v1 c
          ∧ r.2.mem ((c.tc : Thread Cert.ReferenceIdeal.nD Cert.ReferenceIdeal.τ).loc Cert.ReferenceIdeal.main_v88_2) = v2 c
          ∧ r.2.mem ((c.tc : Thread Cert.ReferenceIdeal.nD Cert.ReferenceIdeal.τ).loc Cert.ReferenceIdeal.main_v88_3) = v3 c
          ∧ r.2.mem ((c.tc : Thread Cert.ReferenceIdeal.nD Cert.ReferenceIdeal.τ).loc Cert.ReferenceIdeal.main_v88_4) = v4 c
          ∧ r.2.mem ((c.tc : Thread Cert.ReferenceIdeal.nD Cert.ReferenceIdeal.τ).loc Cert.ReferenceIdeal.main_v88_5) = v5 c
          ∧ r.2.mem ((c.tc : Thread Cert.ReferenceIdeal.nD Cert.ReferenceIdeal.τ).loc Cert.ReferenceIdeal.main_v88_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x1024 : Shape := ⟨3, ![3, 512, 1024]⟩
abbrev S3x512x2560 : Shape := ⟨3, ![3, 512, 2560]⟩
abbrev S1024 : Shape := ⟨1, ![1024]⟩
abbrev S2560 : Shape := ⟨1, ![2560]⟩
abbrev S1280x32000 : Shape := ⟨2, ![1280, 32000]⟩
abbrev S20x32000 : Shape := ⟨2, ![20, 32000]⟩
abbrev S32000x1024 : Shape := ⟨2, ![32000, 1024]⟩
abbrev S32000 : Shape := ⟨1, ![32000]⟩
abbrev S3 : Shape := ⟨1, ![3]⟩
abbrev S1 : Shape := ⟨1, ![1]⟩
abbrev S1536x1024 : Shape := ⟨2, ![1536, 1024]⟩
abbrev S1536x2560 : Shape := ⟨2, ![1536, 2560]⟩
abbrev S1x1024 : Shape := ⟨2, ![1, 1024]⟩
abbrev S1x2560 : Shape := ⟨2, ![1, 2560]⟩
abbrev S1536x128 : Shape := ⟨2, ![1536, 128]⟩
abbrev S128x1024 : Shape := ⟨2, ![128, 1024]⟩
abbrev S128x2560 : Shape := ⟨2, ![128, 2560]⟩
abbrev S128x128 : Shape := ⟨2, ![128, 128]⟩
abbrev S128 : Shape := ⟨1, ![128]⟩
abbrev S128x1 : Shape := ⟨2, ![128, 1]⟩
abbrev S1x32000 : Shape := ⟨2, ![1, 32000]⟩
abbrev S1536x32000 : Shape := ⟨2, ![1536, 32000]⟩
abbrev S1280x256 : Shape := ⟨2, ![1280, 256]⟩
abbrev S20x256 : Shape := ⟨2, ![20, 256]⟩
abbrev S256x1024 : Shape := ⟨2, ![256, 1024]⟩
abbrev S1x256 : Shape := ⟨2, ![1, 256]⟩
abbrev S1536x256 : Shape := ⟨2, ![1536, 256]⟩
abbrev S2560x256 : Shape := ⟨2, ![2560, 256]⟩
abbrev S20x128x256 : Shape := ⟨3, ![20, 128, 256]⟩
abbrev S20x1x256 : Shape := ⟨3, ![20, 1, 256]⟩
abbrev S1536x1 : Shape := ⟨2, ![1536, 1]⟩
abbrev S1536 : Shape := ⟨1, ![1536]⟩
abbrev S512 : Shape := ⟨1, ![512]⟩
abbrev S1x512 : Shape := ⟨2, ![1, 512]⟩
abbrev S3x1 : Shape := ⟨2, ![3, 1]⟩
abbrev S3x512 : Shape := ⟨2, ![3, 512]⟩
abbrev S_ : Shape := ⟨0, ![]⟩
abbrev S32000x1 : Shape := ⟨2, ![32000, 1]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 73
  | .vmem => 64
  | .smem => 0
  | _ => 0

abbrev bufTy : (tb : Table) → Fin (tcTables nBuf tb) → BufTy
  | .hbm, ⟨0, _⟩ => ⟨S3x512x1024, .bf16⟩
  | .hbm, ⟨1, _⟩ => ⟨S3x512x2560, .bf16⟩
  | .hbm, ⟨2, _⟩ => ⟨S1024, .f32⟩
  | .hbm, ⟨3, _⟩ => ⟨S2560, .f32⟩
  | .hbm, ⟨4, _⟩ => ⟨S1280x32000, .i8⟩
  | .hbm, ⟨5, _⟩ => ⟨S20x32000, .f32⟩
  | .hbm, ⟨6, _⟩ => ⟨S20x32000, .f32⟩
  | .hbm, ⟨7, _⟩ => ⟨S32000x1024, .fp8e4m3⟩
  | .hbm, ⟨8, _⟩ => ⟨S32000, .f32⟩
  | .hbm, ⟨9, _⟩ => ⟨S3, .i32⟩
  | .hbm, ⟨10, _⟩ => ⟨S3, .i32⟩
  | .hbm, ⟨11, _⟩ => ⟨S1, .i32⟩
  | .hbm, ⟨12, _⟩ => ⟨S1536x1024, .bf16⟩
  | .hbm, ⟨13, _⟩ => ⟨S1536x2560, .bf16⟩
  | .hbm, ⟨14, _⟩ => ⟨S1x1024, .f32⟩
  | .hbm, ⟨15, _⟩ => ⟨S1x2560, .f32⟩
  | .hbm, ⟨16, _⟩ => ⟨S1536x2560, .bf16⟩
  | .hbm, ⟨17, _⟩ => ⟨S1536x1024, .fp8e4m3⟩
  | .hbm, ⟨18, _⟩ => ⟨S1536x128, .f32⟩
  | .hbm, ⟨19, _⟩ => ⟨S1536x128, .f32⟩
  | .hbm, ⟨20, _⟩ => ⟨S1x32000, .f32⟩
  | .hbm, ⟨21, _⟩ => ⟨S1536x32000, .f32⟩
  | .hbm, ⟨22, _⟩ => ⟨S1536x32000, .f32⟩
  | .hbm, ⟨23, _⟩ => ⟨S1536x128, .f32⟩
  | .hbm, ⟨24, _⟩ => ⟨S1536x128, .f32⟩
  | .hbm, ⟨25, _⟩ => ⟨S512, .i32⟩
  | .hbm, ⟨26, _⟩ => ⟨S1x512, .i32⟩
  | .hbm, ⟨27, _⟩ => ⟨S3x1, .i32⟩
  | .hbm, ⟨28, _⟩ => ⟨S3x512, .i32⟩
  | .hbm, ⟨29, _⟩ => ⟨S3x512, .i32⟩
  | .hbm, ⟨30, _⟩ => ⟨S3x512, .i1⟩
  | .hbm, ⟨31, _⟩ => ⟨S3x1, .i32⟩
  | .hbm, ⟨32, _⟩ => ⟨S3x512, .i32⟩
  | .hbm, ⟨33, _⟩ => ⟨S3x512, .i32⟩
  | .hbm, ⟨34, _⟩ => ⟨S3x512, .i1⟩
  | .hbm, ⟨35, _⟩ => ⟨S3x512, .i1⟩
  | .hbm, ⟨36, _⟩ => ⟨S3x512, .f32⟩
  | .hbm, ⟨37, _⟩ => ⟨S_, .i32⟩
  | .hbm, ⟨38, _⟩ => ⟨S_, .f32⟩
  | .hbm, ⟨39, _⟩ => ⟨S3x512, .f32⟩
  | .hbm, ⟨40, _⟩ => ⟨S3x512, .f32⟩
  | .hbm, ⟨41, _⟩ => ⟨S1536x1, .f32⟩
  | .hbm, ⟨42, _⟩ => ⟨S32000x1, .f32⟩
  | .hbm, ⟨43, _⟩ => ⟨S1536x1024, .f32⟩
  | .hbm, ⟨44, _⟩ => ⟨S1536x1024, .bf16⟩
  | .hbm, ⟨45, _⟩ => ⟨S1536x128, .f32⟩
  | .hbm, ⟨46, _⟩ => ⟨S_, .f32⟩
  | .hbm, ⟨47, _⟩ => ⟨S_, .f32⟩
  | .hbm, ⟨48, _⟩ => ⟨S1536x1, .f32⟩
  | .hbm, ⟨49, _⟩ => ⟨S1536, .f32⟩
  | .hbm, ⟨50, _⟩ => ⟨S3x512, .f32⟩
  | .hbm, ⟨51, _⟩ => ⟨S1536x1, .f32⟩
  | .hbm, ⟨52, _⟩ => ⟨S1536, .f32⟩
  | .hbm, ⟨53, _⟩ => ⟨S3x512, .f32⟩
  | .hbm, ⟨54, _⟩ => ⟨S3x512, .f32⟩
  | .hbm, ⟨55, _⟩ => ⟨S3x512, .f32⟩
  | .hbm, ⟨56, _⟩ => ⟨S_, .f32⟩
  | .hbm, ⟨57, _⟩ => ⟨S3x512, .f32⟩
  | .hbm, ⟨58, _⟩ => ⟨S3x512, .f32⟩
  | .hbm, ⟨59, _⟩ => ⟨S1536x1, .f32⟩
  | .hbm, ⟨60, _⟩ => ⟨S1536, .f32⟩
  | .hbm, ⟨61, _⟩ => ⟨S3x512, .f32⟩
  | .hbm, ⟨62, _⟩ => ⟨S3x512, .f32⟩
  | .hbm, ⟨63, _⟩ => ⟨S3x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S3x512x1024, .bf16⟩
  | .hbm, ⟨68, _⟩ => ⟨S3x512x1024, .f32⟩
  | .hbm, ⟨69, _⟩ => ⟨S3x512x1024, .fp8e4m3⟩
  | .hbm, ⟨70, _⟩ => ⟨S1536x1, .f32⟩
  | .hbm, ⟨71, _⟩ => ⟨S1536, .f32⟩
  | .hbm, ⟨72, _⟩ => ⟨S3x512, .f32⟩
  | .local _ .vmem, ⟨0, _⟩ => ⟨S128x1024, .bf16⟩
  | .local _ .vmem, ⟨1, _⟩ => ⟨S128x1024, .bf16⟩
  | .local _ .vmem, ⟨2, _⟩ => ⟨S128x2560, .bf16⟩
  | .local _ .vmem, ⟨3, _⟩ => ⟨S128x2560, .bf16⟩
  | .local _ .vmem, ⟨4, _⟩ => ⟨S1x1024, .f32⟩
  | .local _ .vmem, ⟨5, _⟩ => ⟨S1x2560, .f32⟩
  | .local _ .vmem, ⟨6, _⟩ => ⟨S128x2560, .bf16⟩
  | .local _ .vmem, ⟨7, _⟩ => ⟨S128x2560, .bf16⟩
  | .local _ .vmem, ⟨8, _⟩ => ⟨S128x1024, .fp8e4m3⟩
  | .local _ .vmem, ⟨9, _⟩ => ⟨S128x1024, .fp8e4m3⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1536x2560, .bf16⟩
  | .local _ .vmem, ⟨15, _⟩ => ⟨S1536x1024, .fp8e4m3⟩
  | .local _ .vmem, ⟨16, _⟩ => ⟨S1536x128, .f32⟩
  | .local _ .vmem, ⟨17, _⟩ => ⟨S1280x256, .i8⟩
  | .local _ .vmem, ⟨18, _⟩ => ⟨S1280x256, .i8⟩
  | .local _ .vmem, ⟨19, _⟩ => ⟨S20x256, .f32⟩
  | .local _ .vmem, ⟨20, _⟩ => ⟨S20x256, .f32⟩
  | .local _ .vmem, ⟨21, _⟩ => ⟨S20x256, .f32⟩
  | .local _ .vmem, ⟨22, _⟩ => ⟨S20x256, .f32⟩
  | .local _ .vmem, ⟨23, _⟩ => ⟨S256x1024, .fp8e4m3⟩
  | .local _ .vmem, ⟨24, _⟩ => ⟨S256x1024, .fp8e4m3⟩
  | .local _ .vmem, ⟨25, _⟩ => ⟨S1x256, .f32⟩
  | .local _ .vmem, ⟨26, _⟩ => ⟨S1x256, .f32⟩
  | .local _ .vmem, ⟨27, _⟩ => ⟨S1536x256, .f32⟩
  | .local _ .vmem, ⟨28, _⟩ => ⟨S1536x256, .f32⟩
  | .local _ .vmem, ⟨29, _⟩ => ⟨S1536x256, .f32⟩
  | .local _ .vmem, ⟨30, _⟩ => ⟨S1536x256, .f32⟩
  | .local _ .vmem, ⟨31, _⟩ => ⟨S1536x128, .f32⟩
  | .local _ .vmem, ⟨32, _⟩ => ⟨S1536x128, .f32⟩
  | .local _ .vmem, ⟨33, _⟩ => ⟨S1536x128, .f32⟩
  | .local _ .vmem, ⟨34, _⟩ => ⟨S1536x128, .f32⟩
  | .local _ .vmem, ⟨35, _⟩ => ⟨S1536x128, .f32⟩
  | .local _ .vmem, ⟨36, _⟩ => ⟨S1536x128, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x128, .f32⟩
  | .local _ .vmem, ⟨42, _⟩ => ⟨S256x128, .f32⟩
  | .local _ .vmem, ⟨43, _⟩ => ⟨S256x128, .f32⟩
  | .local _ .vmem, ⟨44, _⟩ => ⟨S256x128, .f32⟩
  | .local _ .vmem, ⟨45, _⟩ => ⟨S256x1024, .fp8e4m3⟩
  | .local _ .vmem, ⟨46, _⟩ => ⟨S256x1024, .fp8e4m3⟩
  | .local _ .vmem, ⟨47, _⟩ => ⟨S256x1, .f32⟩
  | .local _ .vmem, ⟨48, _⟩ => ⟨S256x1, .f32⟩
  | .local _ .vmem, ⟨49, _⟩ => ⟨S256x1, .f32⟩
  | .local _ .vmem, ⟨50, _⟩ => ⟨S256x1, .f32⟩
  | .local _ .vmem, ⟨51, _⟩ => ⟨S256x1024, .bf16⟩
  | .local _ .vmem, ⟨52, _⟩ => ⟨S256x1024, .bf16⟩
  | .local _ .vmem, ⟨53, _⟩ => ⟨S256x128, .f32⟩
  | .local _ .vmem, ⟨54, _⟩ => ⟨S256x128, .f32⟩
  | .local _ .vmem, ⟨55, _⟩ => ⟨S1x1024, .f32⟩
  | .local _ .vmem, ⟨56, _⟩ => ⟨S256x1024, .f32⟩
  | .local _ .vmem, ⟨57, _⟩ => ⟨S256x1024, .f32⟩
  | .local _ .vmem, ⟨58, _⟩ => ⟨S256x1024, .bf16⟩
  | .local _ .vmem, ⟨59, _⟩ => ⟨S256x1024, .bf16⟩
  | .local _ .vmem, ⟨60, _⟩ => ⟨S256x128, .f32⟩
  | .local _ .vmem, ⟨61, _⟩ => ⟨S256x128, .f32⟩
  | .local _ .vmem, ⟨62, _⟩ => ⟨S256x1024, .f32⟩
  | .local _ .vmem, ⟨63, _⟩ => ⟨S256x128, .f32⟩
  | _, _ => ⟨S3x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg3_1 : Ref sig .tc := ⟨.vmem, 44, rfl⟩
abbrev cc2_stg4_0 : Ref sig .tc := ⟨.vmem, 45, rfl⟩
abbrev cc2_stg4_1 : Ref sig .tc := ⟨.vmem, 46, rfl⟩
abbrev cc2_stg5_0 : Ref sig .tc := ⟨.vmem, 47, rfl⟩
abbrev cc2_stg5_1 : Ref sig .tc := ⟨.vmem, 48, rfl⟩
abbrev cc2_stg6_0 : Ref sig .tc := ⟨.vmem, 49, rfl⟩
abbrev cc2_stg6_1 : Ref sig .tc := ⟨.vmem, 50, rfl⟩
abbrev cc2_stg7_0 : Ref sig .tc := ⟨.vmem, 51, rfl⟩
abbrev cc2_stg7_1 : Ref sig .tc := ⟨.vmem, 52, rfl⟩
abbrev cc2_stg8_0 : Ref sig .tc := ⟨.vmem, 53, rfl⟩
abbrev cc2_stg8_1 : Ref sig .tc := ⟨.vmem, 54, rfl⟩
abbrev cc2_stg9_0 : Ref sig .tc := ⟨.vmem, 55, rfl⟩
abbrev cc2_stg10_0 : Ref sig .tc := ⟨.vmem, 56, rfl⟩
abbrev cc2_stg10_1 : Ref sig .tc := ⟨.vmem, 57, rfl⟩
abbrev cc2_stg11_0 : Ref sig .tc := ⟨.vmem, 58, rfl⟩
abbrev cc2_stg11_1 : Ref sig .tc := ⟨.vmem, 59, rfl⟩
abbrev cc2_stg12_0 : Ref sig .tc := ⟨.vmem, 60, rfl⟩
abbrev cc2_stg12_1 : Ref sig .tc := ⟨.vmem, 61, rfl⟩
abbrev cc2_scratch0 : Ref sig .tc := ⟨.vmem, 62, rfl⟩
abbrev cc2_scratch1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem11_0 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem7_1 : DmaSem sig := 48
abbrev cc2_sem8_0 : DmaSem sig := 49
abbrev cc2_sem8_1 : DmaSem sig := 50
abbrev cc2_sem9_0 : DmaSem sig := 51
abbrev cc2_sem10_0 : DmaSem sig := 52
abbrev cc2_sem10_1 : DmaSem sig := 53
abbrev cc2_sem11_0 : DmaSem sig := 54
abbrev cc2_sem11_1 : DmaSem sig := 55
abbrev cc2_sem12_0 : DmaSem sig := 56
abbrev cc2_sem12_1 : DmaSem sig := 57

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def k1_cond2 (i : grid1.Coords) : BitVec 1 :=
  let arg0 : BitVec 32 := BitVec.ofNat 32 (i 0).val
  let c124_i32 : BitVec 32 := 124#32
  let v90 : BitVec 1 := Scalar.cmpi .eq arg0 c124_i32
  let v91 : BitVec 32 := Scalar.extui v90
  let c0_i32_40 : BitVec 32 := 0#32
  let v92 : BitVec 1 := Scalar.cmpi .ne v91 c0_i32_40
  v92

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1536x2560 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x1024 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1280x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S20x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S20x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1536x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1536x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1536x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1536x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨2, ![6, 125], ![false, false]⟩

def k2_cond2 (i : grid2.Coords) : BitVec 1 :=
  let arg1 : BitVec 32 := BitVec.ofNat 32 (i 1).val
  let c124_i32 : BitVec 32 := 124#32
  let v42 : BitVec 1 := Scalar.cmpi .eq arg1 c124_i32
  let v43 : BitVec 32 := Scalar.extui v42
  let c0_i32_20 : BitVec 32 := 0#32
  let v44 : BitVec 1 := Scalar.cmpi .ne v43 c0_i32_20
  v44

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x1024 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S256x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S256x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev stage2_12 : Fin 2 → Memref sig .tc .vmem S256x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]
-- ==== KernelIdeal.lean ====
variable {F : FTy → Type} [FloatOps F] [Named F]
def κ : String → Option EReal := fun
  | "half_log2e" => some (((Real.log 2)⁻¹ * (1 / 2) : ℝ) : EReal)
  | "ln2" => some ((Real.log 2 : ℝ) : EReal)
  | "log2e" => some (((Real.log 2)⁻¹ : ℝ) : EReal)
  | _ => none
-- ==== ReferenceIdeal.lean ====
abbrev S3x512x1024 : Shape := ⟨3, ![3, 512, 1024]⟩
abbrev S3x512x2560 : Shape := ⟨3, ![3, 512, 2560]⟩
abbrev S1024 : Shape := ⟨1, ![1024]⟩
abbrev S2560 : Shape := ⟨1, ![2560]⟩
abbrev S1280x32000 : Shape := ⟨2, ![1280, 32000]⟩
abbrev S20x32000 : Shape := ⟨2, ![20, 32000]⟩
abbrev S32000x1024 : Shape := ⟨2, ![32000, 1024]⟩
abbrev S32000 : Shape := ⟨1, ![32000]⟩
abbrev S3 : Shape := ⟨1, ![3]⟩
abbrev S1 : Shape := ⟨1, ![1]⟩
abbrev S20x64x32000 : Shape := ⟨3, ![20, 64, 32000]⟩
abbrev S_ : Shape := ⟨0, ![]⟩
abbrev S512 : Shape := ⟨1, ![512]⟩
abbrev S1x512 : Shape := ⟨2, ![1, 512]⟩
abbrev S3x1 : Shape := ⟨2, ![3, 1]⟩
abbrev S3x512 : Shape := ⟨2, ![3, 512]⟩
abbrev S1536x1 : Shape := ⟨2, ![1536, 1]⟩
abbrev S1536x2560 : Shape := ⟨2, ![1536, 2560]⟩
abbrev S1536 : Shape := ⟨1, ![1536]⟩
abbrev S1x2560 : Shape := ⟨2, ![1, 2560]⟩
abbrev S1536x1280 : Shape := ⟨2, ![1536, 1280]⟩
abbrev S1536x32000 : Shape := ⟨2, ![1536, 32000]⟩
abbrev S1536x1024 : Shape := ⟨2, ![1536, 1024]⟩
abbrev S1x1024 : Shape := ⟨2, ![1, 1024]⟩
abbrev S1x32000 : Shape := ⟨2, ![1, 32000]⟩
abbrev S32000x1 : Shape := ⟨2, ![32000, 1]⟩

abbrev nBuf : Space → Nat
  | .hbm => 119
  | .vmem => 17
  | .smem => 0
  | _ => 0

abbrev bufTy : (tb : Table) → Fin (tcTables nBuf tb) → BufTy
  | .hbm, ⟨0, _⟩ => ⟨S3x512x1024, .bf16⟩
  | .hbm, ⟨1, _⟩ => ⟨S3x512x2560, .bf16⟩
  | .hbm, ⟨2, _⟩ => ⟨S1024, .f32⟩
  | .hbm, ⟨3, _⟩ => ⟨S2560, .f32⟩
  | .hbm, ⟨4, _⟩ => ⟨S1280x32000, .i8⟩
  | .hbm, ⟨5, _⟩ => ⟨S20x32000, .f32⟩
  | .hbm, ⟨6, _⟩ => ⟨S20x32000, .f32⟩
  | .hbm, ⟨7, _⟩ => ⟨S32000x1024, .fp8e4m3⟩
  | .hbm, ⟨8, _⟩ => ⟨S32000, .f32⟩
  | .hbm, ⟨9, _⟩ => ⟨S3, .i32⟩
  | .hbm, ⟨10, _⟩ => ⟨S3, .i32⟩
  | .hbm, ⟨11, _⟩ => ⟨S1, .i32⟩
  | .hbm, ⟨12, _⟩ => ⟨S1280x32000, .i32⟩
  | .hbm, ⟨13, _⟩ => ⟨S20x32000, .bf16⟩
  | .hbm, ⟨14, _⟩ => ⟨S20x64x32000, .bf16⟩
  | .hbm, ⟨15, _⟩ => ⟨S1280x32000, .bf16⟩
  | .hbm, ⟨16, _⟩ => ⟨S20x32000, .bf16⟩
  | .hbm, ⟨17, _⟩ => ⟨S20x64x32000, .bf16⟩
  | .hbm, ⟨18, _⟩ => ⟨S1280x32000, .bf16⟩
  | .hbm, ⟨19, _⟩ => ⟨S_, .i32⟩
  | .hbm, ⟨20, _⟩ => ⟨S1280x32000, .i32⟩
  | .hbm, ⟨21, _⟩ => ⟨S1280x32000, .i32⟩
  | .hbm, ⟨22, _⟩ => ⟨S1280x32000, .bf16⟩
  | .hbm, ⟨23, _⟩ => ⟨S1280x32000, .bf16⟩
  | .hbm, ⟨24, _⟩ => ⟨S1280x32000, .bf16⟩
  | .hbm, ⟨25, _⟩ => ⟨S_, .i32⟩
  | .hbm, ⟨26, _⟩ => ⟨S1280x32000, .i32⟩
  | .hbm, ⟨27, _⟩ => ⟨S1280x32000, .i32⟩
  | .hbm, ⟨28, _⟩ => ⟨S1280x32000, .bf16⟩
  | .hbm, ⟨29, _⟩ => ⟨S1280x32000, .bf16⟩
  | .hbm, ⟨30, _⟩ => ⟨S1280x32000, .bf16⟩
  | .hbm, ⟨31, _⟩ => ⟨S512, .i32⟩
  | .hbm, ⟨32, _⟩ => ⟨S1x512, .i32⟩
  | .hbm, ⟨33, _⟩ => ⟨S3x1, .i32⟩
  | .hbm, ⟨34, _⟩ => ⟨S3x512, .i32⟩
  | .hbm, ⟨35, _⟩ => ⟨S3x512, .i32⟩
  | .hbm, ⟨36, _⟩ => ⟨S3x512, .i1⟩
  | .hbm, ⟨37, _⟩ => ⟨S3x1, .i32⟩
  | .hbm, ⟨38, _⟩ => ⟨S3x512, .i32⟩
  | .hbm, ⟨39, _⟩ => ⟨S3x512, .i32⟩
  | .hbm, ⟨40, _⟩ => ⟨S3x512, .i1⟩
  | .hbm, ⟨41, _⟩ => ⟨S3x512, .i1⟩
  | .hbm, ⟨42, _⟩ => ⟨S3x512, .f32⟩
  | .hbm, ⟨43, _⟩ => ⟨S_, .i32⟩
  | .hbm, ⟨44, _⟩ => ⟨S_, .f32⟩
  | .hbm, ⟨45, _⟩ => ⟨S3x512, .f32⟩
  | .hbm, ⟨46, _⟩ => ⟨S3x512, .f32⟩
  | .hbm, ⟨47, _⟩ => ⟨S1536x1, .f32⟩
  | .hbm, ⟨48, _⟩ => ⟨S1536x2560, .bf16⟩
  | .hbm, ⟨49, _⟩ => ⟨S1536x2560, .f32⟩
  | .hbm, ⟨50, _⟩ => ⟨S1536x2560, .f32⟩
  | .hbm, ⟨51, _⟩ => ⟨S_, .f32⟩
  | .hbm, ⟨52, _⟩ => ⟨S1536, .f32⟩
  | .hbm, ⟨53, _⟩ => ⟨S1536x1, .f32⟩
  | .hbm, ⟨54, _⟩ => ⟨S_, .f32⟩
  | .hbm, ⟨55, _⟩ => ⟨S1536x1, .f32⟩
  | .hbm, ⟨56, _⟩ => ⟨S1536x1, .f32⟩
  | .hbm, ⟨57, _⟩ => ⟨S_, .f32⟩
  | .hbm, ⟨58, _⟩ => ⟨S1536x1, .f32⟩
  | .hbm, ⟨59, _⟩ => ⟨S1536x1, .f32⟩
  | .hbm, ⟨60, _⟩ => ⟨S1536x1, .f32⟩
  | .hbm, ⟨61, _⟩ => ⟨S1536x2560, .f32⟩
  | .hbm, ⟨62, _⟩ => ⟨S1536x2560, .f32⟩
  | .hbm, ⟨63, _⟩ => ⟨S1x2560, .f32⟩
  | .hbm, ⟨64, _⟩ => ⟨S1536x2560, .f32⟩
  | .hbm, ⟨65, _⟩ => ⟨S1536x2560, .f32⟩
  | .hbm, ⟨66, _⟩ => ⟨S1536x2560, .bf16⟩
  | .hbm, ⟨67, _⟩ => ⟨S1536x1280, .bf16⟩
  | .hbm, ⟨68, _⟩ => ⟨S1536x32000, .f32⟩
  | .hbm, ⟨69, _⟩ => ⟨S1536x1280, .bf16⟩
  | .hbm, ⟨70, _⟩ => ⟨S1536x32000, .f32⟩
  | .hbm, ⟨71, _⟩ => ⟨S1536x32000, .f32⟩
  | .hbm, ⟨72, _⟩ => ⟨S_, .f32⟩
  | .hbm, ⟨73, _⟩ => ⟨S1536x32000, .f32⟩
  | .hbm, ⟨74, _⟩ => ⟨S1536x32000, .f32⟩
  | .hbm, ⟨75, _⟩ => ⟨S_, .f32⟩
  | .hbm, ⟨76, _⟩ => ⟨S1536, .f32⟩
  | .hbm, ⟨77, _⟩ => ⟨S1536x1, .f32⟩
  | .hbm, ⟨78, _⟩ => ⟨S1536x32000, .f32⟩
  | .hbm, ⟨79, _⟩ => ⟨S1536x32000, .f32⟩
  | .hbm, ⟨80, _⟩ => ⟨S1536x32000, .f32⟩
  | .hbm, ⟨81, _⟩ => ⟨S_, .f32⟩
  | .hbm, ⟨82, _⟩ => ⟨S1536, .f32⟩
  | .hbm, ⟨83, _⟩ => ⟨S1536x1, .f32⟩
  | .hbm, ⟨84, _⟩ => ⟨S1536x1, .f32⟩
  | .hbm, ⟨85, _⟩ => ⟨S1536x1, .f32⟩
  | .hbm, ⟨86, _⟩ => ⟨S1536x32000, .f32⟩
  | .hbm, ⟨87, _⟩ => ⟨S1536x32000, .f32⟩
  | .hbm, ⟨88, _⟩ => ⟨S1536x1024, .bf16⟩
  | .hbm, ⟨89, _⟩ => ⟨S1536x1024, .f32⟩
  | .hbm, ⟨90, _⟩ => ⟨S1536x1024, .f32⟩
  | .hbm, ⟨91, _⟩ => ⟨S_, .f32⟩
  | .hbm, ⟨92, _⟩ => ⟨S1536, .f32⟩
  | .hbm, ⟨93, _⟩ => ⟨S1536x1, .f32⟩
  | .hbm, ⟨94, _⟩ => ⟨S_, .f32⟩
  | .hbm, ⟨95, _⟩ => ⟨S1536x1, .f32⟩
  | .hbm, ⟨96, _⟩ => ⟨S1536x1, .f32⟩
  | .hbm, ⟨97, _⟩ => ⟨S_, .f32⟩
  | .hbm, ⟨98, _⟩ => ⟨S1536x1, .f32⟩
  | .hbm, ⟨99, _⟩ => ⟨S1536x1, .f32⟩
  | .hbm, ⟨100, _⟩ => ⟨S1536x1, .f32⟩
  | .hbm, ⟨101, _⟩ => ⟨S_, .f32⟩
  | .hbm, ⟨102, _⟩ => ⟨S1536x1, .f32⟩
  | .hbm, ⟨103, _⟩ => ⟨S1536x1, .f32⟩
  | .hbm, ⟨104, _⟩ => ⟨S1536x1024, .f32⟩
  | .hbm, ⟨105, _⟩ => ⟨S1536x1024, .f32⟩
  | .hbm, ⟨106, _⟩ => ⟨S1x1024, .f32⟩
  | .hbm, ⟨107, _⟩ => ⟨S1536x1024, .f32⟩
  | .hbm, ⟨108, _⟩ => ⟨S1536x1024, .f32⟩
  | .hbm, ⟨109, _⟩ => ⟨S1x1024, .f32⟩
  | .hbm, ⟨110, _⟩ => ⟨S1x32000, .f32⟩
  | .hbm, ⟨111, _⟩ => ⟨S32000x1, .f32⟩
  | .hbm, ⟨112, _⟩ => ⟨S3x512, .f32⟩
  | .hbm, ⟨113, _⟩ => ⟨S3x512, .f32⟩
  | .hbm, ⟨114, _⟩ => ⟨S3x512, .f32⟩
  | .hbm, ⟨115, _⟩ => ⟨S3x512x1024, .bf16⟩
  | .hbm, ⟨116, _⟩ => ⟨S3x512x1024, .f32⟩
  | .hbm, ⟨117, _⟩ => ⟨S3x512x1024, .fp8e4m3⟩
  | .hbm, ⟨118, _⟩ => ⟨S3x512, .f32⟩
  | .local _ .vmem, ⟨0, _⟩ => ⟨S1536x1024, .f32⟩
  | .local _ .vmem, ⟨1, _⟩ => ⟨S1536x1, .f32⟩
  | .local _ .vmem, ⟨2, _⟩ => ⟨S1536x1024, .f32⟩
  | .local _ .vmem, ⟨3, _⟩ => ⟨S1x1024, .f32⟩
  | .local _ .vmem, ⟨4, _⟩ => ⟨S1536x32000, .f32⟩
  | .local _ .vmem, ⟨5, _⟩ => ⟨S1536x1, .f32⟩
  | .local _ .vmem, ⟨6, _⟩ => ⟨S32000x1024, .fp8e4m3⟩
  | .local _ .vmem, ⟨7, _⟩ => ⟨S1x32000, .f32⟩
  | .local _ .vmem, ⟨8, _⟩ => ⟨S32000x1, .f32⟩
  | .local _ .vmem, ⟨9, _⟩ => ⟨S1536x1, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512x1024, .bf16⟩
  | .local _ .vmem, ⟨14, _⟩ => ⟨S3x512x1024, .f32⟩
  | .local _ .vmem, ⟨15, _⟩ => ⟨S3x512x1024, .fp8e4m3⟩
  | .local _ .vmem, ⟨16, _⟩ => ⟨S3x512, .f32⟩
  | _, _ => ⟨S3x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_3 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_6 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88_0 : Ref sig .tc := ⟨.hbm, 112, rfl⟩
abbrev main_v88_1 : Ref sig .tc := ⟨.hbm, 113, rfl⟩
abbrev main_v88_2 : Ref sig .tc := ⟨.hbm, 114, rfl⟩
abbrev main_v88_3 : Ref sig .tc := ⟨.hbm, 115, rfl⟩
abbrev main_v88_4 : Ref sig .tc := ⟨.hbm, 116, rfl⟩
abbrev main_v88_5 : Ref sig .tc := ⟨.hbm, 117, rfl⟩
abbrev main_v88_6 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1536x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32000x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32000x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x512x1024 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Lib.Whole.lean ====
/- Loads and stores that take a whole two-axis buffer, with the sizes written out as numbers. -/
module

public import Idealize.ShloMosaic.Lib.VecWindow
public import Idealize.ShloMosaic.Lib.WholeRead

@[expose] public section

set_option maxRecDepth 16384

noncomputable section

namespace Cert.Whole

open Idealize.ShloMosaic

variable {sig : RefSig} {κ : Kind} {sp : Space} {a b : ℕ} {e : EltTy} {Val : EltTy → Type}

/-- A store over the whole buffer leaves its payload. -/
theorem read_writes (v : View sig κ sp ⟨2, ![a, b]⟩ e) (f : v.ty.Contents Val) {off : Fin 2 → ℕ}
    (inb : ∀ i, off i + ![a, b] i ≤ (⟨2, ![a, b]⟩ : Shape).size i)
    (w : (Rect.unit (s := ⟨2, ![a, b]⟩) off ![a, b] inb).shape.Idx → Val e) (L : List (View.Piece Val ⟨2, ![a, b]⟩ e)) :
    v.read Val (v.writes Val f (⟨Rect.unit (s := ⟨2, ![a, b]⟩) off ![a, b] inb, w⟩ :: L)) = w :=
  View.read_writes_full (s := ⟨2, ![a, b]⟩) v f inb w L

/-- A load of the whole buffer reads its contents. -/
theorem readAt (v : View sig κ sp ⟨2, ![a, b]⟩ e) (f : v.ty.Contents Val) {off : Fin 2 → ℕ}
    (inb : ∀ i, off i + ![a, b] i ≤ (⟨2, ![a, b]⟩ : Shape).size i) :
    v.readAt Val (Rect.unit (s := ⟨2, ![a, b]⟩) off ![a, b] inb).toLoadRect f = v.read Val f :=
  View.readAt_full (s := ⟨2, ![a, b]⟩) v f inb

/-- A load of the whole buffer after a store over the whole buffer reads the store's payload. -/
theorem readCov [∀ e, Nonempty (Val e)] (v : View sig κ sp ⟨2, ![a, b]⟩ e) {off off' : Fin 2 → ℕ}
    (inb : ∀ i, off i + ![a, b] i ≤ (⟨2, ![a, b]⟩ : Shape).size i) (inb' : ∀ i, off' i + ![a, b] i ≤ (⟨2, ![a, b]⟩ : Shape).size i)
    (w : (Rect.unit (s := ⟨2, ![a, b]⟩) off' ![a, b] inb').shape.Idx → Val e) (L : List (View.Piece Val ⟨2, ![a, b]⟩ e)) :
    v.readCov (⟨Rect.unit (s := ⟨2, ![a, b]⟩) off' ![a, b] inb', w⟩ :: L) (Rect.unit (s := ⟨2, ![a, b]⟩) off ![a, b] inb).toLoadRect = w :=
  View.readCov_full (s := ⟨2, ![a, b]⟩) v inb inb' w L

/-- The first column of a two-axis array. -/
def col0 (x : (⟨2, ![a, b]⟩ : Shape).Idx → Val e) (inb : ∀ i, (![0, 0] : Fin 2 → ℕ) i + ![a, 1] i ≤ (⟨2, ![a, b]⟩ : Shape).size i) :
    (⟨2, ![a, 1]⟩ : Shape).Idx → Val e :=
  fun y => x ((Rect.unit (s := ⟨2, ![a, b]⟩) ![0, 0] ![a, 1] inb).toLoadRect.idx y)

/-- A load of the first column of a whole buffer. -/
theorem readAt_col0 {m : Memref sig κ sp ⟨2, ![a, b]⟩ e} (h : m.IsWhole) (x : (⟨2, ![a, b]⟩ : Shape).Idx → Val e)
    (inb : ∀ i, (![0, 0] : Fin 2 → ℕ) i + ![a, 1] i ≤ (⟨2, ![a, b]⟩ : Shape).size i) :
    View.readAt Val m.view (Rect.unit (s := ⟨2, ![a, b]⟩) ![0, 0] ![a, 1] inb).toLoadRect (h.unread x) = col0 x inb :=
  funext fun y => h.readAt_unread x _ y

end Cert.Whole

end
-- ==== Proof.Kernel.ProBody.lean ====
/- The body of the prologue call at one grid point. -/
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole

@[expose] public section

set_option maxRecDepth 16384

noncomputable section

namespace Cert.Kernel.Pro

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four input blocks of one grid point. -/
structure In (F : FTy → Type) [FloatOps F] where
  x0 : Vec F S128x1024 .bf16
  x1 : Vec F S128x2560 .bf16
  x2 : Vec F S1x1024 .f32
  x3 : Vec F S1x2560 .f32

/-- The teacher's normalised rows. -/
def In.ht (X : In F) : Vec F S128x2560 .bf16 := k0_pay5 X.x1 X.x3
/-- The quantised student rows. -/
def In.codes (X : In F) : Vec F S128x1024 .fp8e4m3 := k0_pay2 (k0_pay8 X.x0 X.x2) (k0_pay9 X.x0 X.x2)
/-- The quantiser's scales, repeated over 128 lanes. -/
def In.scale (X : In F) : Vec F S128x128 .f32 := k0_pay3 (k0_pay9 X.x0 X.x2)
/-- The reciprocal root mean squares, repeated over 128 lanes. -/
def In.r (X : In F) : Vec F S128x128 .f32 := k0_pay4 (k0_pay7 X.x0)

variable (c : Dev nD) (i : grid0.Coords)
  (arg1 : Memref sig .tc .vmem S128x1024 .bf16) (harg1 : arg1.IsWhole)
  (arg2 : Memref sig .tc .vmem S128x2560 .bf16) (harg2 : arg2.IsWhole)
  (arg3 : Memref sig .tc .vmem S1x1024 .f32) (harg3 : arg3.IsWhole)
  (arg4 : Memref sig .tc .vmem S1x2560 .f32) (harg4 : arg4.IsWhole)
  (arg5 : Memref sig .tc .vmem S128x2560 .bf16) (harg5 : arg5.IsWhole)
  (arg6 : Memref sig .tc .vmem S128x1024 .fp8e4m3) (harg6 : arg6.IsWhole)
  (arg7 : Memref sig .tc .vmem S128x128 .f32) (harg7 : arg7.IsWhole)
  (arg8 : Memref sig .tc .vmem S128x128 .f32) (harg8 : arg8.IsWhole)

set_option maxHeartbeats 4000000 in
/-- One run of the body: from the input blocks to the four results. -/
theorem run (X : In F) (y4 : Vec F S128x2560 .bf16) (y5 : Vec F S128x1024 .fp8e4m3) (y6 y7 : Vec F S128x128 .f32)
    (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare y4 ∗ owns (c : Thread nD τ) arg6 fullShare y5 ∗ owns (c : Thread nD τ) arg7 fullShare y6 ∗ owns (c : Thread nD τ) arg8 fullShare y7
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.ht ∗ owns (c : Thread nD τ) arg6 fullShare X.codes ∗ owns (c : Thread nD τ) arg7 fullShare X.scale ∗ owns (c : Thread nD τ) arg8 fullShare X.r) -∗ K ⟨⟩))
    ⊢ wp frame (wpE (defs₀ (F := F)) Variants.none c none) E (cc0_prologue i arg1 harg1 arg2 harg2 arg3 harg3 arg4 harg4 arg5 harg5 arg6 harg6 arg7 harg7 arg8 harg8) K := by
  simp only [cc0_prologue_eq_skeleton]; unfold cc0_prologue_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  all_goals
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; rotate_left; iexact H4; ipureintro; sl_unfold_run_names; simp only [Whole.read_writes, Whole.readCov, Whole.readAt, Memref.IsWhole.read_unread, In.ht, In.codes, In.scale, In.r]
    isplitl [H5]
    · iexists _; isplitr; rotate_left; iexact H5; ipureintro; sl_unfold_run_names; simp only [Whole.read_writes, Whole.readCov, Whole.readAt, Memref.IsWhole.read_unread, In.ht, In.codes, In.scale, In.r]
    isplitl [H6]
    · iexists _; isplitr; rotate_left; iexact H6; ipureintro; sl_unfold_run_names; simp only [Whole.read_writes, Whole.readCov, Whole.readAt, Memref.IsWhole.read_unread, In.ht, In.codes, In.scale, In.r]
    · iexists _; isplitr; rotate_left; iexact H7; ipureintro; sl_unfold_run_names; simp only [Whole.read_writes, Whole.readCov, Whole.readAt, Memref.IsWhole.read_unread, In.ht, In.codes, In.scale, In.r]

end Cert.Kernel.Pro

end
-- ==== Proof.Kernel.ProRegion.lean ====
/-
  The region of the first pass (normalise, quantise): what the windows' buffers hold at each grid point, the body's run at a
  point of the grid as the pipeline calls it, and the pipeline's proof data, over any contents `V` of the
  buffers at the region's entry.
 -/
module

public import proofs.«01_k».proof.Proof.Kernel.ProBody

@[expose] public section

set_option maxRecDepth 16384

noncomputable section

namespace Cert.Kernel.Pro

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks of the body at point `t`. -/
def ins (c : Dev nD) (t : Fin cfg0.N) : In F := ⟨iblk V c 0 t, iblk V c 1 t, iblk V c 2 t, iblk V c 3 t⟩

/-- The proof data: the arrays as the region finds them; after the body each input's buffer at its block, each output's
    at what the body wrote. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (ins V c t).ht
    | ⟨5, _⟩ => (ins V c t).codes
    | ⟨6, _⟩ => (ins V c t).scale
    | ⟨7, _⟩ => (ins V c t).r
  Φ t := Pipeline.scopedRest spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (ins V c t).ht := by dsimp only [dat]
theorem after_5 (c : Dev nD) (t : Fin cfg0.N) : (dat V c).after 5 t = (ins V c t).codes := by dsimp only [dat]
theorem after_6 (c : Dev nD) (t : Fin cfg0.N) : (dat V c).after 6 t = (ins V c t).scale := by dsimp only [dat]
theorem after_7 (c : Dev nD) (t : Fin cfg0.N) : (dat V c).after 7 t = (ins V c t).r := by dsimp only [dat]
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body's run at a point. -/
theorem sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).leavesExact 3 t = owns (c : Thread nD τ) (st0_3 t) fullShare ((dat V c).after 3 t) from by
    unfold Dat.leavesExact; rw [live_3 t], after_3]
  rw [show (dat V c).leavesExact 4 t = owns (c : Thread nD τ) (st0_4 t) fullShare ((dat V c).after 4 t) from by
    unfold Dat.leavesExact; rw [live_4 t], after_4]
  rw [show (dat V c).leavesExact 5 t = owns (c : Thread nD τ) (st0_5 t) fullShare ((dat V c).after 5 t) from by
    unfold Dat.leavesExact; rw [live_5 t], after_5]
  rw [show (dat V c).leavesExact 6 t = owns (c : Thread nD τ) (st0_6 t) fullShare ((dat V c).after 6 t) from by
    unfold Dat.leavesExact; rw [live_6 t], after_6]
  rw [show (dat V c).leavesExact 7 t = owns (c : Thread nD τ) (st0_7 t) fullShare ((dat V c).after 7 t) from by
    unfold Dat.leavesExact; rw [live_7 t], after_7]
  rw [show (dat V c).Φ t.castSucc = (dat V c).Φ t.succ from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _  (ins V c t) ((dat V c).before 4 t d4) ((dat V c).before 5 t d5) ((dat V c).before 6 t d6) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound V c t) rfl .rfl fun _ => .rfl

theorem hin (c : Dev nD) : iprop(Pipeline.scopedRest spec0 c ∗ emp) ⊢ (dat V c).Φ 0 := by
  rw [show (dat V c).Φ 0 = Pipeline.scopedRest spec0 c from rfl]
  iintro ⟨H, -⟩; iexact H

theorem hout (c : Dev nD) : (dat V c).Φ (Fin.last cfg0.N) ⊢ iprop(Pipeline.scopedRest spec0 c ∗ emp) := by
  rw [show (dat V c).Φ (Fin.last cfg0.N) = Pipeline.scopedRest spec0 c from rfl]
  skip
  iintro H; isplitl [H]; · iexact H
  iempintro

end Cert.Kernel.Pro

end
-- ==== Proof.Kernel.FwdBody.lean ====
/- The body of the forward call at one grid point. -/
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole
public import Idealize.ShloMosaic.Lib.WholeRead

@[expose] public section

set_option maxRecDepth 16384

noncomputable section

namespace Cert.Kernel.Fwd

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight input blocks of one grid point. -/
structure In (F : FTy → Type) [FloatOps F] where
  x0 : Vec F S1536x2560 .bf16
  x1 : Vec F S1536x1024 .fp8e4m3
  x2 : Vec F S1536x128 .f32
  x3 : Vec F S1280x256 .i8
  x4 : Vec F S20x256 .f32
  x5 : Vec F S20x256 .f32
  x6 : Vec F S256x1024 .fp8e4m3
  x7 : Vec F S1x256 .f32

/-- The running maximum and running sum of exponentials, for the teacher and for the student. -/
structure St (F : FTy → Type) [FloatOps F] where
  mt : Vec F S1536x128 .f32
  lt : Vec F S1536x128 .f32
  ms : Vec F S1536x128 .f32
  ls : Vec F S1536x128 .f32

/-- The teacher's logits of the tile. -/
def In.zt (X : In F) : Vec F S1536x256 .f32 := k1_pay9 X.x3 X.x4 X.x5 X.x0
/-- The student's logits of the tile. -/
def In.zs (X : In F) : Vec F S1536x256 .f32 := k1_pay16 X.x1 X.x6 (Whole.col0 X.x2 inb_S1536x128_S1536x1_0_0) X.x7

/-- The state before the first tile. -/
def init : St F := ⟨k1_pay5, k1_pay7, k1_pay6, k1_pay8⟩

/-- The state after one more tile. -/
def In.step (X : In F) (s : St F) : St F where
  mt := k1_pay15 s.mt (k1_pay12 X.x3 X.x4 X.x5 X.x0)
  lt := k1_pay14 (k1_pay10 X.x3 X.x4 X.x5 X.x0) (k1_pay11 X.x3 X.x4 X.x5 X.x0) s.mt (k1_pay12 X.x3 X.x4 X.x5 X.x0) s.lt
  ms := k1_pay2 (k1_pay19 X.x1 X.x6 (Whole.col0 X.x2 inb_S1536x128_S1536x1_0_0) X.x7 s.ms)
  ls := k1_pay1 (k1_pay17 X.x1 X.x6 (Whole.col0 X.x2 inb_S1536x128_S1536x1_0_0) X.x7) (k1_pay18 X.x1 X.x6 (Whole.col0 X.x2 inb_S1536x128_S1536x1_0_0) X.x7) s.ms (k1_pay19 X.x1 X.x6 (Whole.col0 X.x2 inb_S1536x128_S1536x1_0_0) X.x7 s.ms) s.ls

/-- The first point's condition, as the body computes it. -/
abbrev first (i : grid1.Coords) : Prop := Scalar.cmpi .ne (Scalar.extui (Scalar.cmpi .eq (BitVec.ofNat 32 (i 0).val) 0#32) : BitVec 32) 0#32 = 1#1
/-- The last point's condition, as the body computes it. -/
abbrev last (i : grid1.Coords) : Prop := k1_cond2 i = 1#1

/-- The state the body leaves: the first point starts from the initial state. -/
def In.next (X : In F) (i : grid1.Coords) (s : St F) : St F := X.step (if first i then init else s)

variable (c : Dev nD) (i : grid1.Coords)
  (arg1 : Memref sig .tc .vmem S1536x2560 .bf16) (harg1 : arg1.IsWhole)
  (arg2 : Memref sig .tc .vmem S1536x1024 .fp8e4m3) (harg2 : arg2.IsWhole)
  (arg3 : Memref sig .tc .vmem S1536x128 .f32) (harg3 : arg3.IsWhole)
  (arg4 : Memref sig .tc .vmem S1280x256 .i8) (harg4 : arg4.IsWhole)
  (arg5 : Memref sig .tc .vmem S20x256 .f32) (harg5 : arg5.IsWhole)
  (arg6 : Memref sig .tc .vmem S20x256 .f32) (harg6 : arg6.IsWhole)
  (arg7 : Memref sig .tc .vmem S256x1024 .fp8e4m3) (harg7 : arg7.IsWhole)
  (arg8 : Memref sig .tc .vmem S1x256 .f32) (harg8 : arg8.IsWhole)
  (arg9 : Memref sig .tc .vmem S1536x256 .f32) (harg9 : arg9.IsWhole)
  (arg10 : Memref sig .tc .vmem S1536x256 .f32) (harg10 : arg10.IsWhole)
  (arg11 : Memref sig .tc .vmem S1536x128 .f32) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)
  (arg15 : Memref sig .tc .vmem S1536x128 .f32) (harg15 : arg15.IsWhole)
  (arg16 : Memref sig .tc .vmem S1536x128 .f32) (harg16 : arg16.IsWhole)

set_option maxHeartbeats 4000000 in
/-- One run of the body: from the input blocks and a state to the logits of the tile, the next state and, at the last point, the two log-sum-exps. -/
theorem run (X : In F) (s : St F) (y8 y9 : Vec F S1536x256 .f32) (y10 y11 : Vec F S1536x128 .f32) (h : ¬ (first i ∧ last i)) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare s.mt ∗ owns (c : Thread nD τ) arg14 fullShare s.lt ∗ owns (c : Thread nD τ) arg15 fullShare s.ms ∗ owns (c : Thread nD τ) arg16 fullShare s.ls
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.zt ∗ owns (c : Thread nD τ) arg10 fullShare X.zs ∗ owns (c : Thread nD τ) arg11 fullShare (if last i then k1_pay3 (X.next i s).mt (X.next i s).lt else y10) ∗ owns (c : Thread nD τ) arg12 fullShare (if last i then k1_pay4 (X.next i s).ms (X.next i s).ls else y11) ∗ owns (c : Thread nD τ) arg13 fullShare (X.next i s).mt ∗ owns (c : Thread nD τ) arg14 fullShare (X.next i s).lt ∗ owns (c : Thread nD τ) arg15 fullShare (X.next i s).ms ∗ owns (c : Thread nD τ) arg16 fullShare (X.next i s).ls) -∗ K ⟨⟩))
    ⊢ wp frame (wpE (defs₀ (F := F)) Variants.none c none) E (cc1_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_forward_eq_skeleton]; unfold cc1_forward_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  by_cases hc0 : first i <;> by_cases hc1 : last i
  · exact absurd ⟨hc0, hc1⟩ h
  all_goals
    first
      | have e0 : ∀ {α : Type} (a b : α), (if first i then a else b) = a := fun _ _ => if_pos hc0
      | have e0 : ∀ {α : Type} (a b : α), (if first i then a else b) = b := fun _ _ => if_neg hc0
    first
      | have e1 : ∀ {α : Type} (a b : α), (if last i then a else b) = a := fun _ _ => if_pos hc1
      | have e1 : ∀ {α : Type} (a b : α), (if last i then a else b) = b := fun _ _ => if_neg hc1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; rotate_left; iexact H8; ipureintro; sl_unfold_run_names; simp only [Whole.read_writes, Whole.readCov, Whole.readAt, Memref.IsWhole.read_unread, Whole.readAt_col0, e0, e1, In.next, In.step, In.zt, In.zs, init, not_false_eq_true]
    isplitl [H9]
    · iexists _; isplitr; rotate_left; iexact H9; ipureintro; sl_unfold_run_names; simp only [Whole.read_writes, Whole.readCov, Whole.readAt, Memref.IsWhole.read_unread, Whole.readAt_col0, e0, e1, In.next, In.step, In.zt, In.zs, init, not_false_eq_true]
    isplitl [H10]
    · iexists _; isplitr; rotate_left; iexact H10; ipureintro; sl_unfold_run_names; simp only [Whole.read_writes, Whole.readCov, Whole.readAt, Memref.IsWhole.read_unread, Whole.readAt_col0, e0, e1, In.next, In.step, In.zt, In.zs, init, not_false_eq_true]
    isplitl [H11]
    · iexists _; isplitr; rotate_left; iexact H11; ipureintro; sl_unfold_run_names; simp only [Whole.read_writes, Whole.readCov, Whole.readAt, Memref.IsWhole.read_unread, Whole.readAt_col0, e0, e1, In.next, In.step, In.zt, In.zs, init, not_false_eq_true]
    isplitl [H12]
    · iexists _; isplitr; rotate_left; iexact H12; ipureintro; sl_unfold_run_names; simp only [Whole.read_writes, Whole.readCov, Whole.readAt, Memref.IsWhole.read_unread, Whole.readAt_col0, e0, e1, In.next, In.step, In.zt, In.zs, init, not_false_eq_true]
    isplitl [H13]
    · iexists _; isplitr; rotate_left; iexact H13; ipureintro; sl_unfold_run_names; simp only [Whole.read_writes, Whole.readCov, Whole.readAt, Memref.IsWhole.read_unread, Whole.readAt_col0, e0, e1, In.next, In.step, In.zt, In.zs, init, not_false_eq_true]
    isplitl [H14]
    · iexists _; isplitr; rotate_left; iexact H14; ipureintro; sl_unfold_run_names; simp only [Whole.read_writes, Whole.readCov, Whole.readAt, Memref.IsWhole.read_unread, Whole.readAt_col0, e0, e1, In.next, In.step, In.zt, In.zs, init, not_false_eq_true]
    · iexists _; isplitr; rotate_left; iexact H15; ipureintro; sl_unfold_run_names; simp only [Whole.read_writes, Whole.readCov, Whole.readAt, Memref.IsWhole.read_unread, Whole.readAt_col0, e0, e1, In.next, In.step, In.zt, In.zs, init, not_false_eq_true]

end Cert.Kernel.Fwd

end
-- ==== Proof.Kernel.FwdRegion.lean ====
/-
  The region of the forward pass (logits, running log-sum-exps): what the windows' buffers hold at each grid point, the body's run at a
  point of the grid as the pipeline calls it, and the pipeline's proof data, over any contents `V` of the
  buffers at the region's entry.
 -/
module

public import proofs.«01_k».proof.Proof.Kernel.FwdBody

@[expose] public section

set_option maxRecDepth 16384

noncomputable section

namespace Cert.Kernel.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks of the body at point `t`. -/
def ins (c : Dev nD) (t : Fin cfg1.N) : In F := ⟨iblk V c 0 t, iblk V c 1 t, iblk V c 2 t, iblk V c 3 t, iblk V c 4 t, iblk V c 5 t, iblk V c 6 t, iblk V c 7 t⟩

/-- The state after `n` points. -/
def st (c : Dev nD) : ℕ → St F
  | 0 => init
  | n + 1 => if h : n < cfg1.N then (ins V c ⟨n, h⟩).next (grid1.coords ⟨n, h⟩) (st c n) else st c n

theorem st_succ (c : Dev nD) (t : Fin cfg1.N) : st V c (t.val + 1) = (ins V c t).next (grid1.coords t) (st V c t.val) := by
  rw [st, dif_pos t.isLt]

theorem first_iff : ∀ t : Fin cfg1.N, first (grid1.coords t) ↔ t.val % 125 = 0 := fun t => by
  have ht : t.val < 125 := Nat.lt_of_lt_of_eq t.isLt N_1
  have e0 : (grid1.coords t 0).val = t.val / 1 % 125 := Pipeline.Grid.coords_val t 0 (by decide) rfl
  simp only [first, e0]
  word_cmp

theorem last_iff : ∀ t : Fin cfg1.N, last (grid1.coords t) ↔ t.val % 125 = 124 := fun t => by
  have ht : t.val < 125 := Nat.lt_of_lt_of_eq t.isLt N_1
  have e0 : (grid1.coords t 0).val = t.val / 1 % 125 := Pipeline.Grid.coords_val t 0 (by decide) rfl
  simp only [last, k1_cond2, e0]
  word_cmp

theorem not_both (t : Fin cfg1.N) : ¬ (first (grid1.coords t) ∧ last (grid1.coords t)) := by
  rw [first_iff, last_iff]; omega

/-- The scratch buffers at a state, beside the other scoped buffers. -/
def held (c : Dev nD) (s : St F) : sProp 𝕄 :=
  iprop((owns (c : Thread nD τ) (Memref.whole cc1_scratch0) fullShare s.mt ∗ owns (c : Thread nD τ) (Memref.whole cc1_scratch1) fullShare s.lt ∗ owns (c : Thread nD τ) (Memref.whole cc1_scratch2) fullShare s.ms ∗ owns (c : Thread nD τ) (Memref.whole cc1_scratch3) fullShare s.ls)
    ∗ Pipeline.scopedRestBut (Ix := Unit) (Name := ℕ) (U := UR sig nD τ) (Lvl := ℕ) (Val := Elt F) spec1 c [cc1_scratch0, cc1_scratch1, cc1_scratch2, cc1_scratch3])

/-- The invariant before point `n`: before the first the scratch buffers hold anything, then the state. -/
def inv (c : Dev nD) : ℕ → sProp 𝕄
  | 0 => Pipeline.scopedRest spec1 c
  | n + 1 => held c (st V c (n + 1))

theorem scoped_eq (c : Dev nD) : (Pipeline.scopedRest spec1 c : sProp 𝕄)
    = iprop(((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d))
      ∗ Pipeline.scopedRestBut (Ix := Unit) (Name := ℕ) (U := UR sig nD τ) (Lvl := ℕ) (Val := Elt F) spec1 c [cc1_scratch0, cc1_scratch1, cc1_scratch2, cc1_scratch3]) := by
  rw [scopedRest1_split]; simp only [owns_whole]; try rfl

/-- Before any point the scratch buffers hold some state from which the point's next state is the named one. -/
theorem inv_open (c : Dev nD) (t : Fin cfg1.N) : inv V c t.val ⊢ iprop(∃ s : St F, ⌜(ins V c t).next (grid1.coords t) s = st V c (t.val + 1)⌝ ∗ held c s) := by
  obtain ⟨n, hn⟩ := t
  cases n with
  | zero =>
    show Pipeline.scopedRest spec1 c ⊢ _
    rw [scoped_eq]
    iintro ⟨⟨⟨%d0, H0⟩, ⟨%d1, H1⟩, ⟨%d2, H2⟩, ⟨%d3, H3⟩⟩, Hb⟩
    iexists (⟨d0, d1, d2, d3⟩ : St F)
    isplitr
    · ipureintro
      have h0 : first (grid1.coords ⟨0, hn⟩) := (first_iff ⟨0, hn⟩).mpr rfl
      rw [st_succ V c ⟨0, hn⟩]
      simp only [In.next, if_pos h0]
    unfold held
    isplitr [Hb]
    · isplitl [H0]; · iexact H0
      isplitl [H1]; · iexact H1
      isplitl [H2]; · iexact H2
      iexact H3
    iexact Hb
  | succ n =>
    show held c (st V c (n + 1)) ⊢ _
    iintro H
    iexists (st V c (n + 1))
    isplitr
    · ipureintro; exact (st_succ V c ⟨n + 1, hn⟩).symm
    iexact H

theorem inv_close (c : Dev nD) (n : ℕ) : inv V c n ⊢ (Pipeline.scopedRest spec1 c : sProp 𝕄) := by
  cases n with
  | zero => exact .rfl
  | succ n =>
    rw [scoped_eq]
    show held c (st V c (n + 1)) ⊢ _
    unfold held
    iintro ⟨⟨H0, H1, H2, H3⟩, Hb⟩
    isplitr [Hb]
    · isplitl [H0]; · iexists _; iexact H0
      isplitl [H1]; · iexists _; iexact H1
      isplitl [H2]; · iexists _; iexact H2
      iexists _; iexact H3
    iexact Hb

/-- The proof data: the arrays as the region finds them; after the body each input's buffer at its block, each output's
    at what the body wrote. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (ins V c t).zt
    | ⟨9, _⟩ => (ins V c t).zs
    | ⟨10, _⟩ => k1_pay3 (st V c (t.val + 1)).mt (st V c (t.val + 1)).lt
    | ⟨11, _⟩ => k1_pay4 (st V c (t.val + 1)).ms (st V c (t.val + 1)).ls
  Φ t := inv V c t.val
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = (ins V c t).zt := by dsimp only [dat]
theorem after_9 (c : Dev nD) (t : Fin cfg1.N) : (dat V c).after 9 t = (ins V c t).zs := by dsimp only [dat]
theorem after_10 (c : Dev nD) (t : Fin cfg1.N) : (dat V c).after 10 t = k1_pay3 (st V c (t.val + 1)).mt (st V c (t.val + 1)).lt := by dsimp only [dat]
theorem after_11 (c : Dev nD) (t : Fin cfg1.N) : (dat V c).after 11 t = k1_pay4 (st V c (t.val + 1)).ms (st V c (t.val + 1)).ls := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
theorem live_4 : ∀ t : Fin cfg1.N, cfg1.idle 4 (grid1.coords t) = false := fun _ => rfl
theorem live_5 : ∀ t : Fin cfg1.N, cfg1.idle 5 (grid1.coords t) = false := fun _ => rfl
theorem live_6 : ∀ t : Fin cfg1.N, cfg1.idle 6 (grid1.coords t) = false := fun _ => rfl
theorem live_7 : ∀ t : Fin cfg1.N, cfg1.idle 7 (grid1.coords t) = false := fun _ => rfl
theorem live_8 : ∀ t : Fin cfg1.N, cfg1.idle 8 (grid1.coords t) = false := fun _ => rfl
theorem live_9 : ∀ t : Fin cfg1.N, cfg1.idle 9 (grid1.coords t) = false := fun _ => rfl
theorem live_10 : ∀ t : Fin cfg1.N, last (grid1.coords t) → cfg1.idle 10 (grid1.coords t) = false := by decide +kernel
theorem idle_10 : ∀ t : Fin cfg1.N, ¬ last (grid1.coords t) → cfg1.idle 10 (grid1.coords t) = true := by decide +kernel
theorem noFlush_10 (t : Fin cfg1.N) (h : ¬ last (grid1.coords t)) : (cfg1.win 10).flush t = false := by
  rw [last_iff] at h; exact Bool.eq_false_iff.mpr fun e => h ((flush1_10 t).mp e)
/-- What the body leaves in window 10's buffer: the result at the last point of a run over the columns, else what it found. -/
theorem leaves_10 (c : Dev nD) (t : Fin cfg1.N) (d) :
    owns (c : Thread nD τ) (st1_10 t) fullShare (if last (grid1.coords t) then k1_pay3 (st V c (t.val + 1)).mt (st V c (t.val + 1)).lt else (dat V c).before 10 t d) ⊢ (dat V c).leavesExact 10 t := by
  by_cases h : last (grid1.coords t)
  · unfold Dat.leavesExact; rw [live_10 t h, after_10, if_pos h]
    try exact .rfl
  · rw [Dat.leavesExact_idle (dat V c) 10 t (idle_10 t h) (noFlush_10 t h), if_neg h]
    iintro H; iexists d; iexact H
theorem live_11 : ∀ t : Fin cfg1.N, last (grid1.coords t) → cfg1.idle 11 (grid1.coords t) = false := by decide +kernel
theorem idle_11 : ∀ t : Fin cfg1.N, ¬ last (grid1.coords t) → cfg1.idle 11 (grid1.coords t) = true := by decide +kernel
theorem noFlush_11 (t : Fin cfg1.N) (h : ¬ last (grid1.coords t)) : (cfg1.win 11).flush t = false := by
  rw [last_iff] at h; exact Bool.eq_false_iff.mpr fun e => h ((flush1_11 t).mp e)
/-- What the body leaves in window 11's buffer: the result at the last point of a run over the columns, else what it found. -/
theorem leaves_11 (c : Dev nD) (t : Fin cfg1.N) (d) :
    owns (c : Thread nD τ) (st1_11 t) fullShare (if last (grid1.coords t) then k1_pay4 (st V c (t.val + 1)).ms (st V c (t.val + 1)).ls else (dat V c).before 11 t d) ⊢ (dat V c).leavesExact 11 t := by
  by_cases h : last (grid1.coords t)
  · unfold Dat.leavesExact; rw [live_11 t h, after_11, if_pos h]
    try exact .rfl
  · rw [Dat.leavesExact_idle (dat V c) 11 t (idle_11 t h) (noFlush_11 t h), if_neg h]
    iintro H; iexists d; iexact H

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 4000000 in
/-- The body's run at a point. -/
theorem sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).owesAt () t.succ = (dat V c).owesAt () t.castSucc from rfl]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  rw [show (dat V c).leavesExact 4 t = owns (c : Thread nD τ) (st1_4 t) fullShare ((dat V c).after 4 t) from by
    unfold Dat.leavesExact; rw [live_4 t], after_4]
  rw [show (dat V c).leavesExact 5 t = owns (c : Thread nD τ) (st1_5 t) fullShare ((dat V c).after 5 t) from by
    unfold Dat.leavesExact; rw [live_5 t], after_5]
  rw [show (dat V c).leavesExact 6 t = owns (c : Thread nD τ) (st1_6 t) fullShare ((dat V c).after 6 t) from by
    unfold Dat.leavesExact; rw [live_6 t], after_6]
  rw [show (dat V c).leavesExact 7 t = owns (c : Thread nD τ) (st1_7 t) fullShare ((dat V c).after 7 t) from by
    unfold Dat.leavesExact; rw [live_7 t], after_7]
  rw [show (dat V c).leavesExact 8 t = owns (c : Thread nD τ) (st1_8 t) fullShare ((dat V c).after 8 t) from by
    unfold Dat.leavesExact; rw [live_8 t], after_8]
  rw [show (dat V c).leavesExact 9 t = owns (c : Thread nD τ) (st1_9 t) fullShare ((dat V c).after 9 t) from by
    unfold Dat.leavesExact; rw [live_9 t], after_9]
  rw [show (dat V c).Φ t.castSucc = inv V c t.val from rfl, show (dat V c).Φ t.succ = held c (st V c (t.val + 1)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HI' := (inv_open V c t) $$ HI
  icases HI' with ⟨%s, %hs, HI⟩
  unfold held
  icases HI with ⟨⟨S0, S1, S2, S3⟩, Hb⟩
  iapply (run c (grid1.coords t) _ _ _ _ _ _ _ _ _ _ _ _ _ _ _ _ _ _ _ _ _ _ _ _ _ _ _ _ _ _ _ _  (ins V c t) s ((dat V c).before 8 t d8) ((dat V c).before 9 t d9) ((dat V c).before 10 t d10) ((dat V c).before 11 t d11) (not_both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  rw [hs]
  iintro ⟨H0, H1, H2, H3, H4, H5, H6, H7, H8, H9, H10, H11, S0, S1, S2, S3⟩
  isplitl [S0 S1 S2 S3 Hb]
  · isplitr [Hb]
    · isplitl [S0]; · iexact S0
      isplitl [S1]; · iexact S1
      isplitl [S2]; · iexact S2
      iexact S3
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_10 V c t d10); iexact H10
  iapply (leaves_11 V c t d11); iexact H11

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) Variants.none () Set.univ := fun t => by
  rw [bigSep_W1, bigSep_W1, defs₀_row]
  exact triple_restated (sound V c t) rfl .rfl fun _ => .rfl

theorem hin (c : Dev nD) : iprop(Pipeline.scopedRest spec1 c ∗ emp) ⊢ (dat V c).Φ 0 := by
  rw [show (dat V c).Φ 0 = Pipeline.scopedRest spec1 c from rfl]
  iintro ⟨H, -⟩; iexact H

theorem hout (c : Dev nD) : (dat V c).Φ (Fin.last cfg1.N) ⊢ iprop(Pipeline.scopedRest spec1 c ∗ emp) := by
  rw [show (dat V c).Φ (Fin.last cfg1.N) = inv V c cfg1.N from rfl]
  refine (inv_close V c _).trans ?_
  iintro H; isplitl [H]; · iexact H
  iempintro

end Cert.Kernel.Fwd

end
-- ==== Proof.Kernel.BwdBody.lean ====
/- The body of the backward call at one grid point. -/
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole

@[expose] public section

set_option maxRecDepth 16384

noncomputable section

namespace Cert.Kernel.Bwd

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten input blocks of one grid point. -/
structure In (F : FTy → Type) [FloatOps F] where
  x0 : Vec F S256x256 .f32
  x1 : Vec F S256x256 .f32
  x2 : Vec F S256x128 .f32
  x3 : Vec F S256x128 .f32
  x4 : Vec F S256x1024 .fp8e4m3
  x5 : Vec F S256x1 .f32
  x6 : Vec F S256x1 .f32
  x7 : Vec F S256x1024 .bf16
  x8 : Vec F S256x128 .f32
  x9 : Vec F S1x1024 .f32

/-- The running sums: the gradient block and the lanes of the divergence. -/
structure St (F : FTy → Type) [FloatOps F] where
  acc : Vec F S256x1024 .f32
  lacc : Vec F S256x128 .f32

/-- The state before the first tile of a block of rows. -/
def init : St F := ⟨k2_pay9, k2_pay10⟩

/-- The state after one more tile. -/
def In.step (X : In F) (s : St F) : St F where
  acc := k2_pay1 (k2_pay11 X.x4 X.x5) s.acc (k2_pay16 X.x0 (Whole.col0 X.x2 inb_S256x128_S256x1_0_0) X.x1 (Whole.col0 X.x3 inb_S256x128_S256x1_0_0))
  lacc := k2_pay15 X.x0 (Whole.col0 X.x2 inb_S256x128_S256x1_0_0) X.x1 (Whole.col0 X.x3 inb_S256x128_S256x1_0_0) s.lacc

/-- The gradient with respect to the normalised rows, from the last state. -/
def In.dy (X : In F) (s : St F) : Vec F S256x1024 .f32 := k2_pay5 X.x6 s.acc
/-- The gradient with respect to the rows, from the last state. -/
def In.dx (X : In F) (s : St F) : Vec F S256x1024 .bf16 :=
  k2_pay2 (k2_pay7 X.x6 s.acc (Whole.col0 X.x8 inb_S256x128_S256x1_0_0) X.x7 X.x9) (k2_pay8 (Whole.col0 X.x8 inb_S256x128_S256x1_0_0))
/-- The loss, repeated over 128 lanes, from the last state. -/
def In.loss (X : In F) (s : St F) : Vec F S256x128 .f32 := k2_pay4 X.x6 s.lacc

/-- The condition of a row block's first tile, as the body computes it. -/
abbrev first (i : grid2.Coords) : Prop := Scalar.cmpi .ne (Scalar.extui (Scalar.cmpi .eq (BitVec.ofNat 32 (i 1).val) 0#32) : BitVec 32) 0#32 = 1#1
/-- The condition of a row block's last tile, as the body computes it. -/
abbrev last (i : grid2.Coords) : Prop := k2_cond2 i = 1#1

/-- The state the body leaves: the first tile of a row block starts from the initial state. -/
def In.next (X : In F) (i : grid2.Coords) (s : St F) : St F := X.step (if first i then init else s)

variable (c : Dev nD) (i : grid2.Coords)
  (arg2 : Memref sig .tc .vmem S256x256 .f32) (harg2 : arg2.IsWhole)
  (arg3 : Memref sig .tc .vmem S256x256 .f32) (harg3 : arg3.IsWhole)
  (arg4 : Memref sig .tc .vmem S256x128 .f32) (harg4 : arg4.IsWhole)
  (arg5 : Memref sig .tc .vmem S256x128 .f32) (harg5 : arg5.IsWhole)
  (arg6 : Memref sig .tc .vmem S256x1024 .fp8e4m3) (harg6 : arg6.IsWhole)
  (arg7 : Memref sig .tc .vmem S256x1 .f32) (harg7 : arg7.IsWhole)
  (arg8 : Memref sig .tc .vmem S256x1 .f32) (harg8 : arg8.IsWhole)
  (arg9 : Memref sig .tc .vmem S256x1024 .bf16) (harg9 : arg9.IsWhole)
  (arg10 : Memref sig .tc .vmem S256x128 .f32) (harg10 : arg10.IsWhole)
  (arg11 : Memref sig .tc .vmem S1x1024 .f32) (harg11 : arg11.IsWhole)
  (arg12 : Memref sig .tc .vmem S256x1024 .f32) (harg12 : arg12.IsWhole)
  (arg13 : Memref sig .tc .vmem S256x1024 .bf16) (harg13 : arg13.IsWhole)
  (arg14 : Memref sig .tc .vmem S256x128 .f32) (harg14 : arg14.IsWhole)
  (arg15 : Memref sig .tc .vmem S256x1024 .f32) (harg15 : arg15.IsWhole)
  (arg16 : Memref sig .tc .vmem S256x128 .f32) (harg16 : arg16.IsWhole)

set_option maxHeartbeats 4000000 in
/-- One run of the body: from the input blocks and a state to the next state and, at the last tile of a row block, the three results. -/
theorem run (X : In F) (s : St F) (y10 : Vec F S256x1024 .f32) (y11 : Vec F S256x1024 .bf16) (y12 : Vec F S256x128 .f32)
    (h : ¬ (first i ∧ last i)) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare y10 ∗ owns (c : Thread nD τ) arg13 fullShare y11 ∗ owns (c : Thread nD τ) arg14 fullShare y12 ∗ owns (c : Thread nD τ) arg15 fullShare s.acc ∗ owns (c : Thread nD τ) arg16 fullShare s.lacc
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare (if last i then X.dy (X.next i s) else y10) ∗ owns (c : Thread nD τ) arg13 fullShare (if last i then X.dx (X.next i s) else y11) ∗ owns (c : Thread nD τ) arg14 fullShare (if last i then X.loss (X.next i s) else y12) ∗ owns (c : Thread nD τ) arg15 fullShare (X.next i s).acc ∗ owns (c : Thread nD τ) arg16 fullShare (X.next i s).lacc) -∗ K ⟨⟩))
    ⊢ wp frame (wpE (defs₀ (F := F)) Variants.none c none) E (cc2_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2_backward_eq_skeleton]; unfold cc2_backward_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  by_cases hc0 : first i <;> by_cases hc1 : last i
  · exact absurd ⟨hc0, hc1⟩ h
  all_goals
    first
      | have e0 : ∀ {α : Type} (a b : α), (if first i then a else b) = a := fun _ _ => if_pos hc0
      | have e0 : ∀ {α : Type} (a b : α), (if first i then a else b) = b := fun _ _ => if_neg hc0
    first
      | have e1 : ∀ {α : Type} (a b : α), (if last i then a else b) = a := fun _ _ => if_pos hc1
      | have e1 : ∀ {α : Type} (a b : α), (if last i then a else b) = b := fun _ _ => if_neg hc1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; rotate_left; iexact H10; ipureintro; sl_unfold_run_names; simp only [Whole.read_writes, Whole.readCov, Whole.readAt, Memref.IsWhole.read_unread, Whole.readAt_col0, e0, e1, In.next, In.step, In.dy, In.dx, In.loss, init, not_false_eq_true]
    isplitl [H11]
    · iexists _; isplitr; rotate_left; iexact H11; ipureintro; sl_unfold_run_names; simp only [Whole.read_writes, Whole.readCov, Whole.readAt, Memref.IsWhole.read_unread, Whole.readAt_col0, e0, e1, In.next, In.step, In.dy, In.dx, In.loss, init, not_false_eq_true]
    isplitl [H12]
    · iexists _; isplitr; rotate_left; iexact H12; ipureintro; sl_unfold_run_names; simp only [Whole.read_writes, Whole.readCov, Whole.readAt, Memref.IsWhole.read_unread, Whole.readAt_col0, e0, e1, In.next, In.step, In.dy, In.dx, In.loss, init, not_false_eq_true]
    isplitl [H13]
    · iexists _; isplitr; rotate_left; iexact H13; ipureintro; sl_unfold_run_names; simp only [Whole.read_writes, Whole.readCov, Whole.readAt, Memref.IsWhole.read_unread, Whole.readAt_col0, e0, e1, In.next, In.step, In.dy, In.dx, In.loss, init, not_false_eq_true]
    · iexists _; isplitr; rotate_left; iexact H14; ipureintro; sl_unfold_run_names; simp only [Whole.read_writes, Whole.readCov, Whole.readAt, Memref.IsWhole.read_unread, Whole.readAt_col0, e0, e1, In.next, In.step, In.dy, In.dx, In.loss, init, not_false_eq_true]

end Cert.Kernel.Bwd

end
-- ==== Proof.Kernel.BwdRegion.lean ====
/-
  The region of the backward pass (loss, gradients): what the windows' buffers hold at each grid point, the body's run at a
  point of the grid as the pipeline calls it, and the pipeline's proof data, over any contents `V` of the
  buffers at the region's entry.
 -/
module

public import proofs.«01_k».proof.Proof.Kernel.BwdBody

@[expose] public section

set_option maxRecDepth 16384

noncomputable section

namespace Cert.Kernel.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks of the body at point `t`. -/
def ins (c : Dev nD) (t : Fin cfg2.N) : In F := ⟨iblk V c 0 t, iblk V c 1 t, iblk V c 2 t, iblk V c 3 t, iblk V c 4 t, iblk V c 5 t, iblk V c 6 t, iblk V c 7 t, iblk V c 8 t, iblk V c 9 t⟩

/-- The state after `n` points. -/
def st (c : Dev nD) : ℕ → St F
  | 0 => init
  | n + 1 => if h : n < cfg2.N then (ins V c ⟨n, h⟩).next (grid2.coords ⟨n, h⟩) (st c n) else st c n

theorem st_succ (c : Dev nD) (t : Fin cfg2.N) : st V c (t.val + 1) = (ins V c t).next (grid2.coords t) (st V c t.val) := by
  rw [st, dif_pos t.isLt]

theorem first_iff : ∀ t : Fin cfg2.N, first (grid2.coords t) ↔ t.val % 125 = 0 := fun t => by
  have ht : t.val < 750 := Nat.lt_of_lt_of_eq t.isLt N_2
  have e0 : (grid2.coords t 1).val = t.val / 1 % 125 := Pipeline.Grid.coords_val t 1 (by decide) rfl
  simp only [first, e0]
  word_cmp

theorem last_iff : ∀ t : Fin cfg2.N, last (grid2.coords t) ↔ t.val % 125 = 124 := fun t => by
  have ht : t.val < 750 := Nat.lt_of_lt_of_eq t.isLt N_2
  have e0 : (grid2.coords t 1).val = t.val / 1 % 125 := Pipeline.Grid.coords_val t 1 (by decide) rfl
  simp only [last, k2_cond2, e0]
  word_cmp

theorem not_both (t : Fin cfg2.N) : ¬ (first (grid2.coords t) ∧ last (grid2.coords t)) := by
  rw [first_iff, last_iff]; omega

/-- The scratch buffers at a state, beside the other scoped buffers. -/
def held (c : Dev nD) (s : St F) : sProp 𝕄 :=
  iprop((owns (c : Thread nD τ) (Memref.whole cc2_scratch0) fullShare s.acc ∗ owns (c : Thread nD τ) (Memref.whole cc2_scratch1) fullShare s.lacc)
    ∗ Pipeline.scopedRestBut (Ix := Unit) (Name := ℕ) (U := UR sig nD τ) (Lvl := ℕ) (Val := Elt F) spec2 c [cc2_scratch0, cc2_scratch1])

/-- The invariant before point `n`: before the first the scratch buffers hold anything, then the state. -/
def inv (c : Dev nD) : ℕ → sProp 𝕄
  | 0 => Pipeline.scopedRest spec2 c
  | n + 1 => held c (st V c (n + 1))

theorem scoped_eq (c : Dev nD) : (Pipeline.scopedRest spec2 c : sProp 𝕄)
    = iprop(((∃ d, owns (c : Thread nD τ) (Memref.whole cc2_scratch0) fullShare d) ∗ (∃ d, owns (c : Thread nD τ) (Memref.whole cc2_scratch1) fullShare d))
      ∗ Pipeline.scopedRestBut (Ix := Unit) (Name := ℕ) (U := UR sig nD τ) (Lvl := ℕ) (Val := Elt F) spec2 c [cc2_scratch0, cc2_scratch1]) := by
  rw [scopedRest2_split]; simp only [owns_whole]; try rfl

/-- Before any point the scratch buffers hold some state from which the point's next state is the named one. -/
theorem inv_open (c : Dev nD) (t : Fin cfg2.N) : inv V c t.val ⊢ iprop(∃ s : St F, ⌜(ins V c t).next (grid2.coords t) s = st V c (t.val + 1)⌝ ∗ held c s) := by
  obtain ⟨n, hn⟩ := t
  cases n with
  | zero =>
    show Pipeline.scopedRest spec2 c ⊢ _
    rw [scoped_eq]
    iintro ⟨⟨⟨%d0, H0⟩, ⟨%d1, H1⟩⟩, Hb⟩
    iexists (⟨d0, d1⟩ : St F)
    isplitr
    · ipureintro
      have h0 : first (grid2.coords ⟨0, hn⟩) := (first_iff ⟨0, hn⟩).mpr rfl
      rw [st_succ V c ⟨0, hn⟩]
      simp only [In.next, if_pos h0]
    unfold held
    isplitr [Hb]
    · isplitl [H0]; · iexact H0
      iexact H1
    iexact Hb
  | succ n =>
    show held c (st V c (n + 1)) ⊢ _
    iintro H
    iexists (st V c (n + 1))
    isplitr
    · ipureintro; exact (st_succ V c ⟨n + 1, hn⟩).symm
    iexact H

theorem inv_close (c : Dev nD) (n : ℕ) : inv V c n ⊢ (Pipeline.scopedRest spec2 c : sProp 𝕄) := by
  cases n with
  | zero => exact .rfl
  | succ n =>
    rw [scoped_eq]
    show held c (st V c (n + 1)) ⊢ _
    unfold held
    iintro ⟨⟨H0, H1⟩, Hb⟩
    isplitr [Hb]
    · isplitl [H0]; · iexists _; iexact H0
      iexists _; iexact H1
    iexact Hb

/-- The proof data: the arrays as the region finds them; after the body each input's buffer at its block, each output's
    at what the body wrote. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (ins V c t).dy (st V c (t.val + 1))
    | ⟨11, _⟩ => (ins V c t).dx (st V c (t.val + 1))
    | ⟨12, _⟩ => (ins V c t).loss (st V c (t.val + 1))
  Φ t := inv V c t.val
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = (ins V c t).dy (st V c (t.val + 1)) := by dsimp only [dat]
theorem after_11 (c : Dev nD) (t : Fin cfg2.N) : (dat V c).after 11 t = (ins V c t).dx (st V c (t.val + 1)) := by dsimp only [dat]
theorem after_12 (c : Dev nD) (t : Fin cfg2.N) : (dat V c).after 12 t = (ins V c t).loss (st V c (t.val + 1)) := by dsimp only [dat]
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
theorem live_3 : ∀ t : Fin cfg2.N, cfg2.idle 3 (grid2.coords t) = false := fun _ => rfl
theorem live_4 : ∀ t : Fin cfg2.N, cfg2.idle 4 (grid2.coords t) = false := fun _ => rfl
theorem live_5 : ∀ t : Fin cfg2.N, cfg2.idle 5 (grid2.coords t) = false := fun _ => rfl
theorem live_6 : ∀ t : Fin cfg2.N, cfg2.idle 6 (grid2.coords t) = false := fun _ => rfl
theorem live_7 : ∀ t : Fin cfg2.N, cfg2.idle 7 (grid2.coords t) = false := fun _ => rfl
theorem live_8 : ∀ t : Fin cfg2.N, cfg2.idle 8 (grid2.coords t) = false := fun _ => rfl
theorem live_9 : ∀ t : Fin cfg2.N, cfg2.idle 9 (grid2.coords t) = false := fun _ => rfl
theorem live_10 : ∀ t : Fin cfg2.N, last (grid2.coords t) → cfg2.idle 10 (grid2.coords t) = false := by decide +kernel
theorem idle_10 : ∀ t : Fin cfg2.N, ¬ last (grid2.coords t) → cfg2.idle 10 (grid2.coords t) = true := by decide +kernel
theorem noFlush_10 (t : Fin cfg2.N) (h : ¬ last (grid2.coords t)) : (cfg2.win 10).flush t = false := by
  rw [last_iff] at h; exact Bool.eq_false_iff.mpr fun e => h ((flush2_10 t).mp e)
/-- What the body leaves in window 10's buffer: the result at the last point of a run over the columns, else what it found. -/
theorem leaves_10 (c : Dev nD) (t : Fin cfg2.N) (d) :
    owns (c : Thread nD τ) (st2_10 t) fullShare (if last (grid2.coords t) then (ins V c t).dy (st V c (t.val + 1)) else (dat V c).before 10 t d) ⊢ (dat V c).leavesExact 10 t := by
  by_cases h : last (grid2.coords t)
  · unfold Dat.leavesExact; rw [live_10 t h, after_10, if_pos h]
    try exact .rfl
  · rw [Dat.leavesExact_idle (dat V c) 10 t (idle_10 t h) (noFlush_10 t h), if_neg h]
    iintro H; iexists d; iexact H
theorem live_11 : ∀ t : Fin cfg2.N, last (grid2.coords t) → cfg2.idle 11 (grid2.coords t) = false := by decide +kernel
theorem idle_11 : ∀ t : Fin cfg2.N, ¬ last (grid2.coords t) → cfg2.idle 11 (grid2.coords t) = true := by decide +kernel
theorem noFlush_11 (t : Fin cfg2.N) (h : ¬ last (grid2.coords t)) : (cfg2.win 11).flush t = false := by
  rw [last_iff] at h; exact Bool.eq_false_iff.mpr fun e => h ((flush2_11 t).mp e)
/-- What the body leaves in window 11's buffer: the result at the last point of a run over the columns, else what it found. -/
theorem leaves_11 (c : Dev nD) (t : Fin cfg2.N) (d) :
    owns (c : Thread nD τ) (st2_11 t) fullShare (if last (grid2.coords t) then (ins V c t).dx (st V c (t.val + 1)) else (dat V c).before 11 t d) ⊢ (dat V c).leavesExact 11 t := by
  by_cases h : last (grid2.coords t)
  · unfold Dat.leavesExact; rw [live_11 t h, after_11, if_pos h]
    try exact .rfl
  · rw [Dat.leavesExact_idle (dat V c) 11 t (idle_11 t h) (noFlush_11 t h), if_neg h]
    iintro H; iexists d; iexact H
theorem live_12 : ∀ t : Fin cfg2.N, last (grid2.coords t) → cfg2.idle 12 (grid2.coords t) = false := by decide +kernel
theorem idle_12 : ∀ t : Fin cfg2.N, ¬ last (grid2.coords t) → cfg2.idle 12 (grid2.coords t) = true := by decide +kernel
theorem noFlush_12 (t : Fin cfg2.N) (h : ¬ last (grid2.coords t)) : (cfg2.win 12).flush t = false := by
  rw [last_iff] at h; exact Bool.eq_false_iff.mpr fun e => h ((flush2_12 t).mp e)
/-- What the body leaves in window 12's buffer: the result at the last point of a run over the columns, else what it found. -/
theorem leaves_12 (c : Dev nD) (t : Fin cfg2.N) (d) :
    owns (c : Thread nD τ) (st2_12 t) fullShare (if last (grid2.coords t) then (ins V c t).loss (st V c (t.val + 1)) else (dat V c).before 12 t d) ⊢ (dat V c).leavesExact 12 t := by
  by_cases h : last (grid2.coords t)
  · unfold Dat.leavesExact; rw [live_12 t h, after_12, if_pos h]
    try exact .rfl
  · rw [Dat.leavesExact_idle (dat V c) 12 t (idle_12 t h) (noFlush_12 t h), if_neg h]
    iintro H; iexists d; iexact H

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4000000 in
/-- The body's run at a point. -/
theorem sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9]
  rw [show (dat V c).owesAt () t.succ = (dat V c).owesAt () t.castSucc from rfl]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  rw [show (dat V c).leavesExact 3 t = owns (c : Thread nD τ) (st2_3 t) fullShare ((dat V c).after 3 t) from by
    unfold Dat.leavesExact; rw [live_3 t], after_3]
  rw [show (dat V c).leavesExact 4 t = owns (c : Thread nD τ) (st2_4 t) fullShare ((dat V c).after 4 t) from by
    unfold Dat.leavesExact; rw [live_4 t], after_4]
  rw [show (dat V c).leavesExact 5 t = owns (c : Thread nD τ) (st2_5 t) fullShare ((dat V c).after 5 t) from by
    unfold Dat.leavesExact; rw [live_5 t], after_5]
  rw [show (dat V c).leavesExact 6 t = owns (c : Thread nD τ) (st2_6 t) fullShare ((dat V c).after 6 t) from by
    unfold Dat.leavesExact; rw [live_6 t], after_6]
  rw [show (dat V c).leavesExact 7 t = owns (c : Thread nD τ) (st2_7 t) fullShare ((dat V c).after 7 t) from by
    unfold Dat.leavesExact; rw [live_7 t], after_7]
  rw [show (dat V c).leavesExact 8 t = owns (c : Thread nD τ) (st2_8 t) fullShare ((dat V c).after 8 t) from by
    unfold Dat.leavesExact; rw [live_8 t], after_8]
  rw [show (dat V c).leavesExact 9 t = owns (c : Thread nD τ) (st2_9 t) fullShare ((dat V c).after 9 t) from by
    unfold Dat.leavesExact; rw [live_9 t], after_9]
  rw [show (dat V c).Φ t.castSucc = inv V c t.val from rfl, show (dat V c).Φ t.succ = held c (st V c (t.val + 1)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HI' := (inv_open V c t) $$ HI
  icases HI' with ⟨%s, %hs, HI⟩
  unfold held
  icases HI with ⟨⟨S0, S1⟩, Hb⟩
  iapply (run c (grid2.coords t) _ _ _ _ _ _ _ _ _ _ _ _ _ _ _ _ _ _ _ _ _ _ _ _ _ _ _ _ _ _  (ins V c t) s ((dat V c).before 10 t d10) ((dat V c).before 11 t d11) ((dat V c).before 12 t d12) (not_both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  rw [hs]
  iintro ⟨H0, H1, H2, H3, H4, H5, H6, H7, H8, H9, H10, H11, H12, S0, S1⟩
  isplitl [S0 S1 Hb]
  · isplitr [Hb]
    · isplitl [S0]; · iexact S0
      iexact S1
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_10 V c t d10); iexact H10
  isplitl [H11]; · iapply (leaves_11 V c t d11); iexact H11
  iapply (leaves_12 V c t d12); iexact H12

theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound V c t) rfl .rfl fun _ => .rfl

theorem hin (c : Dev nD) : iprop(Pipeline.scopedRest spec2 c ∗ emp) ⊢ (dat V c).Φ 0 := by
  rw [show (dat V c).Φ 0 = Pipeline.scopedRest spec2 c from rfl]
  iintro ⟨H, -⟩; iexact H

theorem hout (c : Dev nD) : (dat V c).Φ (Fin.last cfg2.N) ⊢ iprop(Pipeline.scopedRest spec2 c ∗ emp) := by
  rw [show (dat V c).Φ (Fin.last cfg2.N) = inv V c cfg2.N from rfl]
  refine (inv_close V c _).trans ?_
  iintro H; isplitl [H]; · iexact H
  iempintro

end Cert.Kernel.Bwd

end
-- ==== Proof.Kernel.Run.lean ====
/-
  The run of the whole program: four stretches of host operations and the three kernel regions between them. The
  buffers' contents after each item are named `W0` … `W7`; every run ends, at `W7` on every buffer, the arguments as
  they were, every semaphore counter at zero.
 -/
module

public import proofs.«01_k».proof.Proof.Kernel.ProRegion
public import proofs.«01_k».proof.Proof.Kernel.FwdRegion
public import proofs.«01_k».proof.Proof.Kernel.BwdRegion
public import proofs.«01_k».proof.Proof.Gen.Kernel.Regions
public import Idealize.ShloMosaic.Lib.Pipeline.RegionArraysS

@[expose] public section

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
def W0 (c : Dev nD) : Valuation τ sig (Elt F) := fun b => m (c, b)
/-- after the first host stretch, -/
def W1 (c : Dev nD) : Valuation τ sig (Elt F) := StableHlo.after hostOps0 (W0 m c)
/-- after the first region, -/
def W2 (c : Dev nD) : Valuation τ sig (Elt F) := Pipeline.afterRegion (Pro.dat (W1 m) c) (W1 m c)
/-- after the second host stretch, -/
def W3 (c : Dev nD) : Valuation τ sig (Elt F) := StableHlo.after hostOps1 (W2 m c)
/-- after the second region, -/
def W4 (c : Dev nD) : Valuation τ sig (Elt F) := Pipeline.afterRegion (Fwd.dat (W3 m) c) (W3 m c)
/-- after the third host stretch, -/
def W5 (c : Dev nD) : Valuation τ sig (Elt F) := StableHlo.after hostOps2 (W4 m c)
/-- after the third region, -/
def W6 (c : Dev nD) : Valuation τ sig (Elt F) := Pipeline.afterRegion (Bwd.dat (W5 m) c) (W5 m c)
/-- and at the end. -/
def W7 (c : Dev nD) : Valuation τ sig (Elt F) := StableHlo.after hostOps3 (W6 m c)

/-- The three pipelines' proof data. -/
def pdats : (p : Fin 3) → (c : Dev nD) → Dat τ (Elt F) Unit ℕ (UR sig nD τ) ℕ (cfgs p) c
  | 0 => Pro.dat (W1 m)
  | 1 => Fwd.dat (W3 m)
  | 2 => Bwd.dat (W5 m)

/-- The staging waits' index has a level at every cell of the core. -/
def L (g : GSem nD τ sig) : Finset Unit := if g.1.2 = .tc then {()} else ∅
def lv (_ : GSem nD τ sig) (_ : Unit) : ℕ := 0

/-- What rides beside the buffers: the core owes nothing. -/
def E (c : Dev nD) : sProp 𝕄 :=
  iprop((∃ Wd, owes (c : Thread nD τ) (0 : CellTallies nD τ sig Unit) Wd) ∗ emp ∗ emp)

theorem cut (p : Fin 3) : Pipeline.LevelCut (pcfgs (F := F)) adm () L lv p (fun _ : Dev nD => (0 : CellTallies nD τ sig Unit)) (fun _ => 0) :=
  ⟨fun c w s => by unfold L; rw [if_pos rfl]; exact Finset.mem_singleton_self _, fun _ _ _ => le_refl _,
    fun c g i h => absurd h (lt_irrefl 0)⟩

/-- The host stretches as segments. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) W E

set_option backward.isDefEq.respectTransparency.types false

/-- Region 0 as a segment, -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (Pro.body_obligation (W1 m) c).loose)
    (fun _ _ => rfl) (fun _ => rfl) (fun c => (Pro.dat (W1 m) c).share_full fun _ => rfl)
    (Pro.hin (W1 m)) (Pro.hout (W1 m)) (fun _ => 0) (cut 0) (fun _ => iprop(emp)) (W1 m) (fun c w => Pro.A_eq (W1 m) c w)

theorem sub0 : Pipeline.arrRefs (τ := τ) (pcfgs (F := F) 0).spec ⊆ Pipeline.ucRefs τ sig :=
  Pipeline.arrRefs_sub_ucRefs (τ := τ) spec0 (by decide)

/-- entered from the buffers and left with them. -/
theorem pre0 (c : Dev nD) : iprop(StableHlo.held (c : Thread nD τ) (Pipeline.ucRefs τ sig) (W1 m c) ∗ E c) ⊢ (reg0 m).pre c := by
  unfold E reg0
  exact RegionSeg.ofHeldIn_pre (pcs := pcfgs (F := F)) (a := adm) (pdats := pdats m) (ι := ()) (defs₀ := defs₀) (𝒱₀ := Variants.none) (L := L) (lv := lv) (p := 0) (D := fun _ => 0)
    (X := fun _ => iprop(emp)) (Y := fun _ => iprop(emp)) (R := fun _ => iprop(emp)) (W := W1 m) sub0 c

theorem post0 (c : Dev nD) : (reg0 m).post c ⊢ iprop(StableHlo.held (c : Thread nD τ) (Pipeline.ucRefs τ sig) (W2 m c) ∗ E c) := by
  unfold E reg0
  exact RegionSeg.ofHeldIn_post sub0 c

/-- Region 1 as a segment, -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (Fwd.body_obligation (W3 m) c).loose)
    (fun _ _ => rfl) (fun _ => rfl) (fun c => (Fwd.dat (W3 m) c).share_full fun _ => rfl)
    (Fwd.hin (W3 m)) (Fwd.hout (W3 m)) (fun _ => 0) (cut 1) (fun _ => iprop(emp)) (W3 m) (fun c w => Fwd.A_eq (W3 m) c w)

theorem sub1 : Pipeline.arrRefs (τ := τ) (pcfgs (F := F) 1).spec ⊆ Pipeline.ucRefs τ sig :=
  Pipeline.arrRefs_sub_ucRefs (τ := τ) spec1 (by decide)

/-- entered from the buffers and left with them. -/
theorem pre1 (c : Dev nD) : iprop(StableHlo.held (c : Thread nD τ) (Pipeline.ucRefs τ sig) (W3 m c) ∗ E c) ⊢ (reg1 m).pre c := by
  unfold E reg1
  exact RegionSeg.ofHeldIn_pre (pcs := pcfgs (F := F)) (a := adm) (pdats := pdats m) (ι := ()) (defs₀ := defs₀) (𝒱₀ := Variants.none) (L := L) (lv := lv) (p := 1) (D := fun _ => 0)
    (X := fun _ => iprop(emp)) (Y := fun _ => iprop(emp)) (R := fun _ => iprop(emp)) (W := W3 m) sub1 c

theorem post1 (c : Dev nD) : (reg1 m).post c ⊢ iprop(StableHlo.held (c : Thread nD τ) (Pipeline.ucRefs τ sig) (W4 m c) ∗ E c) := by
  unfold E reg1
  exact RegionSeg.ofHeldIn_post sub1 c

/-- Region 2 as a segment, -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => iprop(emp)) (fun _ => iprop(emp)) launch2.toP rfl (fun c => (Bwd.body_obligation (W5 m) c).loose)
    (fun _ _ => rfl) (fun _ => rfl) (fun c => (Bwd.dat (W5 m) c).share_full fun _ => rfl)
    (Bwd.hin (W5 m)) (Bwd.hout (W5 m)) (fun _ => 0) (cut 2) (fun _ => iprop(emp)) (W5 m) (fun c w => Bwd.A_eq (W5 m) c w)

theorem sub2 : Pipeline.arrRefs (τ := τ) (pcfgs (F := F) 2).spec ⊆ Pipeline.ucRefs τ sig :=
  Pipeline.arrRefs_sub_ucRefs (τ := τ) spec2 (by decide)

/-- entered from the buffers and left with them. -/
theorem pre2 (c : Dev nD) : iprop(StableHlo.held (c : Thread nD τ) (Pipeline.ucRefs τ sig) (W5 m c) ∗ E c) ⊢ (reg2 m).pre c := by
  unfold E reg2
  exact RegionSeg.ofHeldIn_pre (pcs := pcfgs (F := F)) (a := adm) (pdats := pdats m) (ι := ()) (defs₀ := defs₀) (𝒱₀ := Variants.none) (L := L) (lv := lv) (p := 2) (D := fun _ => 0)
    (X := fun _ => iprop(emp)) (Y := fun _ => iprop(emp)) (R := fun _ => iprop(emp)) (W := W5 m) sub2 c

theorem post2 (c : Dev nD) : (reg2 m).post c ⊢ iprop(StableHlo.held (c : Thread nD τ) (Pipeline.ucRefs τ sig) (W6 m c) ∗ E c) := by
  unfold E reg2
  exact RegionSeg.ofHeldIn_post sub2 c

/-- The program as a list of segments. -/
def segs : List (Seg (pcfgs (F := F)) adm (pdats m) () defs₀ Variants.none L lv) :=
  [.host (host hostOps0 hostOps0_sub hostOps0_fresh (W0 m)), .region (reg0 m), .host (host hostOps1 hostOps1_sub hostOps1_fresh (W2 m)), .region (reg1 m),
    .host (host hostOps2 hostOps2_sub hostOps2_fresh (W4 m)), .region (reg2 m), .host (host hostOps3 hostOps3_sub hostOps3_fresh (W6 m))]

/-- THE RUN: from any memory with zero counters every weakly fair execution ends, with every buffer at `W7` and every
    counter at zero. -/
theorem run : θ_run defs (onTc (τ := τ) (main (F := F))) ⟨m, fun _ => 0, ρ⟩
    (fun r => (∀ c : Dev nD, ∀ b ∈ Pipeline.ucRefs τ sig, r.2.mem (c, b) = W7 m c b) ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W7 m c))
    (hch := fun c => ⟨.rfl, pre0 m c, post0 m c, pre1 m c, post1 m c, pre2 m c, post2 m c, sep_mono .rfl (by unfold E; iintro ⟨H, -⟩; iexact H)⟩)
    (hinit := ?_) (QY := fun c s => ∀ b ∈ Pipeline.ucRefs τ sig, s.mem (c, b) = W7 m c b)
    (hfin := fun c s' => ?_) (hQ := fun _ h hz => ⟨h, funext fun g => hz g (.inr (regions_no_unscoped g.2))⟩)
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (W0 m c) ∗ E c) : sProp 𝕄) := fun c => by
      rw [← Pipeline.unscopedBufs_held (Ix := Unit) (Name := ℕ) (U := UR sig nD τ) (Lvl := ℕ) c (W0 m c)]
      unfold E
      iintro ⟨H, -, Ho, -⟩
      isplitl [H]; · iexact H
      isplitl [Ho]; · iexists _; iexact Ho
      isplitr <;> iempintro
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E c) : sProp 𝕄) :=
      bigSep_mono fun c _ => hone c
    iintro ⟨H, -⟩
    imodintro
    iapply hall; iexact H
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro; exact h
    · iexact HSI

theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- A buffer nothing writes ends as launched. -/
theorem kept (c : Dev nD) (r : Ref sig .tc) (h0 : r ∉ hostOps0_W) (h1 : r ∉ hostOps1_W) (h2 : r ∉ hostOps2_W) (h3 : r ∉ hostOps3_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) : W7 m c r = m ((c : Thread nD τ).loc r) :=
  (StableHlo.after_of_writes_sub hostOps3 _ hostOps3_writes h3).trans <|
  (Pipeline.afterRegion_keeps (Bwd.dat (W5 m) c) _ launch2.win.arr_inj (Bwd.A_eq (W5 m) c) r g2).trans <|
  (StableHlo.after_of_writes_sub hostOps2 _ hostOps2_writes h2).trans <|
  (Pipeline.afterRegion_keeps (Fwd.dat (W3 m) c) _ launch1.win.arr_inj (Fwd.A_eq (W3 m) c) r g1).trans <|
  (StableHlo.after_of_writes_sub hostOps1 _ hostOps1_writes h1).trans <|
  (Pipeline.afterRegion_keeps (Pro.dat (W1 m) c) _ launch0.win.arr_inj (Pro.A_eq (W1 m) c) r g0).trans <|
  StableHlo.after_of_writes_sub hostOps0 _ hostOps0_writes h0

theorem kept_arg0 (c : Dev nD) : W7 m c main_arg0 = m ((c : Thread nD τ).loc main_arg0) :=
  kept m c main_arg0 (by decide) (by decide) (by decide) (by decide) (by decide) (by decide) (by decide)
theorem mem_arg0 : Proc.devRef .tc main_arg0 ∈ Pipeline.ucRefs τ sig := mem_uc main_arg0 (by decide)

theorem kept_arg1 (c : Dev nD) : W7 m c main_arg1 = m ((c : Thread nD τ).loc main_arg1) :=
  kept m c main_arg1 (by decide) (by decide) (by decide) (by decide) (by decide) (by decide) (by decide)
theorem mem_arg1 : Proc.devRef .tc main_arg1 ∈ Pipeline.ucRefs τ sig := mem_uc main_arg1 (by decide)

theorem kept_arg2 (c : Dev nD) : W7 m c main_arg2 = m ((c : Thread nD τ).loc main_arg2) :=
  kept m c main_arg2 (by decide) (by decide) (by decide) (by decide) (by decide) (by decide) (by decide)
theorem mem_arg2 : Proc.devRef .tc main_arg2 ∈ Pipeline.ucRefs τ sig := mem_uc main_arg2 (by decide)

theorem kept_arg3 (c : Dev nD) : W7 m c main_arg3 = m ((c : Thread nD τ).loc main_arg3) :=
  kept m c main_arg3 (by decide) (by decide) (by decide) (by decide) (by decide) (by decide) (by decide)
theorem mem_arg3 : Proc.devRef .tc main_arg3 ∈ Pipeline.ucRefs τ sig := mem_uc main_arg3 (by decide)

theorem kept_arg4 (c : Dev nD) : W7 m c main_arg4 = m ((c : Thread nD τ).loc main_arg4) :=
  kept m c main_arg4 (by decide) (by decide) (by decide) (by decide) (by decide) (by decide) (by decide)
theorem mem_arg4 : Proc.devRef .tc main_arg4 ∈ Pipeline.ucRefs τ sig := mem_uc main_arg4 (by decide)

theorem kept_arg5 (c : Dev nD) : W7 m c main_arg5 = m ((c : Thread nD τ).loc main_arg5) :=
  kept m c main_arg5 (by decide) (by decide) (by decide) (by decide) (by decide) (by decide) (by decide)
theorem mem_arg5 : Proc.devRef .tc main_arg5 ∈ Pipeline.ucRefs τ sig := mem_uc main_arg5 (by decide)

theorem kept_arg6 (c : Dev nD) : W7 m c main_arg6 = m ((c : Thread nD τ).loc main_arg6) :=
  kept m c main_arg6 (by decide) (by decide) (by decide) (by decide) (by decide) (by decide) (by decide)
theorem mem_arg6 : Proc.devRef .tc main_arg6 ∈ Pipeline.ucRefs τ sig := mem_uc main_arg6 (by decide)

theorem kept_arg7 (c : Dev nD) : W7 m c main_arg7 = m ((c : Thread nD τ).loc main_arg7) :=
  kept m c main_arg7 (by decide) (by decide) (by decide) (by decide) (by decide) (by decide) (by decide)
theorem mem_arg7 : Proc.devRef .tc main_arg7 ∈ Pipeline.ucRefs τ sig := mem_uc main_arg7 (by decide)

theorem kept_arg8 (c : Dev nD) : W7 m c main_arg8 = m ((c : Thread nD τ).loc main_arg8) :=
  kept m c main_arg8 (by decide) (by decide) (by decide) (by decide) (by decide) (by decide) (by decide)
theorem mem_arg8 : Proc.devRef .tc main_arg8 ∈ Pipeline.ucRefs τ sig := mem_uc main_arg8 (by decide)

theorem kept_arg9 (c : Dev nD) : W7 m c main_arg9 = m ((c : Thread nD τ).loc main_arg9) :=
  kept m c main_arg9 (by decide) (by decide) (by decide) (by decide) (by decide) (by decide) (by decide)
theorem mem_arg9 : Proc.devRef .tc main_arg9 ∈ Pipeline.ucRefs τ sig := mem_uc main_arg9 (by decide)

theorem kept_arg10 (c : Dev nD) : W7 m c main_arg10 = m ((c : Thread nD τ).loc main_arg10) :=
  kept m c main_arg10 (by decide) (by decide) (by decide) (by decide) (by decide) (by decide) (by decide)
theorem mem_arg10 : Proc.devRef .tc main_arg10 ∈ Pipeline.ucRefs τ sig := mem_uc main_arg10 (by decide)

theorem kept_arg11 (c : Dev nD) : W7 m c main_arg11 = m ((c : Thread nD τ).loc main_arg11) :=
  kept m c main_arg11 (by decide) (by decide) (by decide) (by decide) (by decide) (by decide) (by decide)
theorem mem_arg11 : Proc.devRef .tc main_arg11 ∈ Pipeline.ucRefs τ sig := mem_uc main_arg11 (by decide)

/-- THE FRAME: the arguments end as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(h.1 c _ mem_arg0).trans (kept_arg0 m c), (h.1 c _ mem_arg1).trans (kept_arg1 m c), (h.1 c _ mem_arg2).trans (kept_arg2 m c), (h.1 c _ mem_arg3).trans (kept_arg3 m c), (h.1 c _ mem_arg4).trans (kept_arg4 m c), (h.1 c _ mem_arg5).trans (kept_arg5 m c), (h.1 c _ mem_arg6).trans (kept_arg6 m c), (h.1 c _ mem_arg7).trans (kept_arg7 m c), (h.1 c _ mem_arg8).trans (kept_arg8 m c), (h.1 c _ mem_arg9).trans (kept_arg9 m c), (h.1 c _ mem_arg10).trans (kept_arg10 m c), (h.1 c _ mem_arg11).trans (kept_arg11 m c)⟩, h.2⟩) (run m ρ)

end Cert.Kernel.Run

end
-- ==== Proof.KernelIdeal.ProBody.lean ====
/- The body of the prologue call at one grid point. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole

@[expose] public section

set_option maxRecDepth 16384

noncomputable section

namespace Cert.KernelIdeal.Pro

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four input blocks of one grid point. -/
structure In (F : FTy → Type) [FloatOps F] where
  x0 : Vec F S128x1024 .bf16
  x1 : Vec F S128x2560 .bf16
  x2 : Vec F S1x1024 .f32
  x3 : Vec F S1x2560 .f32

/-- The teacher's normalised rows. -/
def In.ht (X : In F) : Vec F S128x2560 .bf16 := k0_pay5 X.x1 X.x3
/-- The quantised student rows. -/
def In.codes (X : In F) : Vec F S128x1024 .fp8e4m3 := k0_pay2 (k0_pay8 X.x0 X.x2) (k0_pay9 X.x0 X.x2)
/-- The quantiser's scales, repeated over 128 lanes. -/
def In.scale (X : In F) : Vec F S128x128 .f32 := k0_pay3 (k0_pay9 X.x0 X.x2)
/-- The reciprocal root mean squares, repeated over 128 lanes. -/
def In.r (X : In F) : Vec F S128x128 .f32 := k0_pay4 (k0_pay7 X.x0)

variable (c : Dev nD) (i : grid0.Coords)
  (arg1 : Memref sig .tc .vmem S128x1024 .bf16) (harg1 : arg1.IsWhole)
  (arg2 : Memref sig .tc .vmem S128x2560 .bf16) (harg2 : arg2.IsWhole)
  (arg3 : Memref sig .tc .vmem S1x1024 .f32) (harg3 : arg3.IsWhole)
  (arg4 : Memref sig .tc .vmem S1x2560 .f32) (harg4 : arg4.IsWhole)
  (arg5 : Memref sig .tc .vmem S128x2560 .bf16) (harg5 : arg5.IsWhole)
  (arg6 : Memref sig .tc .vmem S128x1024 .fp8e4m3) (harg6 : arg6.IsWhole)
  (arg7 : Memref sig .tc .vmem S128x128 .f32) (harg7 : arg7.IsWhole)
  (arg8 : Memref sig .tc .vmem S128x128 .f32) (harg8 : arg8.IsWhole)

set_option maxHeartbeats 4000000 in
/-- One run of the body: from the input blocks to the four results. -/
theorem run (X : In F) (y4 : Vec F S128x2560 .bf16) (y5 : Vec F S128x1024 .fp8e4m3) (y6 y7 : Vec F S128x128 .f32)
    (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare y4 ∗ owns (c : Thread nD τ) arg6 fullShare y5 ∗ owns (c : Thread nD τ) arg7 fullShare y6 ∗ owns (c : Thread nD τ) arg8 fullShare y7
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.ht ∗ owns (c : Thread nD τ) arg6 fullShare X.codes ∗ owns (c : Thread nD τ) arg7 fullShare X.scale ∗ owns (c : Thread nD τ) arg8 fullShare X.r) -∗ K ⟨⟩))
    ⊢ wp frame (wpE (defs₀ (F := F)) Variants.none c none) E (cc0_prologue i arg1 harg1 arg2 harg2 arg3 harg3 arg4 harg4 arg5 harg5 arg6 harg6 arg7 harg7 arg8 harg8) K := by
  simp only [cc0_prologue_eq_skeleton]; unfold cc0_prologue_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  all_goals
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; rotate_left; iexact H4; ipureintro; sl_unfold_run_names; simp only [Whole.read_writes, Whole.readCov, Whole.readAt, Memref.IsWhole.read_unread, In.ht, In.codes, In.scale, In.r]
    isplitl [H5]
    · iexists _; isplitr; rotate_left; iexact H5; ipureintro; sl_unfold_run_names; simp only [Whole.read_writes, Whole.readCov, Whole.readAt, Memref.IsWhole.read_unread, In.ht, In.codes, In.scale, In.r]
    isplitl [H6]
    · iexists _; isplitr; rotate_left; iexact H6; ipureintro; sl_unfold_run_names; simp only [Whole.read_writes, Whole.readCov, Whole.readAt, Memref.IsWhole.read_unread, In.ht, In.codes, In.scale, In.r]
    · iexists _; isplitr; rotate_left; iexact H7; ipureintro; sl_unfold_run_names; simp only [Whole.read_writes, Whole.readCov, Whole.readAt, Memref.IsWhole.read_unread, In.ht, In.codes, In.scale, In.r]

end Cert.KernelIdeal.Pro

end
-- ==== Proof.KernelIdeal.ProRegion.lean ====
/-
  The region of the first pass (normalise, quantise): what the windows' buffers hold at each grid point, the body's run at a
  point of the grid as the pipeline calls it, and the pipeline's proof data, over any contents `V` of the
  buffers at the region's entry.
 -/
module

public import proofs.«01_k».proof.Proof.KernelIdeal.ProBody

@[expose] public section

set_option maxRecDepth 16384

noncomputable section

namespace Cert.KernelIdeal.Pro

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input blocks of the body at point `t`. -/
def ins (c : Dev nD) (t : Fin cfg0.N) : In F := ⟨iblk V c 0 t, iblk V c 1 t, iblk V c 2 t, iblk V c 3 t⟩

/-- The proof data: the arrays as the region finds them; after the body each input's buffer at its block, each output's
    at what the body wrote. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (ins V c t).ht
    | ⟨5, _⟩ => (ins V c t).codes
    | ⟨6, _⟩ => (ins V c t).scale
    | ⟨7, _⟩ => (ins V c t).r
  Φ t := Pipeline.scopedRest spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (ins V c t).ht := by dsimp only [dat]
theorem after_5 (c : Dev nD) (t : Fin cfg0.N) : (dat V c).after 5 t = (ins V c t).codes := by dsimp only [dat]
theorem after_6 (c : Dev nD) (t : Fin cfg0.N) : (dat V c).after 6 t = (ins V c t).scale := by dsimp only [dat]
theorem after_7 (c : Dev nD) (t : Fin cfg0.N) : (dat V c).after 7 t = (ins V c t).r := by dsimp only [dat]
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body's run at a point. -/
theorem sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).leavesExact 3 t = owns (c : Thread nD τ) (st0_3 t) fullShare ((dat V c).after 3 t) from by
    unfold Dat.leavesExact; rw [live_3 t], after_3]
  rw [show (dat V c).leavesExact 4 t = owns (c : Thread nD τ) (st0_4 t) fullShare ((dat V c).after 4 t) from by
    unfold Dat.leavesExact; rw [live_4 t], after_4]
  rw [show (dat V c).leavesExact 5 t = owns (c : Thread nD τ) (st0_5 t) fullShare ((dat V c).after 5 t) from by
    unfold Dat.leavesExact; rw [live_5 t], after_5]
  rw [show (dat V c).leavesExact 6 t = owns (c : Thread nD τ) (st0_6 t) fullShare ((dat V c).after 6 t) from by
    unfold Dat.leavesExact; rw [live_6 t], after_6]
  rw [show (dat V c).leavesExact 7 t = owns (c : Thread nD τ) (st0_7 t) fullShare ((dat V c).after 7 t) from by
    unfold Dat.leavesExact; rw [live_7 t], after_7]
  rw [show (dat V c).Φ t.castSucc = (dat V c).Φ t.succ from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _  (ins V c t) ((dat V c).before 4 t d4) ((dat V c).before 5 t d5) ((dat V c).before 6 t d6) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound V c t) rfl .rfl fun _ => .rfl

theorem hin (c : Dev nD) : iprop(Pipeline.scopedRest spec0 c ∗ emp) ⊢ (dat V c).Φ 0 := by
  rw [show (dat V c).Φ 0 = Pipeline.scopedRest spec0 c from rfl]
  iintro ⟨H, -⟩; iexact H

theorem hout (c : Dev nD) : (dat V c).Φ (Fin.last cfg0.N) ⊢ iprop(Pipeline.scopedRest spec0 c ∗ emp) := by
  rw [show (dat V c).Φ (Fin.last cfg0.N) = Pipeline.scopedRest spec0 c from rfl]
  skip
  iintro H; isplitl [H]; · iexact H
  iempintro

end Cert.KernelIdeal.Pro

end
-- ==== Proof.KernelIdeal.FwdBody.lean ====
/- The body of the forward call at one grid point. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole
public import Idealize.ShloMosaic.Lib.WholeRead

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The eight input blocks of one grid point. -/
structure In (F : FTy → Type) [FloatOps F] where
  x0 : Vec F S1536x2560 .bf16
  x1 : Vec F S1536x1024 .fp8e4m3
  x2 : Vec F S1536x128 .f32
  x3 : Vec F S1280x256 .i8
  x4 : Vec F S20x256 .f32
  x5 : Vec F S20x256 .f32
  x6 : Vec F S256x1024 .fp8e4m3
  x7 : Vec F S1x256 .f32

/-- The running maximum and running sum of exponentials, for the teacher and for the student. -/
structure St (F : FTy → Type) [FloatOps F] where
  mt : Vec F S1536x128 .f32
  lt : Vec F S1536x128 .f32
  ms : Vec F S1536x128 .f32
  ls : Vec F S1536x128 .f32

/-- The teacher's logits of the tile. -/
def In.zt (X : In F) : Vec F S1536x256 .f32 := k1_pay9 X.x3 X.x4 X.x5 X.x0
/-- The student's logits of the tile. -/
def In.zs (X : In F) : Vec F S1536x256 .f32 := k1_pay16 X.x1 X.x6 (Whole.col0 X.x2 inb_S1536x128_S1536x1_0_0) X.x7

/-- The state before the first tile. -/
def init : St F := ⟨k1_pay5, k1_pay7, k1_pay6, k1_pay8⟩

/-- The state after one more tile. -/
def In.step (X : In F) (s : St F) : St F where
  mt := k1_pay15 s.mt (k1_pay12 X.x3 X.x4 X.x5 X.x0)
  lt := k1_pay14 (k1_pay10 X.x3 X.x4 X.x5 X.x0) (k1_pay11 X.x3 X.x4 X.x5 X.x0) s.mt (k1_pay12 X.x3 X.x4 X.x5 X.x0) s.lt
  ms := k1_pay2 (k1_pay19 X.x1 X.x6 (Whole.col0 X.x2 inb_S1536x128_S1536x1_0_0) X.x7 s.ms)
  ls := k1_pay1 (k1_pay17 X.x1 X.x6 (Whole.col0 X.x2 inb_S1536x128_S1536x1_0_0) X.x7) (k1_pay18 X.x1 X.x6 (Whole.col0 X.x2 inb_S1536x128_S1536x1_0_0) X.x7) s.ms (k1_pay19 X.x1 X.x6 (Whole.col0 X.x2 inb_S1536x128_S1536x1_0_0) X.x7 s.ms) s.ls

/-- The first point's condition, as the body computes it. -/
abbrev first (i : grid1.Coords) : Prop := Scalar.cmpi .ne (Scalar.extui (Scalar.cmpi .eq (BitVec.ofNat 32 (i 0).val) 0#32) : BitVec 32) 0#32 = 1#1
/-- The last point's condition, as the body computes it. -/
abbrev last (i : grid1.Coords) : Prop := k1_cond2 i = 1#1

/-- The state the body leaves: the first point starts from the initial state. -/
def In.next (X : In F) (i : grid1.Coords) (s : St F) : St F := X.step (if first i then init else s)

variable (c : Dev nD) (i : grid1.Coords)
  (arg1 : Memref sig .tc .vmem S1536x2560 .bf16) (harg1 : arg1.IsWhole)
  (arg2 : Memref sig .tc .vmem S1536x1024 .fp8e4m3) (harg2 : arg2.IsWhole)
  (arg3 : Memref sig .tc .vmem S1536x128 .f32) (harg3 : arg3.IsWhole)
  (arg4 : Memref sig .tc .vmem S1280x256 .i8) (harg4 : arg4.IsWhole)
  (arg5 : Memref sig .tc .vmem S20x256 .f32) (harg5 : arg5.IsWhole)
  (arg6 : Memref sig .tc .vmem S20x256 .f32) (harg6 : arg6.IsWhole)
  (arg7 : Memref sig .tc .vmem S256x1024 .fp8e4m3) (harg7 : arg7.IsWhole)
  (arg8 : Memref sig .tc .vmem S1x256 .f32) (harg8 : arg8.IsWhole)
  (arg9 : Memref sig .tc .vmem S1536x256 .f32) (harg9 : arg9.IsWhole)
  (arg10 : Memref sig .tc .vmem S1536x256 .f32) (harg10 : arg10.IsWhole)
  (arg11 : Memref sig .tc .vmem S1536x128 .f32) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)
  (arg15 : Memref sig .tc .vmem S1536x128 .f32) (harg15 : arg15.IsWhole)
  (arg16 : Memref sig .tc .vmem S1536x128 .f32) (harg16 : arg16.IsWhole)

set_option maxHeartbeats 4000000 in
/-- One run of the body: from the input blocks and a state to the logits of the tile, the next state and, at the last point, the two log-sum-exps. -/
theorem run (X : In F) (s : St F) (y8 y9 : Vec F S1536x256 .f32) (y10 y11 : Vec F S1536x128 .f32) (h : ¬ (first i ∧ last i)) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare s.mt ∗ owns (c : Thread nD τ) arg14 fullShare s.lt ∗ owns (c : Thread nD τ) arg15 fullShare s.ms ∗ owns (c : Thread nD τ) arg16 fullShare s.ls
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.zt ∗ owns (c : Thread nD τ) arg10 fullShare X.zs ∗ owns (c : Thread nD τ) arg11 fullShare (if last i then k1_pay3 (X.next i s).mt (X.next i s).lt else y10) ∗ owns (c : Thread nD τ) arg12 fullShare (if last i then k1_pay4 (X.next i s).ms (X.next i s).ls else y11) ∗ owns (c : Thread nD τ) arg13 fullShare (X.next i s).mt ∗ owns (c : Thread nD τ) arg14 fullShare (X.next i s).lt ∗ owns (c : Thread nD τ) arg15 fullShare (X.next i s).ms ∗ owns (c : Thread nD τ) arg16 fullShare (X.next i s).ls) -∗ K ⟨⟩))
    ⊢ wp frame (wpE (defs₀ (F := F)) Variants.none c none) E (cc1_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_forward_eq_skeleton]; unfold cc1_forward_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  by_cases hc0 : first i <;> by_cases hc1 : last i
  · exact absurd ⟨hc0, hc1⟩ h
  all_goals
    first
      | have e0 : ∀ {α : Type} (a b : α), (if first i then a else b) = a := fun _ _ => if_pos hc0
      | have e0 : ∀ {α : Type} (a b : α), (if first i then a else b) = b := fun _ _ => if_neg hc0
    first
      | have e1 : ∀ {α : Type} (a b : α), (if last i then a else b) = a := fun _ _ => if_pos hc1
      | have e1 : ∀ {α : Type} (a b : α), (if last i then a else b) = b := fun _ _ => if_neg hc1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; rotate_left; iexact H8; ipureintro; sl_unfold_run_names; simp only [Whole.read_writes, Whole.readCov, Whole.readAt, Memref.IsWhole.read_unread, Whole.readAt_col0, e0, e1, In.next, In.step, In.zt, In.zs, init, not_false_eq_true]
    isplitl [H9]
    · iexists _; isplitr; rotate_left; iexact H9; ipureintro; sl_unfold_run_names; simp only [Whole.read_writes, Whole.readCov, Whole.readAt, Memref.IsWhole.read_unread, Whole.readAt_col0, e0, e1, In.next, In.step, In.zt, In.zs, init, not_false_eq_true]
    isplitl [H10]
    · iexists _; isplitr; rotate_left; iexact H10; ipureintro; sl_unfold_run_names; simp only [Whole.read_writes, Whole.readCov, Whole.readAt, Memref.IsWhole.read_unread, Whole.readAt_col0, e0, e1, In.next, In.step, In.zt, In.zs, init, not_false_eq_true]
    isplitl [H11]
    · iexists _; isplitr; rotate_left; iexact H11; ipureintro; sl_unfold_run_names; simp only [Whole.read_writes, Whole.readCov, Whole.readAt, Memref.IsWhole.read_unread, Whole.readAt_col0, e0, e1, In.next, In.step, In.zt, In.zs, init, not_false_eq_true]
    isplitl [H12]
    · iexists _; isplitr; rotate_left; iexact H12; ipureintro; sl_unfold_run_names; simp only [Whole.read_writes, Whole.readCov, Whole.readAt, Memref.IsWhole.read_unread, Whole.readAt_col0, e0, e1, In.next, In.step, In.zt, In.zs, init, not_false_eq_true]
    isplitl [H13]
    · iexists _; isplitr; rotate_left; iexact H13; ipureintro; sl_unfold_run_names; simp only [Whole.read_writes, Whole.readCov, Whole.readAt, Memref.IsWhole.read_unread, Whole.readAt_col0, e0, e1, In.next, In.step, In.zt, In.zs, init, not_false_eq_true]
    isplitl [H14]
    · iexists _; isplitr; rotate_left; iexact H14; ipureintro; sl_unfold_run_names; simp only [Whole.read_writes, Whole.readCov, Whole.readAt, Memref.IsWhole.read_unread, Whole.readAt_col0, e0, e1, In.next, In.step, In.zt, In.zs, init, not_false_eq_true]
    · iexists _; isplitr; rotate_left; iexact H15; ipureintro; sl_unfold_run_names; simp only [Whole.read_writes, Whole.readCov, Whole.readAt, Memref.IsWhole.read_unread, Whole.readAt_col0, e0, e1, In.next, In.step, In.zt, In.zs, init, not_false_eq_true]

end Cert.KernelIdeal.Fwd

end
-- ==== Proof.KernelIdeal.FwdRegion.lean ====
/-
  The region of the forward pass (logits, running log-sum-exps): what the windows' buffers hold at each grid point, the body's run at a
  point of the grid as the pipeline calls it, and the pipeline's proof data, over any contents `V` of the
  buffers at the region's entry.
 -/
module

public import proofs.«01_k».proof.Proof.KernelIdeal.FwdBody

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks of the body at point `t`. -/
def ins (c : Dev nD) (t : Fin cfg1.N) : In F := ⟨iblk V c 0 t, iblk V c 1 t, iblk V c 2 t, iblk V c 3 t, iblk V c 4 t, iblk V c 5 t, iblk V c 6 t, iblk V c 7 t⟩

/-- The state after `n` points. -/
def st (c : Dev nD) : ℕ → St F
  | 0 => init
  | n + 1 => if h : n < cfg1.N then (ins V c ⟨n, h⟩).next (grid1.coords ⟨n, h⟩) (st c n) else st c n

theorem st_succ (c : Dev nD) (t : Fin cfg1.N) : st V c (t.val + 1) = (ins V c t).next (grid1.coords t) (st V c t.val) := by
  rw [st, dif_pos t.isLt]

theorem first_iff : ∀ t : Fin cfg1.N, first (grid1.coords t) ↔ t.val % 125 = 0 := fun t => by
  have ht : t.val < 125 := Nat.lt_of_lt_of_eq t.isLt N_1
  have e0 : (grid1.coords t 0).val = t.val / 1 % 125 := Pipeline.Grid.coords_val t 0 (by decide) rfl
  simp only [first, e0]
  word_cmp

theorem last_iff : ∀ t : Fin cfg1.N, last (grid1.coords t) ↔ t.val % 125 = 124 := fun t => by
  have ht : t.val < 125 := Nat.lt_of_lt_of_eq t.isLt N_1
  have e0 : (grid1.coords t 0).val = t.val / 1 % 125 := Pipeline.Grid.coords_val t 0 (by decide) rfl
  simp only [last, k1_cond2, e0]
  word_cmp

theorem not_both (t : Fin cfg1.N) : ¬ (first (grid1.coords t) ∧ last (grid1.coords t)) := by
  rw [first_iff, last_iff]; omega

/-- The scratch buffers at a state, beside the other scoped buffers. -/
def held (c : Dev nD) (s : St F) : sProp 𝕄 :=
  iprop((owns (c : Thread nD τ) (Memref.whole cc1_scratch0) fullShare s.mt ∗ owns (c : Thread nD τ) (Memref.whole cc1_scratch1) fullShare s.lt ∗ owns (c : Thread nD τ) (Memref.whole cc1_scratch2) fullShare s.ms ∗ owns (c : Thread nD τ) (Memref.whole cc1_scratch3) fullShare s.ls)
    ∗ Pipeline.scopedRestBut (Ix := Unit) (Name := ℕ) (U := UR sig nD τ) (Lvl := ℕ) (Val := Elt F) spec1 c [cc1_scratch0, cc1_scratch1, cc1_scratch2, cc1_scratch3])

/-- The invariant before point `n`: before the first the scratch buffers hold anything, then the state. -/
def inv (c : Dev nD) : ℕ → sProp 𝕄
  | 0 => Pipeline.scopedRest spec1 c
  | n + 1 => held c (st V c (n + 1))

theorem scoped_eq (c : Dev nD) : (Pipeline.scopedRest spec1 c : sProp 𝕄)
    = iprop(((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d))
      ∗ Pipeline.scopedRestBut (Ix := Unit) (Name := ℕ) (U := UR sig nD τ) (Lvl := ℕ) (Val := Elt F) spec1 c [cc1_scratch0, cc1_scratch1, cc1_scratch2, cc1_scratch3]) := by
  rw [scopedRest1_split]; simp only [owns_whole]; try rfl

/-- Before any point the scratch buffers hold some state from which the point's next state is the named one. -/
theorem inv_open (c : Dev nD) (t : Fin cfg1.N) : inv V c t.val ⊢ iprop(∃ s : St F, ⌜(ins V c t).next (grid1.coords t) s = st V c (t.val + 1)⌝ ∗ held c s) := by
  obtain ⟨n, hn⟩ := t
  cases n with
  | zero =>
    show Pipeline.scopedRest spec1 c ⊢ _
    rw [scoped_eq]
    iintro ⟨⟨⟨%d0, H0⟩, ⟨%d1, H1⟩, ⟨%d2, H2⟩, ⟨%d3, H3⟩⟩, Hb⟩
    iexists (⟨d0, d1, d2, d3⟩ : St F)
    isplitr
    · ipureintro
      have h0 : first (grid1.coords ⟨0, hn⟩) := (first_iff ⟨0, hn⟩).mpr rfl
      rw [st_succ V c ⟨0, hn⟩]
      simp only [In.next, if_pos h0]
    unfold held
    isplitr [Hb]
    · isplitl [H0]; · iexact H0
      isplitl [H1]; · iexact H1
      isplitl [H2]; · iexact H2
      iexact H3
    iexact Hb
  | succ n =>
    show held c (st V c (n + 1)) ⊢ _
    iintro H
    iexists (st V c (n + 1))
    isplitr
    · ipureintro; exact (st_succ V c ⟨n + 1, hn⟩).symm
    iexact H

theorem inv_close (c : Dev nD) (n : ℕ) : inv V c n ⊢ (Pipeline.scopedRest spec1 c : sProp 𝕄) := by
  cases n with
  | zero => exact .rfl
  | succ n =>
    rw [scoped_eq]
    show held c (st V c (n + 1)) ⊢ _
    unfold held
    iintro ⟨⟨H0, H1, H2, H3⟩, Hb⟩
    isplitr [Hb]
    · isplitl [H0]; · iexists _; iexact H0
      isplitl [H1]; · iexists _; iexact H1
      isplitl [H2]; · iexists _; iexact H2
      iexists _; iexact H3
    iexact Hb

/-- The proof data: the arrays as the region finds them; after the body each input's buffer at its block, each output's
    at what the body wrote. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (ins V c t).zt
    | ⟨9, _⟩ => (ins V c t).zs
    | ⟨10, _⟩ => k1_pay3 (st V c (t.val + 1)).mt (st V c (t.val + 1)).lt
    | ⟨11, _⟩ => k1_pay4 (st V c (t.val + 1)).ms (st V c (t.val + 1)).ls
  Φ t := inv V c t.val
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = (ins V c t).zt := by dsimp only [dat]
theorem after_9 (c : Dev nD) (t : Fin cfg1.N) : (dat V c).after 9 t = (ins V c t).zs := by dsimp only [dat]
theorem after_10 (c : Dev nD) (t : Fin cfg1.N) : (dat V c).after 10 t = k1_pay3 (st V c (t.val + 1)).mt (st V c (t.val + 1)).lt := by dsimp only [dat]
theorem after_11 (c : Dev nD) (t : Fin cfg1.N) : (dat V c).after 11 t = k1_pay4 (st V c (t.val + 1)).ms (st V c (t.val + 1)).ls := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cfg1.idle 3 (grid1.coords t) = false := fun _ => rfl
theorem live_4 : ∀ t : Fin cfg1.N, cfg1.idle 4 (grid1.coords t) = false := fun _ => rfl
theorem live_5 : ∀ t : Fin cfg1.N, cfg1.idle 5 (grid1.coords t) = false := fun _ => rfl
theorem live_6 : ∀ t : Fin cfg1.N, cfg1.idle 6 (grid1.coords t) = false := fun _ => rfl
theorem live_7 : ∀ t : Fin cfg1.N, cfg1.idle 7 (grid1.coords t) = false := fun _ => rfl
theorem live_8 : ∀ t : Fin cfg1.N, cfg1.idle 8 (grid1.coords t) = false := fun _ => rfl
theorem live_9 : ∀ t : Fin cfg1.N, cfg1.idle 9 (grid1.coords t) = false := fun _ => rfl
theorem live_10 : ∀ t : Fin cfg1.N, last (grid1.coords t) → cfg1.idle 10 (grid1.coords t) = false := by decide +kernel
theorem idle_10 : ∀ t : Fin cfg1.N, ¬ last (grid1.coords t) → cfg1.idle 10 (grid1.coords t) = true := by decide +kernel
theorem noFlush_10 (t : Fin cfg1.N) (h : ¬ last (grid1.coords t)) : (cfg1.win 10).flush t = false := by
  rw [last_iff] at h; exact Bool.eq_false_iff.mpr fun e => h ((flush1_10 t).mp e)
/-- What the body leaves in window 10's buffer: the result at the last point of a run over the columns, else what it found. -/
theorem leaves_10 (c : Dev nD) (t : Fin cfg1.N) (d) :
    owns (c : Thread nD τ) (st1_10 t) fullShare (if last (grid1.coords t) then k1_pay3 (st V c (t.val + 1)).mt (st V c (t.val + 1)).lt else (dat V c).before 10 t d) ⊢ (dat V c).leavesExact 10 t := by
  by_cases h : last (grid1.coords t)
  · unfold Dat.leavesExact; rw [live_10 t h, after_10, if_pos h]
    try exact .rfl
  · rw [Dat.leavesExact_idle (dat V c) 10 t (idle_10 t h) (noFlush_10 t h), if_neg h]
    iintro H; iexists d; iexact H
theorem live_11 : ∀ t : Fin cfg1.N, last (grid1.coords t) → cfg1.idle 11 (grid1.coords t) = false := by decide +kernel
theorem idle_11 : ∀ t : Fin cfg1.N, ¬ last (grid1.coords t) → cfg1.idle 11 (grid1.coords t) = true := by decide +kernel
theorem noFlush_11 (t : Fin cfg1.N) (h : ¬ last (grid1.coords t)) : (cfg1.win 11).flush t = false := by
  rw [last_iff] at h; exact Bool.eq_false_iff.mpr fun e => h ((flush1_11 t).mp e)
/-- What the body leaves in window 11's buffer: the result at the last point of a run over the columns, else what it found. -/
theorem leaves_11 (c : Dev nD) (t : Fin cfg1.N) (d) :
    owns (c : Thread nD τ) (st1_11 t) fullShare (if last (grid1.coords t) then k1_pay4 (st V c (t.val + 1)).ms (st V c (t.val + 1)).ls else (dat V c).before 11 t d) ⊢ (dat V c).leavesExact 11 t := by
  by_cases h : last (grid1.coords t)
  · unfold Dat.leavesExact; rw [live_11 t h, after_11, if_pos h]
    try exact .rfl
  · rw [Dat.leavesExact_idle (dat V c) 11 t (idle_11 t h) (noFlush_11 t h), if_neg h]
    iintro H; iexists d; iexact H

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 4000000 in
/-- The body's run at a point. -/
theorem sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).owesAt () t.succ = (dat V c).owesAt () t.castSucc from rfl]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  rw [show (dat V c).leavesExact 3 t = owns (c : Thread nD τ) (st1_3 t) fullShare ((dat V c).after 3 t) from by
    unfold Dat.leavesExact; rw [live_3 t], after_3]
  rw [show (dat V c).leavesExact 4 t = owns (c : Thread nD τ) (st1_4 t) fullShare ((dat V c).after 4 t) from by
    unfold Dat.leavesExact; rw [live_4 t], after_4]
  rw [show (dat V c).leavesExact 5 t = owns (c : Thread nD τ) (st1_5 t) fullShare ((dat V c).after 5 t) from by
    unfold Dat.leavesExact; rw [live_5 t], after_5]
  rw [show (dat V c).leavesExact 6 t = owns (c : Thread nD τ) (st1_6 t) fullShare ((dat V c).after 6 t) from by
    unfold Dat.leavesExact; rw [live_6 t], after_6]
  rw [show (dat V c).leavesExact 7 t = owns (c : Thread nD τ) (st1_7 t) fullShare ((dat V c).after 7 t) from by
    unfold Dat.leavesExact; rw [live_7 t], after_7]
  rw [show (dat V c).leavesExact 8 t = owns (c : Thread nD τ) (st1_8 t) fullShare ((dat V c).after 8 t) from by
    unfold Dat.leavesExact; rw [live_8 t], after_8]
  rw [show (dat V c).leavesExact 9 t = owns (c : Thread nD τ) (st1_9 t) fullShare ((dat V c).after 9 t) from by
    unfold Dat.leavesExact; rw [live_9 t], after_9]
  rw [show (dat V c).Φ t.castSucc = inv V c t.val from rfl, show (dat V c).Φ t.succ = held c (st V c (t.val + 1)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HI' := (inv_open V c t) $$ HI
  icases HI' with ⟨%s, %hs, HI⟩
  unfold held
  icases HI with ⟨⟨S0, S1, S2, S3⟩, Hb⟩
  iapply (run c (grid1.coords t) _ _ _ _ _ _ _ _ _ _ _ _ _ _ _ _ _ _ _ _ _ _ _ _ _ _ _ _ _ _ _ _  (ins V c t) s ((dat V c).before 8 t d8) ((dat V c).before 9 t d9) ((dat V c).before 10 t d10) ((dat V c).before 11 t d11) (not_both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  rw [hs]
  iintro ⟨H0, H1, H2, H3, H4, H5, H6, H7, H8, H9, H10, H11, S0, S1, S2, S3⟩
  isplitl [S0 S1 S2 S3 Hb]
  · isplitr [Hb]
    · isplitl [S0]; · iexact S0
      isplitl [S1]; · iexact S1
      isplitl [S2]; · iexact S2
      iexact S3
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_10 V c t d10); iexact H10
  iapply (leaves_11 V c t d11); iexact H11

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) Variants.none () Set.univ := fun t => by
  rw [bigSep_W1, bigSep_W1, defs₀_row]
  exact triple_restated (sound V c t) rfl .rfl fun _ => .rfl

theorem hin (c : Dev nD) : iprop(Pipeline.scopedRest spec1 c ∗ emp) ⊢ (dat V c).Φ 0 := by
  rw [show (dat V c).Φ 0 = Pipeline.scopedRest spec1 c from rfl]
  iintro ⟨H, -⟩; iexact H

theorem hout (c : Dev nD) : (dat V c).Φ (Fin.last cfg1.N) ⊢ iprop(Pipeline.scopedRest spec1 c ∗ emp) := by
  rw [show (dat V c).Φ (Fin.last cfg1.N) = inv V c cfg1.N from rfl]
  refine (inv_close V c _).trans ?_
  iintro H; isplitl [H]; · iexact H
  iempintro

end Cert.KernelIdeal.Fwd

end
-- ==== Proof.KernelIdeal.BwdBody.lean ====
/- The body of the backward call at one grid point. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Lib.Whole

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The ten input blocks of one grid point. -/
structure In (F : FTy → Type) [FloatOps F] where
  x0 : Vec F S256x256 .f32
  x1 : Vec F S256x256 .f32
  x2 : Vec F S256x128 .f32
  x3 : Vec F S256x128 .f32
  x4 : Vec F S256x1024 .fp8e4m3
  x5 : Vec F S256x1 .f32
  x6 : Vec F S256x1 .f32
  x7 : Vec F S256x1024 .bf16
  x8 : Vec F S256x128 .f32
  x9 : Vec F S1x1024 .f32

/-- The running sums: the gradient block and the lanes of the divergence. -/
structure St (F : FTy → Type) [FloatOps F] where
  acc : Vec F S256x1024 .f32
  lacc : Vec F S256x128 .f32

/-- The state before the first tile of a block of rows. -/
def init : St F := ⟨k2_pay9, k2_pay10⟩

/-- The state after one more tile. -/
def In.step (X : In F) (s : St F) : St F where
  acc := k2_pay1 (k2_pay11 X.x4 X.x5) s.acc (k2_pay16 X.x0 (Whole.col0 X.x2 inb_S256x128_S256x1_0_0) X.x1 (Whole.col0 X.x3 inb_S256x128_S256x1_0_0))
  lacc := k2_pay15 X.x0 (Whole.col0 X.x2 inb_S256x128_S256x1_0_0) X.x1 (Whole.col0 X.x3 inb_S256x128_S256x1_0_0) s.lacc

/-- The gradient with respect to the normalised rows, from the last state. -/
def In.dy (X : In F) (s : St F) : Vec F S256x1024 .f32 := k2_pay5 X.x6 s.acc
/-- The gradient with respect to the rows, from the last state. -/
def In.dx (X : In F) (s : St F) : Vec F S256x1024 .bf16 :=
  k2_pay2 (k2_pay7 X.x6 s.acc (Whole.col0 X.x8 inb_S256x128_S256x1_0_0) X.x7 X.x9) (k2_pay8 (Whole.col0 X.x8 inb_S256x128_S256x1_0_0))
/-- The loss, repeated over 128 lanes, from the last state. -/
def In.loss (X : In F) (s : St F) : Vec F S256x128 .f32 := k2_pay4 X.x6 s.lacc

/-- The condition of a row block's first tile, as the body computes it. -/
abbrev first (i : grid2.Coords) : Prop := Scalar.cmpi .ne (Scalar.extui (Scalar.cmpi .eq (BitVec.ofNat 32 (i 1).val) 0#32) : BitVec 32) 0#32 = 1#1
/-- The condition of a row block's last tile, as the body computes it. -/
abbrev last (i : grid2.Coords) : Prop := k2_cond2 i = 1#1

/-- The state the body leaves: the first tile of a row block starts from the initial state. -/
def In.next (X : In F) (i : grid2.Coords) (s : St F) : St F := X.step (if first i then init else s)

variable (c : Dev nD) (i : grid2.Coords)
  (arg2 : Memref sig .tc .vmem S256x256 .f32) (harg2 : arg2.IsWhole)
  (arg3 : Memref sig .tc .vmem S256x256 .f32) (harg3 : arg3.IsWhole)
  (arg4 : Memref sig .tc .vmem S256x128 .f32) (harg4 : arg4.IsWhole)
  (arg5 : Memref sig .tc .vmem S256x128 .f32) (harg5 : arg5.IsWhole)
  (arg6 : Memref sig .tc .vmem S256x1024 .fp8e4m3) (harg6 : arg6.IsWhole)
  (arg7 : Memref sig .tc .vmem S256x1 .f32) (harg7 : arg7.IsWhole)
  (arg8 : Memref sig .tc .vmem S256x1 .f32) (harg8 : arg8.IsWhole)
  (arg9 : Memref sig .tc .vmem S256x1024 .bf16) (harg9 : arg9.IsWhole)
  (arg10 : Memref sig .tc .vmem S256x128 .f32) (harg10 : arg10.IsWhole)
  (arg11 : Memref sig .tc .vmem S1x1024 .f32) (harg11 : arg11.IsWhole)
  (arg12 : Memref sig .tc .vmem S256x1024 .f32) (harg12 : arg12.IsWhole)
  (arg13 : Memref sig .tc .vmem S256x1024 .bf16) (harg13 : arg13.IsWhole)
  (arg14 : Memref sig .tc .vmem S256x128 .f32) (harg14 : arg14.IsWhole)
  (arg15 : Memref sig .tc .vmem S256x1024 .f32) (harg15 : arg15.IsWhole)
  (arg16 : Memref sig .tc .vmem S256x128 .f32) (harg16 : arg16.IsWhole)

set_option maxHeartbeats 4000000 in
/-- One run of the body: from the input blocks and a state to the next state and, at the last tile of a row block, the three results. -/
theorem run (X : In F) (s : St F) (y10 : Vec F S256x1024 .f32) (y11 : Vec F S256x1024 .bf16) (y12 : Vec F S256x128 .f32)
    (h : ¬ (first i ∧ last i)) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare y10 ∗ owns (c : Thread nD τ) arg13 fullShare y11 ∗ owns (c : Thread nD τ) arg14 fullShare y12 ∗ owns (c : Thread nD τ) arg15 fullShare s.acc ∗ owns (c : Thread nD τ) arg16 fullShare s.lacc
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare (if last i then X.dy (X.next i s) else y10) ∗ owns (c : Thread nD τ) arg13 fullShare (if last i then X.dx (X.next i s) else y11) ∗ owns (c : Thread nD τ) arg14 fullShare (if last i then X.loss (X.next i s) else y12) ∗ owns (c : Thread nD τ) arg15 fullShare (X.next i s).acc ∗ owns (c : Thread nD τ) arg16 fullShare (X.next i s).lacc) -∗ K ⟨⟩))
    ⊢ wp frame (wpE (defs₀ (F := F)) Variants.none c none) E (cc2_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2_backward_eq_skeleton]; unfold cc2_backward_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  by_cases hc0 : first i <;> by_cases hc1 : last i
  · exact absurd ⟨hc0, hc1⟩ h
  all_goals
    first
      | have e0 : ∀ {α : Type} (a b : α), (if first i then a else b) = a := fun _ _ => if_pos hc0
      | have e0 : ∀ {α : Type} (a b : α), (if first i then a else b) = b := fun _ _ => if_neg hc0
    first
      | have e1 : ∀ {α : Type} (a b : α), (if last i then a else b) = a := fun _ _ => if_pos hc1
      | have e1 : ∀ {α : Type} (a b : α), (if last i then a else b) = b := fun _ _ => if_neg hc1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; rotate_left; iexact H10; ipureintro; sl_unfold_run_names; simp only [Whole.read_writes, Whole.readCov, Whole.readAt, Memref.IsWhole.read_unread, Whole.readAt_col0, e0, e1, In.next, In.step, In.dy, In.dx, In.loss, init, not_false_eq_true]
    isplitl [H11]
    · iexists _; isplitr; rotate_left; iexact H11; ipureintro; sl_unfold_run_names; simp only [Whole.read_writes, Whole.readCov, Whole.readAt, Memref.IsWhole.read_unread, Whole.readAt_col0, e0, e1, In.next, In.step, In.dy, In.dx, In.loss, init, not_false_eq_true]
    isplitl [H12]
    · iexists _; isplitr; rotate_left; iexact H12; ipureintro; sl_unfold_run_names; simp only [Whole.read_writes, Whole.readCov, Whole.readAt, Memref.IsWhole.read_unread, Whole.readAt_col0, e0, e1, In.next, In.step, In.dy, In.dx, In.loss, init, not_false_eq_true]
    isplitl [H13]
    · iexists _; isplitr; rotate_left; iexact H13; ipureintro; sl_unfold_run_names; simp only [Whole.read_writes, Whole.readCov, Whole.readAt, Memref.IsWhole.read_unread, Whole.readAt_col0, e0, e1, In.next, In.step, In.dy, In.dx, In.loss, init, not_false_eq_true]
    · iexists _; isplitr; rotate_left; iexact H14; ipureintro; sl_unfold_run_names; simp only [Whole.read_writes, Whole.readCov, Whole.readAt, Memref.IsWhole.read_unread, Whole.readAt_col0, e0, e1, In.next, In.step, In.dy, In.dx, In.loss, init, not_false_eq_true]

end Cert.KernelIdeal.Bwd

end
-- ==== Proof.KernelIdeal.BwdRegion.lean ====
/-
  The region of the backward pass (loss, gradients): what the windows' buffers hold at each grid point, the body's run at a
  point of the grid as the pipeline calls it, and the pipeline's proof data, over any contents `V` of the
  buffers at the region's entry.
 -/
module

public import proofs.«01_k».proof.Proof.KernelIdeal.BwdBody

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks of the body at point `t`. -/
def ins (c : Dev nD) (t : Fin cfg2.N) : In F := ⟨iblk V c 0 t, iblk V c 1 t, iblk V c 2 t, iblk V c 3 t, iblk V c 4 t, iblk V c 5 t, iblk V c 6 t, iblk V c 7 t, iblk V c 8 t, iblk V c 9 t⟩

/-- The state after `n` points. -/
def st (c : Dev nD) : ℕ → St F
  | 0 => init
  | n + 1 => if h : n < cfg2.N then (ins V c ⟨n, h⟩).next (grid2.coords ⟨n, h⟩) (st c n) else st c n

theorem st_succ (c : Dev nD) (t : Fin cfg2.N) : st V c (t.val + 1) = (ins V c t).next (grid2.coords t) (st V c t.val) := by
  rw [st, dif_pos t.isLt]

theorem first_iff : ∀ t : Fin cfg2.N, first (grid2.coords t) ↔ t.val % 125 = 0 := fun t => by
  have ht : t.val < 750 := Nat.lt_of_lt_of_eq t.isLt N_2
  have e0 : (grid2.coords t 1).val = t.val / 1 % 125 := Pipeline.Grid.coords_val t 1 (by decide) rfl
  simp only [first, e0]
  word_cmp

theorem last_iff : ∀ t : Fin cfg2.N, last (grid2.coords t) ↔ t.val % 125 = 124 := fun t => by
  have ht : t.val < 750 := Nat.lt_of_lt_of_eq t.isLt N_2
  have e0 : (grid2.coords t 1).val = t.val / 1 % 125 := Pipeline.Grid.coords_val t 1 (by decide) rfl
  simp only [last, k2_cond2, e0]
  word_cmp

theorem not_both (t : Fin cfg2.N) : ¬ (first (grid2.coords t) ∧ last (grid2.coords t)) := by
  rw [first_iff, last_iff]; omega

/-- The scratch buffers at a state, beside the other scoped buffers. -/
def held (c : Dev nD) (s : St F) : sProp 𝕄 :=
  iprop((owns (c : Thread nD τ) (Memref.whole cc2_scratch0) fullShare s.acc ∗ owns (c : Thread nD τ) (Memref.whole cc2_scratch1) fullShare s.lacc)
    ∗ Pipeline.scopedRestBut (Ix := Unit) (Name := ℕ) (U := UR sig nD τ) (Lvl := ℕ) (Val := Elt F) spec2 c [cc2_scratch0, cc2_scratch1])

/-- The invariant before point `n`: before the first the scratch buffers hold anything, then the state. -/
def inv (c : Dev nD) : ℕ → sProp 𝕄
  | 0 => Pipeline.scopedRest spec2 c
  | n + 1 => held c (st V c (n + 1))

theorem scoped_eq (c : Dev nD) : (Pipeline.scopedRest spec2 c : sProp 𝕄)
    = iprop(((∃ d, owns (c : Thread nD τ) (Memref.whole cc2_scratch0) fullShare d) ∗ (∃ d, owns (c : Thread nD τ) (Memref.whole cc2_scratch1) fullShare d))
      ∗ Pipeline.scopedRestBut (Ix := Unit) (Name := ℕ) (U := UR sig nD τ) (Lvl := ℕ) (Val := Elt F) spec2 c [cc2_scratch0, cc2_scratch1]) := by
  rw [scopedRest2_split]; simp only [owns_whole]; try rfl

/-- Before any point the scratch buffers hold some state from which the point's next state is the named one. -/
theorem inv_open (c : Dev nD) (t : Fin cfg2.N) : inv V c t.val ⊢ iprop(∃ s : St F, ⌜(ins V c t).next (grid2.coords t) s = st V c (t.val + 1)⌝ ∗ held c s) := by
  obtain ⟨n, hn⟩ := t
  cases n with
  | zero =>
    show Pipeline.scopedRest spec2 c ⊢ _
    rw [scoped_eq]
    iintro ⟨⟨⟨%d0, H0⟩, ⟨%d1, H1⟩⟩, Hb⟩
    iexists (⟨d0, d1⟩ : St F)
    isplitr
    · ipureintro
      have h0 : first (grid2.coords ⟨0, hn⟩) := (first_iff ⟨0, hn⟩).mpr rfl
      rw [st_succ V c ⟨0, hn⟩]
      simp only [In.next, if_pos h0]
    unfold held
    isplitr [Hb]
    · isplitl [H0]; · iexact H0
      iexact H1
    iexact Hb
  | succ n =>
    show held c (st V c (n + 1)) ⊢ _
    iintro H
    iexists (st V c (n + 1))
    isplitr
    · ipureintro; exact (st_succ V c ⟨n + 1, hn⟩).symm
    iexact H

theorem inv_close (c : Dev nD) (n : ℕ) : inv V c n ⊢ (Pipeline.scopedRest spec2 c : sProp 𝕄) := by
  cases n with
  | zero => exact .rfl
  | succ n =>
    rw [scoped_eq]
    show held c (st V c (n + 1)) ⊢ _
    unfold held
    iintro ⟨⟨H0, H1⟩, Hb⟩
    isplitr [Hb]
    · isplitl [H0]; · iexists _; iexact H0
      iexists _; iexact H1
    iexact Hb

/-- The proof data: the arrays as the region finds them; after the body each input's buffer at its block, each output's
    at what the body wrote. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (ins V c t).dy (st V c (t.val + 1))
    | ⟨11, _⟩ => (ins V c t).dx (st V c (t.val + 1))
    | ⟨12, _⟩ => (ins V c t).loss (st V c (t.val + 1))
  Φ t := inv V c t.val
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = (ins V c t).dy (st V c (t.val + 1)) := by dsimp only [dat]
theorem after_11 (c : Dev nD) (t : Fin cfg2.N) : (dat V c).after 11 t = (ins V c t).dx (st V c (t.val + 1)) := by dsimp only [dat]
theorem after_12 (c : Dev nD) (t : Fin cfg2.N) : (dat V c).after 12 t = (ins V c t).loss (st V c (t.val + 1)) := by dsimp only [dat]
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg2.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg2.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg2.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg2.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg2.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem live_0 : ∀ t : Fin cfg2.N, cfg2.idle 0 (grid2.coords t) = false := fun _ => rfl
theorem live_1 : ∀ t : Fin cfg2.N, cfg2.idle 1 (grid2.coords t) = false := fun _ => rfl
theorem live_2 : ∀ t : Fin cfg2.N, cfg2.idle 2 (grid2.coords t) = false := fun _ => rfl
theorem live_3 : ∀ t : Fin cfg2.N, cfg2.idle 3 (grid2.coords t) = false := fun _ => rfl
theorem live_4 : ∀ t : Fin cfg2.N, cfg2.idle 4 (grid2.coords t) = false := fun _ => rfl
theorem live_5 : ∀ t : Fin cfg2.N, cfg2.idle 5 (grid2.coords t) = false := fun _ => rfl
theorem live_6 : ∀ t : Fin cfg2.N, cfg2.idle 6 (grid2.coords t) = false := fun _ => rfl
theorem live_7 : ∀ t : Fin cfg2.N, cfg2.idle 7 (grid2.coords t) = false := fun _ => rfl
theorem live_8 : ∀ t : Fin cfg2.N, cfg2.idle 8 (grid2.coords t) = false := fun _ => rfl
theorem live_9 : ∀ t : Fin cfg2.N, cfg2.idle 9 (grid2.coords t) = false := fun _ => rfl
theorem live_10 : ∀ t : Fin cfg2.N, last (grid2.coords t) → cfg2.idle 10 (grid2.coords t) = false := by decide +kernel
theorem idle_10 : ∀ t : Fin cfg2.N, ¬ last (grid2.coords t) → cfg2.idle 10 (grid2.coords t) = true := by decide +kernel
theorem noFlush_10 (t : Fin cfg2.N) (h : ¬ last (grid2.coords t)) : (cfg2.win 10).flush t = false := by
  rw [last_iff] at h; exact Bool.eq_false_iff.mpr fun e => h ((flush2_10 t).mp e)
/-- What the body leaves in window 10's buffer: the result at the last point of a run over the columns, else what it found. -/
theorem leaves_10 (c : Dev nD) (t : Fin cfg2.N) (d) :
    owns (c : Thread nD τ) (st2_10 t) fullShare (if last (grid2.coords t) then (ins V c t).dy (st V c (t.val + 1)) else (dat V c).before 10 t d) ⊢ (dat V c).leavesExact 10 t := by
  by_cases h : last (grid2.coords t)
  · unfold Dat.leavesExact; rw [live_10 t h, after_10, if_pos h]
    try exact .rfl
  · rw [Dat.leavesExact_idle (dat V c) 10 t (idle_10 t h) (noFlush_10 t h), if_neg h]
    iintro H; iexists d; iexact H
theorem live_11 : ∀ t : Fin cfg2.N, last (grid2.coords t) → cfg2.idle 11 (grid2.coords t) = false := by decide +kernel
theorem idle_11 : ∀ t : Fin cfg2.N, ¬ last (grid2.coords t) → cfg2.idle 11 (grid2.coords t) = true := by decide +kernel
theorem noFlush_11 (t : Fin cfg2.N) (h : ¬ last (grid2.coords t)) : (cfg2.win 11).flush t = false := by
  rw [last_iff] at h; exact Bool.eq_false_iff.mpr fun e => h ((flush2_11 t).mp e)
/-- What the body leaves in window 11's buffer: the result at the last point of a run over the columns, else what it found. -/
theorem leaves_11 (c : Dev nD) (t : Fin cfg2.N) (d) :
    owns (c : Thread nD τ) (st2_11 t) fullShare (if last (grid2.coords t) then (ins V c t).dx (st V c (t.val + 1)) else (dat V c).before 11 t d) ⊢ (dat V c).leavesExact 11 t := by
  by_cases h : last (grid2.coords t)
  · unfold Dat.leavesExact; rw [live_11 t h, after_11, if_pos h]
    try exact .rfl
  · rw [Dat.leavesExact_idle (dat V c) 11 t (idle_11 t h) (noFlush_11 t h), if_neg h]
    iintro H; iexists d; iexact H
theorem live_12 : ∀ t : Fin cfg2.N, last (grid2.coords t) → cfg2.idle 12 (grid2.coords t) = false := by decide +kernel
theorem idle_12 : ∀ t : Fin cfg2.N, ¬ last (grid2.coords t) → cfg2.idle 12 (grid2.coords t) = true := by decide +kernel
theorem noFlush_12 (t : Fin cfg2.N) (h : ¬ last (grid2.coords t)) : (cfg2.win 12).flush t = false := by
  rw [last_iff] at h; exact Bool.eq_false_iff.mpr fun e => h ((flush2_12 t).mp e)
/-- What the body leaves in window 12's buffer: the result at the last point of a run over the columns, else what it found. -/
theorem leaves_12 (c : Dev nD) (t : Fin cfg2.N) (d) :
    owns (c : Thread nD τ) (st2_12 t) fullShare (if last (grid2.coords t) then (ins V c t).loss (st V c (t.val + 1)) else (dat V c).before 12 t d) ⊢ (dat V c).leavesExact 12 t := by
  by_cases h : last (grid2.coords t)
  · unfold Dat.leavesExact; rw [live_12 t h, after_12, if_pos h]
    try exact .rfl
  · rw [Dat.leavesExact_idle (dat V c) 12 t (idle_12 t h) (noFlush_12 t h), if_neg h]
    iintro H; iexists d; iexact H

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4000000 in
/-- The body's run at a point. -/
theorem sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9]
  rw [show (dat V c).owesAt () t.succ = (dat V c).owesAt () t.castSucc from rfl]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  rw [show (dat V c).leavesExact 3 t = owns (c : Thread nD τ) (st2_3 t) fullShare ((dat V c).after 3 t) from by
    unfold Dat.leavesExact; rw [live_3 t], after_3]
  rw [show (dat V c).leavesExact 4 t = owns (c : Thread nD τ) (st2_4 t) fullShare ((dat V c).after 4 t) from by
    unfold Dat.leavesExact; rw [live_4 t], after_4]
  rw [show (dat V c).leavesExact 5 t = owns (c : Thread nD τ) (st2_5 t) fullShare ((dat V c).after 5 t) from by
    unfold Dat.leavesExact; rw [live_5 t], after_5]
  rw [show (dat V c).leavesExact 6 t = owns (c : Thread nD τ) (st2_6 t) fullShare ((dat V c).after 6 t) from by
    unfold Dat.leavesExact; rw [live_6 t], after_6]
  rw [show (dat V c).leavesExact 7 t = owns (c : Thread nD τ) (st2_7 t) fullShare ((dat V c).after 7 t) from by
    unfold Dat.leavesExact; rw [live_7 t], after_7]
  rw [show (dat V c).leavesExact 8 t = owns (c : Thread nD τ) (st2_8 t) fullShare ((dat V c).after 8 t) from by
    unfold Dat.leavesExact; rw [live_8 t], after_8]
  rw [show (dat V c).leavesExact 9 t = owns (c : Thread nD τ) (st2_9 t) fullShare ((dat V c).after 9 t) from by
    unfold Dat.leavesExact; rw [live_9 t], after_9]
  rw [show (dat V c).Φ t.castSucc = inv V c t.val from rfl, show (dat V c).Φ t.succ = held c (st V c (t.val + 1)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HI' := (inv_open V c t) $$ HI
  icases HI' with ⟨%s, %hs, HI⟩
  unfold held
  icases HI with ⟨⟨S0, S1⟩, Hb⟩
  iapply (run c (grid2.coords t) _ _ _ _ _ _ _ _ _ _ _ _ _ _ _ _ _ _ _ _ _ _ _ _ _ _ _ _ _ _  (ins V c t) s ((dat V c).before 10 t d10) ((dat V c).before 11 t d11) ((dat V c).before 12 t d12) (not_both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  rw [hs]
  iintro ⟨H0, H1, H2, H3, H4, H5, H6, H7, H8, H9, H10, H11, H12, S0, S1⟩
  isplitl [S0 S1 Hb]
  · isplitr [Hb]
    · isplitl [S0]; · iexact S0
      iexact S1
    iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_10 V c t d10); iexact H10
  isplitl [H11]; · iapply (leaves_11 V c t d11); iexact H11
  iapply (leaves_12 V c t d12); iexact H12

theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound V c t) rfl .rfl fun _ => .rfl

theorem hin (c : Dev nD) : iprop(Pipeline.scopedRest spec2 c ∗ emp) ⊢ (dat V c).Φ 0 := by
  rw [show (dat V c).Φ 0 = Pipeline.scopedRest spec2 c from rfl]
  iintro ⟨H, -⟩; iexact H

theorem hout (c : Dev nD) : (dat V c).Φ (Fin.last cfg2.N) ⊢ iprop(Pipeline.scopedRest spec2 c ∗ emp) := by
  rw [show (dat V c).Φ (Fin.last cfg2.N) = inv V c cfg2.N from rfl]
  refine (inv_close V c _).trans ?_
  iintro H; isplitl [H]; · iexact H
  iempintro

end Cert.KernelIdeal.Bwd

end
-- ==== Proof.KernelIdeal.Run.lean ====
/-
  The run of the whole program: four stretches of host operations and the three kernel regions between them. The
  buffers' contents after each item are named `W0` … `W7`; every run ends, at `W7` on every buffer, the arguments as
  they were, every semaphore counter at zero.
 -/
module

public import proofs.«01_k».proof.Proof.KernelIdeal.ProRegion
public import proofs.«01_k».proof.Proof.KernelIdeal.FwdRegion
public import proofs.«01_k».proof.Proof.KernelIdeal.BwdRegion
public import proofs.«01_k».proof.Proof.Gen.KernelIdeal.Regions
public import Idealize.ShloMosaic.Lib.Pipeline.RegionArraysS

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch, -/
def W0 (c : Dev nD) : Valuation τ sig (Elt F) := fun b => m (c, b)
/-- after the first host stretch, -/
def W1 (c : Dev nD) : Valuation τ sig (Elt F) := StableHlo.after hostOps0 (W0 m c)
/-- after the first region, -/
def W2 (c : Dev nD) : Valuation τ sig (Elt F) := Pipeline.afterRegion (Pro.dat (W1 m) c) (W1 m c)
/-- after the second host stretch, -/
def W3 (c : Dev nD) : Valuation τ sig (Elt F) := StableHlo.after hostOps1 (W2 m c)
/-- after the second region, -/
def W4 (c : Dev nD) : Valuation τ sig (Elt F) := Pipeline.afterRegion (Fwd.dat (W3 m) c) (W3 m c)
/-- after the third host stretch, -/
def W5 (c : Dev nD) : Valuation τ sig (Elt F) := StableHlo.after hostOps2 (W4 m c)
/-- after the third region, -/
def W6 (c : Dev nD) : Valuation τ sig (Elt F) := Pipeline.afterRegion (Bwd.dat (W5 m) c) (W5 m c)
/-- and at the end. -/
def W7 (c : Dev nD) : Valuation τ sig (Elt F) := StableHlo.after hostOps3 (W6 m c)

/-- The three pipelines' proof data. -/
def pdats : (p : Fin 3) → (c : Dev nD) → Dat τ (Elt F) Unit ℕ (UR sig nD τ) ℕ (cfgs p) c
  | 0 => Pro.dat (W1 m)
  | 1 => Fwd.dat (W3 m)
  | 2 => Bwd.dat (W5 m)

/-- The staging waits' index has a level at every cell of the core. -/
def L (g : GSem nD τ sig) : Finset Unit := if g.1.2 = .tc then {()} else ∅
def lv (_ : GSem nD τ sig) (_ : Unit) : ℕ := 0

/-- What rides beside the buffers: the core owes nothing. -/
def E (c : Dev nD) : sProp 𝕄 :=
  iprop((∃ Wd, owes (c : Thread nD τ) (0 : CellTallies nD τ sig Unit) Wd) ∗ emp ∗ emp)

theorem cut (p : Fin 3) : Pipeline.LevelCut (pcfgs (F := F)) adm () L lv p (fun _ : Dev nD => (0 : CellTallies nD τ sig Unit)) (fun _ => 0) :=
  ⟨fun c w s => by unfold L; rw [if_pos rfl]; exact Finset.mem_singleton_self _, fun _ _ _ => le_refl _,
    fun c g i h => absurd h (lt_irrefl 0)⟩

/-- The host stretches as segments. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) W E

set_option backward.isDefEq.respectTransparency.types false

/-- Region 0 as a segment, -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (Pro.body_obligation (W1 m) c).loose)
    (fun _ _ => rfl) (fun _ => rfl) (fun c => (Pro.dat (W1 m) c).share_full fun _ => rfl)
    (Pro.hin (W1 m)) (Pro.hout (W1 m)) (fun _ => 0) (cut 0) (fun _ => iprop(emp)) (W1 m) (fun c w => Pro.A_eq (W1 m) c w)

theorem sub0 : Pipeline.arrRefs (τ := τ) (pcfgs (F := F) 0).spec ⊆ Pipeline.ucRefs τ sig :=
  Pipeline.arrRefs_sub_ucRefs (τ := τ) spec0 (by decide)

/-- entered from the buffers and left with them. -/
theorem pre0 (c : Dev nD) : iprop(StableHlo.held (c : Thread nD τ) (Pipeline.ucRefs τ sig) (W1 m c) ∗ E c) ⊢ (reg0 m).pre c := by
  unfold E reg0
  exact RegionSeg.ofHeldIn_pre (pcs := pcfgs (F := F)) (a := adm) (pdats := pdats m) (ι := ()) (defs₀ := defs₀) (𝒱₀ := Variants.none) (L := L) (lv := lv) (p := 0) (D := fun _ => 0)
    (X := fun _ => iprop(emp)) (Y := fun _ => iprop(emp)) (R := fun _ => iprop(emp)) (W := W1 m) sub0 c

theorem post0 (c : Dev nD) : (reg0 m).post c ⊢ iprop(StableHlo.held (c : Thread nD τ) (Pipeline.ucRefs τ sig) (W2 m c) ∗ E c) := by
  unfold E reg0
  exact RegionSeg.ofHeldIn_post sub0 c

/-- Region 1 as a segment, -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (Fwd.body_obligation (W3 m) c).loose)
    (fun _ _ => rfl) (fun _ => rfl) (fun c => (Fwd.dat (W3 m) c).share_full fun _ => rfl)
    (Fwd.hin (W3 m)) (Fwd.hout (W3 m)) (fun _ => 0) (cut 1) (fun _ => iprop(emp)) (W3 m) (fun c w => Fwd.A_eq (W3 m) c w)

theorem sub1 : Pipeline.arrRefs (τ := τ) (pcfgs (F := F) 1).spec ⊆ Pipeline.ucRefs τ sig :=
  Pipeline.arrRefs_sub_ucRefs (τ := τ) spec1 (by decide)

/-- entered from the buffers and left with them. -/
theorem pre1 (c : Dev nD) : iprop(StableHlo.held (c : Thread nD τ) (Pipeline.ucRefs τ sig) (W3 m c) ∗ E c) ⊢ (reg1 m).pre c := by
  unfold E reg1
  exact RegionSeg.ofHeldIn_pre (pcs := pcfgs (F := F)) (a := adm) (pdats := pdats m) (ι := ()) (defs₀ := defs₀) (𝒱₀ := Variants.none) (L := L) (lv := lv) (p := 1) (D := fun _ => 0)
    (X := fun _ => iprop(emp)) (Y := fun _ => iprop(emp)) (R := fun _ => iprop(emp)) (W := W3 m) sub1 c

theorem post1 (c : Dev nD) : (reg1 m).post c ⊢ iprop(StableHlo.held (c : Thread nD τ) (Pipeline.ucRefs τ sig) (W4 m c) ∗ E c) := by
  unfold E reg1
  exact RegionSeg.ofHeldIn_post sub1 c

/-- Region 2 as a segment, -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => iprop(emp)) (fun _ => iprop(emp)) launch2.toP rfl (fun c => (Bwd.body_obligation (W5 m) c).loose)
    (fun _ _ => rfl) (fun _ => rfl) (fun c => (Bwd.dat (W5 m) c).share_full fun _ => rfl)
    (Bwd.hin (W5 m)) (Bwd.hout (W5 m)) (fun _ => 0) (cut 2) (fun _ => iprop(emp)) (W5 m) (fun c w => Bwd.A_eq (W5 m) c w)

theorem sub2 : Pipeline.arrRefs (τ := τ) (pcfgs (F := F) 2).spec ⊆ Pipeline.ucRefs τ sig :=
  Pipeline.arrRefs_sub_ucRefs (τ := τ) spec2 (by decide)

/-- entered from the buffers and left with them. -/
theorem pre2 (c : Dev nD) : iprop(StableHlo.held (c : Thread nD τ) (Pipeline.ucRefs τ sig) (W5 m c) ∗ E c) ⊢ (reg2 m).pre c := by
  unfold E reg2
  exact RegionSeg.ofHeldIn_pre (pcs := pcfgs (F := F)) (a := adm) (pdats := pdats m) (ι := ()) (defs₀ := defs₀) (𝒱₀ := Variants.none) (L := L) (lv := lv) (p := 2) (D := fun _ => 0)
    (X := fun _ => iprop(emp)) (Y := fun _ => iprop(emp)) (R := fun _ => iprop(emp)) (W := W5 m) sub2 c

theorem post2 (c : Dev nD) : (reg2 m).post c ⊢ iprop(StableHlo.held (c : Thread nD τ) (Pipeline.ucRefs τ sig) (W6 m c) ∗ E c) := by
  unfold E reg2
  exact RegionSeg.ofHeldIn_post sub2 c

/-- The program as a list of segments. -/
def segs : List (Seg (pcfgs (F := F)) adm (pdats m) () defs₀ Variants.none L lv) :=
  [.host (host hostOps0 hostOps0_sub hostOps0_fresh (W0 m)), .region (reg0 m), .host (host hostOps1 hostOps1_sub hostOps1_fresh (W2 m)), .region (reg1 m),
    .host (host hostOps2 hostOps2_sub hostOps2_fresh (W4 m)), .region (reg2 m), .host (host hostOps3 hostOps3_sub hostOps3_fresh (W6 m))]

/-- THE RUN: from any memory with zero counters every weakly fair execution ends, with every buffer at `W7` and every
    counter at zero. -/
theorem run : θ_run defs (onTc (τ := τ) (main (F := F))) ⟨m, fun _ => 0, ρ⟩
    (fun r => (∀ c : Dev nD, ∀ b ∈ Pipeline.ucRefs τ sig, r.2.mem (c, b) = W7 m c b) ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W7 m c))
    (hch := fun c => ⟨.rfl, pre0 m c, post0 m c, pre1 m c, post1 m c, pre2 m c, post2 m c, sep_mono .rfl (by unfold E; iintro ⟨H, -⟩; iexact H)⟩)
    (hinit := ?_) (QY := fun c s => ∀ b ∈ Pipeline.ucRefs τ sig, s.mem (c, b) = W7 m c b)
    (hfin := fun c s' => ?_) (hQ := fun _ h hz => ⟨h, funext fun g => hz g (.inr (regions_no_unscoped g.2))⟩)
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (W0 m c) ∗ E c) : sProp 𝕄) := fun c => by
      rw [← Pipeline.unscopedBufs_held (Ix := Unit) (Name := ℕ) (U := UR sig nD τ) (Lvl := ℕ) c (W0 m c)]
      unfold E
      iintro ⟨H, -, Ho, -⟩
      isplitl [H]; · iexact H
      isplitl [Ho]; · iexists _; iexact Ho
      isplitr <;> iempintro
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E c) : sProp 𝕄) :=
      bigSep_mono fun c _ => hone c
    iintro ⟨H, -⟩
    imodintro
    iapply hall; iexact H
  · unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro; exact h
    · iexact HSI

theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- A buffer nothing writes ends as launched. -/
theorem kept (c : Dev nD) (r : Ref sig .tc) (h0 : r ∉ hostOps0_W) (h1 : r ∉ hostOps1_W) (h2 : r ∉ hostOps2_W) (h3 : r ∉ hostOps3_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) : W7 m c r = m ((c : Thread nD τ).loc r) :=
  (StableHlo.after_of_writes_sub hostOps3 _ hostOps3_writes h3).trans <|
  (Pipeline.afterRegion_keeps (Bwd.dat (W5 m) c) _ launch2.win.arr_inj (Bwd.A_eq (W5 m) c) r g2).trans <|
  (StableHlo.after_of_writes_sub hostOps2 _ hostOps2_writes h2).trans <|
  (Pipeline.afterRegion_keeps (Fwd.dat (W3 m) c) _ launch1.win.arr_inj (Fwd.A_eq (W3 m) c) r g1).trans <|
  (StableHlo.after_of_writes_sub hostOps1 _ hostOps1_writes h1).trans <|
  (Pipeline.afterRegion_keeps (Pro.dat (W1 m) c) _ launch0.win.arr_inj (Pro.A_eq (W1 m) c) r g0).trans <|
  StableHlo.after_of_writes_sub hostOps0 _ hostOps0_writes h0

theorem kept_arg0 (c : Dev nD) : W7 m c main_arg0 = m ((c : Thread nD τ).loc main_arg0) :=
  kept m c main_arg0 (by decide) (by decide) (by decide) (by decide) (by decide) (by decide) (by decide)
theorem mem_arg0 : Proc.devRef .tc main_arg0 ∈ Pipeline.ucRefs τ sig := mem_uc main_arg0 (by decide)

theorem kept_arg1 (c : Dev nD) : W7 m c main_arg1 = m ((c : Thread nD τ).loc main_arg1) :=
  kept m c main_arg1 (by decide) (by decide) (by decide) (by decide) (by decide) (by decide) (by decide)
theorem mem_arg1 : Proc.devRef .tc main_arg1 ∈ Pipeline.ucRefs τ sig := mem_uc main_arg1 (by decide)

theorem kept_arg2 (c : Dev nD) : W7 m c main_arg2 = m ((c : Thread nD τ).loc main_arg2) :=
  kept m c main_arg2 (by decide) (by decide) (by decide) (by decide) (by decide) (by decide) (by decide)
theorem mem_arg2 : Proc.devRef .tc main_arg2 ∈ Pipeline.ucRefs τ sig := mem_uc main_arg2 (by decide)

theorem kept_arg3 (c : Dev nD) : W7 m c main_arg3 = m ((c : Thread nD τ).loc main_arg3) :=
  kept m c main_arg3 (by decide) (by decide) (by decide) (by decide) (by decide) (by decide) (by decide)
theorem mem_arg3 : Proc.devRef .tc main_arg3 ∈ Pipeline.ucRefs τ sig := mem_uc main_arg3 (by decide)

theorem kept_arg4 (c : Dev nD) : W7 m c main_arg4 = m ((c : Thread nD τ).loc main_arg4) :=
  kept m c main_arg4 (by decide) (by decide) (by decide) (by decide) (by decide) (by decide) (by decide)
theorem mem_arg4 : Proc.devRef .tc main_arg4 ∈ Pipeline.ucRefs τ sig := mem_uc main_arg4 (by decide)

theorem kept_arg5 (c : Dev nD) : W7 m c main_arg5 = m ((c : Thread nD τ).loc main_arg5) :=
  kept m c main_arg5 (by decide) (by decide) (by decide) (by decide) (by decide) (by decide) (by decide)
theorem mem_arg5 : Proc.devRef .tc main_arg5 ∈ Pipeline.ucRefs τ sig := mem_uc main_arg5 (by decide)

theorem kept_arg6 (c : Dev nD) : W7 m c main_arg6 = m ((c : Thread nD τ).loc main_arg6) :=
  kept m c main_arg6 (by decide) (by decide) (by decide) (by decide) (by decide) (by decide) (by decide)
theorem mem_arg6 : Proc.devRef .tc main_arg6 ∈ Pipeline.ucRefs τ sig := mem_uc main_arg6 (by decide)

theorem kept_arg7 (c : Dev nD) : W7 m c main_arg7 = m ((c : Thread nD τ).loc main_arg7) :=
  kept m c main_arg7 (by decide) (by decide) (by decide) (by decide) (by decide) (by decide) (by decide)
theorem mem_arg7 : Proc.devRef .tc main_arg7 ∈ Pipeline.ucRefs τ sig := mem_uc main_arg7 (by decide)

theorem kept_arg8 (c : Dev nD) : W7 m c main_arg8 = m ((c : Thread nD τ).loc main_arg8) :=
  kept m c main_arg8 (by decide) (by decide) (by decide) (by decide) (by decide) (by decide) (by decide)
theorem mem_arg8 : Proc.devRef .tc main_arg8 ∈ Pipeline.ucRefs τ sig := mem_uc main_arg8 (by decide)

theorem kept_arg9 (c : Dev nD) : W7 m c main_arg9 = m ((c : Thread nD τ).loc main_arg9) :=
  kept m c main_arg9 (by decide) (by decide) (by decide) (by decide) (by decide) (by decide) (by decide)
theorem mem_arg9 : Proc.devRef .tc main_arg9 ∈ Pipeline.ucRefs τ sig := mem_uc main_arg9 (by decide)

theorem kept_arg10 (c : Dev nD) : W7 m c main_arg10 = m ((c : Thread nD τ).loc main_arg10) :=
  kept m c main_arg10 (by decide) (by decide) (by decide) (by decide) (by decide) (by decide) (by decide)
theorem mem_arg10 : Proc.devRef .tc main_arg10 ∈ Pipeline.ucRefs τ sig := mem_uc main_arg10 (by decide)

theorem kept_arg11 (c : Dev nD) : W7 m c main_arg11 = m ((c : Thread nD τ).loc main_arg11) :=
  kept m c main_arg11 (by decide) (by decide) (by decide) (by decide) (by decide) (by decide) (by decide)
theorem mem_arg11 : Proc.devRef .tc main_arg11 ∈ Pipeline.ucRefs τ sig := mem_uc main_arg11 (by decide)

/-- THE FRAME: the arguments end as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(h.1 c _ mem_arg0).trans (kept_arg0 m c), (h.1 c _ mem_arg1).trans (kept_arg1 m c), (h.1 c _ mem_arg2).trans (kept_arg2 m c), (h.1 c _ mem_arg3).trans (kept_arg3 m c), (h.1 c _ mem_arg4).trans (kept_arg4 m c), (h.1 c _ mem_arg5).trans (kept_arg5 m c), (h.1 c _ mem_arg6).trans (kept_arg6 m c), (h.1 c _ mem_arg7).trans (kept_arg7 m c), (h.1 c _ mem_arg8).trans (kept_arg8 m c), (h.1 c _ mem_arg9).trans (kept_arg9 m c), (h.1 c _ mem_arg10).trans (kept_arg10 m c), (h.1 c _ mem_arg11).trans (kept_arg11 m c)⟩, h.2⟩) (run m ρ)

end Cert.KernelIdeal.Run

end
-- ==== Proof.Math.Exp.lean ====
/- Facts about exponentials and logarithms of extended reals: base 2 against base e, and how a rescaling of a sum of
   exponentials moves its offset. The scale `c` is log₂ e, that is 1 / log 2. -/
module

public import Idealize.ShloMosaic.PureOps.Ideal

@[expose] public section

noncomputable section

namespace Cert.Math

open Idealize.ShloMosaic

/-- log₂ e. -/
abbrev lb : EReal := (((Real.log 2)⁻¹ : ℝ) : EReal)

/-- ln 2. -/
abbrev ln2 : EReal := ((Real.log 2 : ℝ) : EReal)

theorem log2_pos : (0 : ℝ) < Real.log 2 := Real.log_pos (by norm_num)

theorem inv_log2_pos : (0 : ℝ) < (Real.log 2)⁻¹ := inv_pos.mpr log2_pos

/-- A positive real factor distributes over a sum of extended reals. -/
theorem pos_mul_add {r : ℝ} (hr : 0 < r) (a b : EReal) : (r : EReal) * (a + b) = r * a + r * b :=
  EReal.left_distrib_of_nonneg_of_ne_top (by exact_mod_cast hr.le) (EReal.coe_ne_top r) a b

/-- … and over a difference. -/
theorem pos_mul_sub {r : ℝ} (hr : 0 < r) (a b : EReal) : (r : EReal) * (a - b) = r * a - r * b := by
  rw [sub_eq_add_neg, pos_mul_add hr, mul_neg, ← sub_eq_add_neg]

/-- … and over a finite sum. -/
theorem pos_mul_sum {r : ℝ} (hr : 0 < r) {ι : Type*} (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, pos_mul_add hr, ih]

/-- A positive real factor keeps the order, so it moves through a maximum. -/
theorem pos_mul_max {r : ℝ} (hr : 0 < r) (a b : EReal) : (r : EReal) * max a b = max (r * a) (r * b) := by
  have hm : Monotone fun x : EReal => (r : EReal) * x :=
    fun x y h => mul_le_mul_of_nonneg_left h (by exact_mod_cast hr.le)
  exact hm.map_max

theorem ln2_mul_lb (x : EReal) : ln2 * (lb * x) = x := by
  rw [← mul_assoc]
  have : ln2 * lb = 1 := by
    show ((Real.log 2 : ℝ) : EReal) * (((Real.log 2)⁻¹ : ℝ) : EReal) = 1
    rw [← EReal.coe_mul, mul_inv_cancel₀ log2_pos.ne']; rfl
  rw [this, one_mul]

theorem lb_mul_ln2 (x : EReal) : lb * x * ln2 = x := by
  rw [mul_comm]; exact ln2_mul_lb x

/-- 2 to the power of `x` times log₂ e is e to the power of `x`. -/
theorem exp2_lb (x : EReal) : Ideal.exp2 (lb * x) = Ideal.exp x := by
  induction x using EReal.rec with
  | bot => rw [EReal.coe_mul_bot_of_pos inv_log2_pos]; rfl
  | top => rw [EReal.coe_mul_top_of_pos inv_log2_pos]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = _
    rw [Real.rpow_def_of_pos (by norm_num), ← mul_assoc, mul_inv_cancel₀ log2_pos.ne', one_mul]

theorem exp2_nonneg (x : EReal) : 0 ≤ Ideal.exp2 x := by
  induction x using EReal.rec with
  | bot => exact le_rfl
  | top => exact le_top
  | coe r =>
    show (0 : EReal) ≤ ((Real.rpow 2 r : ℝ) : EReal)
    exact_mod_cast Real.rpow_nonneg (by norm_num) r

theorem exp2_bot : Ideal.exp2 ⊥ = 0 := rfl

/-- A term measured from `a`, rescaled by the distance from `a` up to `b`, is the term measured from `b`. -/
theorem exp2_shift {z a b : EReal} (hz : z ≤ a) (hab : a ≤ b) :
    Ideal.exp2 (z - a) * Ideal.exp2 (a - b) = Ideal.exp2 (z - b) := by
  induction b using EReal.rec with
  | bot =>
    have ha : a = ⊥ := le_bot_iff.mp hab
    have hz' : z = ⊥ := le_bot_iff.mp (ha ▸ hz)
    subst ha; subst hz'
    simp [exp2_bot]
  | top => simp [exp2_bot]
  | coe b =>
    induction a using EReal.rec with
    | bot =>
      have hz' : z = ⊥ := le_bot_iff.mp hz
      subst hz'; simp [exp2_bot]
    | top => exact absurd hab (by simp)
    | coe a =>
      induction z using EReal.rec with
      | bot => simp [exp2_bot]
      | top => exact absurd hz (by simp)
      | coe z =>
        rw [← EReal.coe_sub, ← EReal.coe_sub, ← EReal.coe_sub]
        show ((Real.rpow 2 (z - a) : ℝ) : EReal) * ((Real.rpow 2 (a - b) : ℝ) : EReal) = ((Real.rpow 2 (z - b) : ℝ) : EReal)
        rw [← EReal.coe_mul]
        congr 1
        show (2 : ℝ) ^ (z - a) * (2 : ℝ) ^ (a - b) = (2 : ℝ) ^ (z - b)
        rw [← Real.rpow_add (by norm_num)]; congr 1; ring

/-- The same for a sum of terms, none above `a`. -/
theorem sum_exp2_shift {ι : Type*} (s : Finset ι) (z : ι → EReal) {a b : EReal} (hz : ∀ i ∈ s, z i ≤ a) (hab : a ≤ b) :
    (∑ i ∈ s, Ideal.exp2 (z i - a)) * Ideal.exp2 (a - b) = ∑ i ∈ s, Ideal.exp2 (z i - b) := by
  classical
  induction s using Finset.induction_on with
  | empty => simp
  | insert i s hi ih =>
    rw [Finset.sum_insert hi, Finset.sum_insert hi,
      EReal.right_distrib_of_nonneg (exp2_nonneg _) (Finset.sum_nonneg fun j _ => exp2_nonneg _),
      exp2_shift (hz i (Finset.mem_insert_self _ _)) hab, ih fun j hj => hz j (Finset.mem_insert_of_mem hj)]

end Cert.Math

end
-- ==== Proof.Math.Online.lean ====
/- A row of 32000 columns read 256 at a time into 128 lanes, each lane keeping the maximum it has seen and the sum of
   exponentials measured from that maximum: what the lanes hold after `n` tiles, and what the row's maximum and sum
   over the lanes are after the last. Columns are numbered by natural numbers: column 128 j + l falls in lane l. -/
module

public import proofs.«01_k».proof.Proof.Math.Exp

@[expose] public section

noncomputable section

namespace Cert.Math

open Idealize.ShloMosaic

/-- The maximum lane `l` has seen after `n` half tiles. -/
def laneMax (z : ℕ → EReal) (l n : ℕ) : EReal := (Finset.range n).sup fun j => z (128 * j + l)

/-- The sum of the exponentials of lane `l` after `n` half tiles, measured from `a`. -/
def laneSum (z : ℕ → EReal) (l n : ℕ) (a : EReal) : EReal := ∑ j ∈ Finset.range n, Ideal.exp2 (z (128 * j + l) - a)

theorem laneMax_zero (z : ℕ → EReal) (l : ℕ) : laneMax z l 0 = ⊥ := by simp [laneMax]

theorem laneSum_zero (z : ℕ → EReal) (l : ℕ) (a : EReal) : laneSum z l 0 a = 0 := by simp [laneSum]

/-- One more tile: the maximum. -/
theorem laneMax_step (z : ℕ → EReal) (l n : ℕ) :
    max (laneMax z l (2 * n)) (max (z (256 * n + l)) (z (256 * n + (128 + l)))) = laneMax z l (2 * (n + 1)) := by
  have e : 2 * (n + 1) = 2 * n + 1 + 1 := by ring
  have e0 : 128 * (2 * n) + l = 256 * n + l := by ring
  have e1 : 128 * (2 * n + 1) + l = 256 * n + (128 + l) := by ring
  unfold laneMax
  rw [e, Finset.range_add_one, Finset.sup_insert, Finset.range_add_one, Finset.sup_insert, e0, e1]
  show max _ (max _ _) = max _ (max _ _)
  rw [max_comm, max_assoc, max_left_comm]

theorem le_laneMax (z : ℕ → EReal) (l n j : ℕ) (h : j ∈ Finset.range n) : z (128 * j + l) ≤ laneMax z l n :=
  Finset.le_sup (f := fun j => z (128 * j + l)) h

/-- A lane's sum, rescaled from its maximum to anything above it. -/
theorem laneSum_shift (z : ℕ → EReal) (l n : ℕ) {b : EReal} (h : laneMax z l n ≤ b) :
    laneSum z l n (laneMax z l n) * Ideal.exp2 (laneMax z l n - b) = laneSum z l n b :=
  sum_exp2_shift _ _ (le_laneMax z l n) h

/-- One more tile: the sum, rescaled to the new maximum. -/
theorem laneSum_step (z : ℕ → EReal) (l n : ℕ) {b : EReal} (h : laneMax z l (2 * n) ≤ b) :
    laneSum z l (2 * n) (laneMax z l (2 * n)) * Ideal.exp2 (laneMax z l (2 * n) - b) + Ideal.exp2 (z (256 * n + l) - b)
      + Ideal.exp2 (z (256 * n + (128 + l)) - b) = laneSum z l (2 * (n + 1)) b := by
  have e : 2 * (n + 1) = 2 * n + 1 + 1 := by ring
  have e0 : 128 * (2 * n) + l = 256 * n + l := by ring
  have e1 : 128 * (2 * n + 1) + l = 256 * n + (128 + l) := by ring
  rw [laneSum_shift z l _ h]
  unfold laneSum
  rw [e, Finset.sum_range_succ, Finset.sum_range_succ, e0, e1]

/-- A sum over 128 lanes of each lane's terms is the sum over all columns. -/
theorem sum_lanes {M : Type*} [AddCommMonoid M] (f : ℕ → M) (n : ℕ) :
    ∑ l ∈ Finset.range 128, ∑ j ∈ Finset.range n, f (128 * j + l) = ∑ v ∈ Finset.range (128 * n), f v := by
  induction n with
  | zero => simp
  | succ n ih =>
    simp only [Finset.sum_range_succ _ n, Finset.sum_add_distrib]
    rw [ih, Nat.mul_succ, Finset.sum_range_add]

/-- The maximum over 128 lanes of each lane's maximum is the maximum over all columns. -/
theorem sup_lanes (z : ℕ → EReal) (n : ℕ) :
    (Finset.range 128).sup (fun l => laneMax z l n) = (Finset.range (128 * n)).sup z := by
  apply le_antisymm
  · refine Finset.sup_le fun l hl => Finset.sup_le fun j hj => ?_
    refine Finset.le_sup (f := z) (Finset.mem_range.mpr ?_)
    have := Finset.mem_range.mp hl
    have := Finset.mem_range.mp hj
    omega
  · refine Finset.sup_le fun v hv => ?_
    have hv' := Finset.mem_range.mp hv
    have hl : v % 128 ∈ Finset.range 128 := Finset.mem_range.mpr (Nat.mod_lt _ (by norm_num))
    have hj : v / 128 ∈ Finset.range n := Finset.mem_range.mpr (by omega)
    refine le_trans ?_ (Finset.le_sup (f := fun l => laneMax z l n) hl)
    have := le_laneMax z (v % 128) n (v / 128) hj
    rwa [Nat.div_add_mod] at this

/-- The row's sum of exponentials from the lanes'. -/
theorem sum_laneSum (z : ℕ → EReal) (n : ℕ) {b : EReal} (hb : (Finset.range (128 * n)).sup z = b) :
    ∑ l ∈ Finset.range 128, laneSum z l n (laneMax z l n) * Ideal.exp2 (laneMax z l n - b)
      = ∑ v ∈ Finset.range (128 * n), Ideal.exp2 (z v - b) := by
  rw [← sum_lanes]
  refine Finset.sum_congr rfl fun l hl => ?_
  refine laneSum_shift z l n ?_
  rw [← hb, ← sup_lanes]
  exact Finset.le_sup (f := fun l => laneMax z l n) hl

/-- A fold of `max` from −∞ over the first `n` numbers is their supremum. -/
theorem fold_max_eq_sup (n : ℕ) (f : Fin n → EReal) (z : ℕ → EReal) (h : ∀ v : Fin n, f v = z v.val) :
    (Finset.univ : Finset (Fin n)).fold max ⊥ f = (Finset.range n).sup z := by
  have e : (Finset.univ : Finset (Fin n)).fold max ⊥ f = Finset.univ.sup f := rfl
  rw [e]
  apply le_antisymm
  · exact Finset.sup_le fun v _ => h v ▸ Finset.le_sup (f := z) (Finset.mem_range.mpr v.isLt)
  · refine Finset.sup_le fun v hv => ?_
    have := h ⟨v, Finset.mem_range.mp hv⟩
    exact this ▸ Finset.le_sup (f := f) (Finset.mem_univ _)

/-- The supremum of scaled values is the scaled supremum. -/
theorem sup_lb_mul {ι : Type*} (s : Finset ι) (z : ι → EReal) : (s.sup fun i => lb * z i) = lb * s.sup z := by
  classical
  induction s using Finset.induction_on with
  | empty => simp [EReal.coe_mul_bot_of_pos inv_log2_pos]
  | insert a s ha ih =>
    rw [Finset.sup_insert, Finset.sup_insert, ih]
    exact (pos_mul_max inv_log2_pos _ _).symm

end Cert.Math

end
-- ==== Proof.Math.Nibble.lean ====
/- A byte of two four-bit codes, placed in the two halves of a 32-bit word as bf16 numbers: each half is 128 plus its
   code, so taking 128 away leaves the code exactly. -/
module

public import Idealize.ShloMosaic.Lib.IdealHost

@[expose] public section

noncomputable section

namespace Cert.Math

open Idealize.ShloMosaic

/-- The low four bits. -/
def nibLo (p : BitVec 8) : EReal := ((p.toNat % 16 : ℕ) : ℝ)
/-- The high four bits. -/
def nibHi (p : BitVec 8) : EReal := ((p.toNat / 16 : ℕ) : ℝ)

/-- The word the two codes of a byte are placed in. -/
def word (p : BitVec 8) : BitVec 32 :=
  ((p.setWidth 32 ||| (p.setWidth 32).shiftLeft 12) &&& 983055#32) ||| 1124090624#32

theorem word_lo : ∀ n : Fin 256, (word (BitVec.ofFin n)).extractLsb' 0 16 = BitVec.ofNat 16 (17152 + n.val % 16) := by decide +kernel
theorem word_hi : ∀ n : Fin 256, (word (BitVec.ofFin n)).extractLsb' 16 16 = BitVec.ofNat 16 (17152 + n.val / 16) := by decide +kernel

theorem ofBits_128_add : ∀ n : Fin 16, Ideal.ofBits .bf16 (BitVec.ofNat 16 (17152 + n.val)) = (((128 + n.val : ℕ) : ℝ) : EReal) := by
  intro n
  fin_cases n <;> simp [Ideal.ofBits, Ideal.ieee, -EReal.coe_mul] <;> norm_num

theorem sub_128 (n : Fin 16) : Ideal.ofBits .bf16 (BitVec.ofNat 16 (17152 + n.val)) - Ideal.ofBits .bf16 17152#16 = ((n.val : ℝ) : EReal) := by
  have h : Ideal.ofBits .bf16 17152#16 = (((128 + (0 : Fin 16).val : ℕ) : ℝ) : EReal) := ofBits_128_add 0
  rw [ofBits_128_add, h, ← EReal.coe_sub]
  congr 1
  push_cast
  simp

theorem half_lo (p : BitVec 8) : Ideal.ofBits .bf16 ((word p).extractLsb' 0 16) - Ideal.ofBits .bf16 17152#16 = nibLo p := by
  have h := word_lo p.toFin
  rw [show BitVec.ofFin p.toFin = p from rfl] at h
  rw [h]
  exact sub_128 ⟨p.toNat % 16, by omega⟩

theorem half_hi (p : BitVec 8) : Ideal.ofBits .bf16 ((word p).extractLsb' 16 16) - Ideal.ofBits .bf16 17152#16 = nibHi p := by
  have h := word_hi p.toFin
  rw [show BitVec.ofFin p.toFin = p from rfl] at h
  rw [h]
  exact sub_128 ⟨p.toNat / 16, by have := p.isLt; omega⟩

end Cert.Math

end
-- ==== Proof.Spec.lean ====
/- The values both programs compute, on the extended reals: the rows' norms, the quantised student rows, the two rows of
   logits, their log-sum-exps, the loss and the two gradients. -/
module

public import Idealize.ShloMosaic.Lib.Pointwise
public import proofs.«01_k».proof.Proof.Math.Nibble

@[expose] public section

noncomputable section

namespace Cert.Spec

open Idealize.ShloMosaic

/-- The float an f32 word holds. -/
abbrev f32 (b : BitVec 32) : EReal := Ideal.ofBits .f32 b

/-- The root mean square of a row, the mean taken with the divisor `n` and regularised by 1e-6. -/
def rms {N : ℕ} (n : BitVec 32) (x : Fin N → EReal) : EReal :=
  Ideal.sqrt (Ideal.div (∑ k, x k * x k) (f32 n) + f32 897988541#32)

/-- A teacher row, normalised with its gain. -/
def ht (h g : Fin 2560 → EReal) (k : Fin 2560) : EReal := Ideal.div (h k) (rms 1159725056#32 h) * g k

/-- The reciprocal root mean square of a student row. -/
def rr (x : Fin 1024 → EReal) : EReal := Ideal.div 1 (rms 1149239296#32 x)

/-- A student row, normalised with its gain. -/
def yy (x g : Fin 1024 → EReal) (k : Fin 1024) : EReal := x k * rr x * g k

/-- The greatest magnitude in a row. -/
def amax (y : Fin 1024 → EReal) : EReal := Finset.fold max (f32 4286578688#32) (fun k => FloatOps.absf (F := Ideal) (φ := .f32) (y k)) Finset.univ

/-- The row's quantisation scale. -/
def qscale (y : Fin 1024 → EReal) : EReal :=
  if amax y = 0 then 1 else Ideal.div (amax y) (f32 1138753536#32)

/-- A quantised entry. -/
def code (y : Fin 1024 → EReal) (k : Fin 1024) : EReal :=
  min (f32 1138753536#32) (max (f32 3286237184#32) (Ideal.div (y k) (qscale y)))

/-- The log-sum-exp of a row. -/
def lse {n : ℕ} (z : Fin n → EReal) : EReal :=
  Finset.fold max (f32 4286578688#32) z Finset.univ
    + Ideal.log (∑ v, Ideal.exp (z v - Finset.fold max (f32 4286578688#32) z Finset.univ))

/-- The weight of token `i`: one over the token count where the token is between its prompt and its end, else zero. -/
def tok (pl tl : Fin 3 → BitVec 32) (n : BitVec 32) (i : Fin 1536) : EReal :=
  Ideal.div (FloatOps.uitofp (F := Ideal) FTy.f32
      (IntOp.andi (IntOp.cmpi .sge (BitVec.ofNat 32 (i.val % 512)) (pl ⟨i.val / 512, by omega⟩))
        (IntOp.cmpi .slt (BitVec.ofNat 32 (i.val % 512)) (tl ⟨i.val / 512, by omega⟩))))
    (FloatOps.sitofp (F := Ideal) FTy.f32 n)

/-- The arguments as the mathematics reads them: one row per token. -/
structure Args where
  X : Fin 1536 → Fin 1024 → EReal
  H : Fin 1536 → Fin 2560 → EReal
  gs : Fin 1024 → EReal
  gt : Fin 2560 → EReal
  P : Fin 1280 → Fin 32000 → BitVec 8
  sc : Fin 20 → Fin 32000 → EReal
  zr : Fin 20 → Fin 32000 → EReal
  W : Fin 32000 → Fin 1024 → EReal
  ws : Fin 32000 → EReal
  tok : Fin 1536 → EReal

/-- The arguments, from the twelve arrays. -/
def ofRaw (a0 : Vec Ideal ⟨3, ![3, 512, 1024]⟩ .bf16) (a1 : Vec Ideal ⟨3, ![3, 512, 2560]⟩ .bf16) (a2 : Vec Ideal ⟨1, ![1024]⟩ .f32)
    (a3 : Vec Ideal ⟨1, ![2560]⟩ .f32) (a4 : Vec Ideal ⟨2, ![1280, 32000]⟩ .i8) (a5 a6 : Vec Ideal ⟨2, ![20, 32000]⟩ .f32)
    (a7 : Vec Ideal ⟨2, ![32000, 1024]⟩ .fp8e4m3) (a8 : Vec Ideal ⟨1, ![32000]⟩ .f32) (a9 a10 : Vec Ideal ⟨1, ![3]⟩ .i32)
    (a11 : Vec Ideal ⟨1, ![1]⟩ .i32) : Args where
  X i k := a0 (ix3 (⟨i.val / 512, by omega⟩ : Fin 3) (⟨i.val % 512, by omega⟩ : Fin 512) k)
  H i k := a1 (ix3 (⟨i.val / 512, by omega⟩ : Fin 3) (⟨i.val % 512, by omega⟩ : Fin 512) k)
  gs k := a2 (ix1 k)
  gt k := a3 (ix1 k)
  P e v := a4 (ix2 e v)
  sc g v := a5 (ix2 g v)
  zr g v := a6 (ix2 g v)
  W v k := a7 (ix2 v k)
  ws v := a8 (ix1 v)
  tok := tok (fun b => a9 (ix1 b)) (fun b => a10 (ix1 b)) (a11 (ix1 0))

namespace Args

variable (a : Args)

/-- The code of input feature `x` for column `v`: even features in the low halves of the bytes, odd ones in the high. -/
def nib (x : Fin 2560) (v : Fin 32000) : EReal :=
  if x.val % 2 = 0 then Math.nibLo (a.P ⟨x.val / 2, by omega⟩ v) else Math.nibHi (a.P ⟨x.val / 2, by omega⟩ v)

/-- The dequantised teacher weight. -/
def wt (x : Fin 2560) (v : Fin 32000) : EReal :=
  (a.nib x v - a.zr ⟨x.val / 128, by omega⟩ v) * a.sc ⟨x.val / 128, by omega⟩ v

/-- The normalised teacher row of token `i`, -/
def t (i : Fin 1536) : Fin 2560 → EReal := ht (a.H i) a.gt
/-- the normalised student row, -/
def y (i : Fin 1536) : Fin 1024 → EReal := yy (a.X i) a.gs

/-- the teacher's logits over the temperature 2, -/
def zt (i : Fin 1536) (v : Fin 32000) : EReal :=
  Ideal.div (∑ e : Fin 1280, a.t i ⟨2 * e.val, by omega⟩ * a.wt ⟨2 * e.val, by omega⟩ v
    + ∑ e : Fin 1280, a.t i ⟨1 + 2 * e.val, by omega⟩ * a.wt ⟨1 + 2 * e.val, by omega⟩ v) (f32 1073741824#32)

/-- the student's, -/
def zs (i : Fin 1536) (v : Fin 32000) : EReal :=
  Ideal.div ((∑ k, code (a.y i) k * a.W v k) * qscale (a.y i) * a.ws v) (f32 1073741824#32)

/-- the loss, -/
def loss (i : Fin 1536) : EReal :=
  a.tok i * ∑ v, Ideal.exp (a.zt i v - lse (a.zt i)) * (a.zt i v - lse (a.zt i) - (a.zs i v - lse (a.zs i)))

/-- the gradient of the normalised student row, -/
def dy (i : Fin 1536) (k : Fin 1024) : EReal :=
  Ideal.div (a.tok i) (f32 1073741824#32)
    * ∑ v, (Ideal.exp (a.zs i v - lse (a.zs i)) - Ideal.exp (a.zt i v - lse (a.zt i))) * (a.W v k * a.ws v)

/-- and the gradient of the student row. -/
def dx (i : Fin 1536) (k : Fin 1024) : EReal :=
  rr (a.X i) * (a.dy i k * a.gs k - a.X i k * rr (a.X i)
    * Ideal.div (∑ x, a.dy i x * a.gs x * (a.X i x * rr (a.X i))) (f32 1149239296#32))

end Args

end Cert.Spec

end
-- ==== Proof.Math.Base2.lean ====
/- The kernel works in base 2: its logits are log₂ e times the mathematical ones. What that makes of a row's
   log-sum-exp (read through 128 lanes), of a probability and of a term of the divergence; and the sum over the
   teacher's 2560 input features as the sum over the even ones plus the sum over the odd ones. -/
module

public import proofs.«01_k».proof.Proof.Math.Online
public import proofs.«01_k».proof.Proof.Spec

@[expose] public section

noncomputable section

namespace Cert.Math

open Idealize.ShloMosaic

theorem bits_two : Ideal.ofBits .f32 1073741824#32 = ((2 : ℝ) : EReal) := by
  simp [Ideal.ofBits, Ideal.ieee, -EReal.coe_mul]; norm_num

theorem bits_neg_inf : Ideal.ofBits .f32 4286578688#32 = ⊥ := by simp [Ideal.ofBits, Ideal.ieee]

theorem log_two : Ideal.log (Ideal.ofBits .f32 1073741824#32) = ln2 := by
  rw [bits_two]
  show (if (2 : ℝ) ≤ 0 then (⊥ : EReal) else ((Real.log 2 : ℝ) : EReal)) = _
  rw [if_neg (by norm_num)]

theorem div_two (x : EReal) : Ideal.div x (Ideal.ofBits .f32 1073741824#32) = x * ((1 / 2 : ℝ) : EReal) := by
  rw [bits_two]; exact Ideal.div_coe (by norm_num) x

/-- Half of log₂ e, as a factor. -/
abbrev halfLb : EReal := (((Real.log 2)⁻¹ * (1 / 2) : ℝ) : EReal)

theorem halfLb_eq : halfLb = lb * ((1 / 2 : ℝ) : EReal) := EReal.coe_mul _ _

theorem scale_half (x : EReal) : x * halfLb = lb * Ideal.div x (Ideal.ofBits .f32 1073741824#32) := by
  rw [div_two, halfLb_eq, mul_left_comm]

theorem scale_half_mid (x s w : EReal) :
    x * (s * halfLb) * w = lb * Ideal.div (x * s * w) (Ideal.ofBits .f32 1073741824#32) := by
  rw [← scale_half]
  simp only [mul_assoc, mul_comm, mul_left_comm]

/-- A probability in base 2 is the probability. -/
theorem exp2_sub (z s : EReal) : Ideal.exp2 (lb * z - lb * s) = Ideal.exp (z - s) := by
  rw [← pos_mul_sub inv_log2_pos, exp2_lb]

/-- A term of the divergence in base 2 is log₂ e times the term. -/
theorem term_eq (a b c d : EReal) :
    Ideal.exp2 (lb * a - lb * b) * (lb * a - lb * b - (lb * c - lb * d)) = lb * (Ideal.exp (a - b) * (a - b - (c - d))) := by
  rw [exp2_sub, ← pos_mul_sub inv_log2_pos, ← pos_mul_sub inv_log2_pos, ← pos_mul_sub inv_log2_pos, mul_left_comm]

/-- The divergence in base 2, times ln 2, is the divergence. -/
theorem ln2_sum {n : ℕ} (f : Fin n → EReal) : ln2 * ∑ v, lb * f v = ∑ v, f v := by
  rw [← pos_mul_sum inv_log2_pos, ln2_mul_lb]

theorem sum_range {n : ℕ} (f : Fin n → EReal) (g : ℕ → EReal) (h : ∀ v : Fin n, g v.val = f v) : ∑ v ∈ Finset.range n, g v = ∑ v, f v := by
  rw [Finset.sum_range]; exact Finset.sum_congr rfl fun v _ => h v

/-- The row's log-sum-exp through the lanes, in base 2, is log₂ e times the row's log-sum-exp. -/
theorem lanes_lse (z : Fin 32000 → EReal) (z2 : ℕ → EReal) (h : ∀ v : Fin 32000, z2 v.val = lb * z v) :
    Finset.fold max (Ideal.ofBits .f32 4286578688#32) (fun l : Fin 128 => laneMax z2 l.val 250) Finset.univ
      + Ideal.log (∑ l : Fin 128, laneSum z2 l.val 250 (laneMax z2 l.val 250)
          * Ideal.exp2 (laneMax z2 l.val 250 - Finset.fold max (Ideal.ofBits .f32 4286578688#32) (fun l : Fin 128 => laneMax z2 l.val 250) Finset.univ)) * lb
      = lb * Spec.lse z := by
  have hM : Finset.fold max (Ideal.ofBits .f32 4286578688#32) (fun l : Fin 128 => laneMax z2 l.val 250) Finset.univ = (Finset.range (128 * 250)).sup z2 := by
    rw [bits_neg_inf, fold_max_eq_sup 128 _ (fun l => laneMax z2 l 250) (fun _ => rfl), sup_lanes]
  have hN : (Finset.range (128 * 250)).sup z2 = lb * Finset.fold max (Ideal.ofBits .f32 4286578688#32) z Finset.univ := by
    have e : (Finset.range (128 * 250)).sup z2 = (Finset.univ : Finset (Fin 32000)).fold max ⊥ (fun v => lb * z v) :=
      (fold_max_eq_sup 32000 (fun v => lb * z v) z2 fun v => (h v).symm).symm
    rw [e, bits_neg_inf]
    exact sup_lb_mul Finset.univ z
  rw [hM]
  have hS : (∑ l : Fin 128, laneSum z2 l.val 250 (laneMax z2 l.val 250) * Ideal.exp2 (laneMax z2 l.val 250 - (Finset.range (128 * 250)).sup z2))
      = ∑ v, Ideal.exp (z v - Finset.fold max (Ideal.ofBits .f32 4286578688#32) z Finset.univ) := by
    refine (sum_range _ (fun l => laneSum z2 l 250 (laneMax z2 l 250) * Ideal.exp2 (laneMax z2 l 250 - (Finset.range (128 * 250)).sup z2)) fun _ => rfl).symm.trans ?_
    refine (sum_laneSum z2 250 rfl).trans ?_
    refine sum_range (n := 32000) _ _ fun v => ?_
    rw [hN, h v, exp2_sub]
  rw [hS, hN]
  unfold Spec.lse
  rw [pos_mul_add inv_log2_pos, mul_comm (Ideal.log _)]

/-- The sum over the features, as the even ones' and the odd ones'. -/
theorem sum_halves (f : Fin 2560 → EReal) :
    ∑ x, f x = ∑ e : Fin 1280, f ⟨2 * e.val, by omega⟩ + ∑ e : Fin 1280, f ⟨1 + 2 * e.val, by omega⟩ := by
  have aux : ∀ (n : ℕ) (g : ℕ → EReal), ∑ x ∈ Finset.range (2 * n), g x = ∑ e ∈ Finset.range n, g (2 * e) + ∑ e ∈ Finset.range n, g (1 + 2 * e) := by
    intro n g
    induction n with
    | zero => simp
    | succ n ih =>
      rw [show 2 * (n + 1) = 2 * n + 1 + 1 by ring, Finset.sum_range_succ, Finset.sum_range_succ, ih, Finset.sum_range_succ, Finset.sum_range_succ,
        show 1 + 2 * n = 2 * n + 1 by ring]
      abel
  have g : ∀ x : Fin 2560, (fun n : ℕ => f (Fin.ofNat 2560 n)) x.val = f x := fun x => congrArg f (Fin.ext (Nat.mod_eq_of_lt x.isLt))
  have g0 : ∀ e : Fin 1280, (fun n : ℕ => f (Fin.ofNat 2560 (2 * n))) e.val = f ⟨2 * e.val, by omega⟩ :=
    fun e => congrArg f (Fin.ext (Nat.mod_eq_of_lt (by have := e.isLt; omega)))
  have g1 : ∀ e : Fin 1280, (fun n : ℕ => f (Fin.ofNat 2560 (1 + 2 * n))) e.val = f ⟨1 + 2 * e.val, by omega⟩ :=
    fun e => congrArg f (Fin.ext (Nat.mod_eq_of_lt (by have := e.isLt; omega)))
  have s : ∑ x ∈ Finset.range 2560, f (Fin.ofNat 2560 x) = ∑ x, f x := sum_range f (fun n : ℕ => f (Fin.ofNat 2560 n)) g
  have s0 : ∑ e ∈ Finset.range 1280, f (Fin.ofNat 2560 (2 * e)) = ∑ e : Fin 1280, f ⟨2 * e.val, by omega⟩ :=
    sum_range (fun e : Fin 1280 => f ⟨2 * e.val, by omega⟩) (fun n : ℕ => f (Fin.ofNat 2560 (2 * n))) g0
  have s1 : ∑ e ∈ Finset.range 1280, f (Fin.ofNat 2560 (1 + 2 * e)) = ∑ e : Fin 1280, f ⟨1 + 2 * e.val, by omega⟩ :=
    sum_range (fun e : Fin 1280 => f ⟨1 + 2 * e.val, by omega⟩) (fun n : ℕ => f (Fin.ofNat 2560 (1 + 2 * n))) g1
  rw [← s, ← s0, ← s1]
  exact aux 1280 _

theorem sitofp_lo (p : BitVec 8) : FloatOps.sitofp (F := Ideal) FTy.bf16 (IntOp.andi (p.setWidth 32) 15#32) = nibLo p := by
  have h : ∀ n : Fin 256, (IntOp.andi ((BitVec.ofFin n : BitVec 8).setWidth 32) 15#32).toInt = ((n.val % 16 : ℕ) : ℤ) := by decide +kernel
  have h' := h p.toFin
  show (((IntOp.andi (p.setWidth 32) 15#32).toInt : ℝ) : EReal) = _
  rw [show BitVec.ofFin p.toFin = p from rfl] at h'
  rw [h']
  unfold nibLo
  norm_cast

theorem sitofp_hi (p : BitVec 8) : FloatOps.sitofp (F := Ideal) FTy.bf16 (IntOp.shrsi ArithUnit.host (p.setWidth 32) 4#32) = nibHi p := by
  have h : ∀ n : Fin 256, (IntOp.shrsi ArithUnit.host ((BitVec.ofFin n : BitVec 8).setWidth 32) 4#32).toInt = ((n.val / 16 : ℕ) : ℤ) := by decide +kernel
  have h' := h p.toFin
  show (((IntOp.shrsi ArithUnit.host (p.setWidth 32) 4#32).toInt : ℝ) : EReal) = _
  rw [show BitVec.ofFin p.toFin = p from rfl] at h'
  rw [h']
  unfold nibHi
  norm_cast

end Cert.Math

end
-- ==== Proof.KernelIdeal.Host.lean ====
/- What the kernel's host operations leave, entry by entry, from any contents they start at. -/
module

public import proofs.«01_k».proof.Proof.Gen.KernelIdeal.Launch
public import proofs.«01_k».proof.Proof.Math.Base2
public import Idealize.ShloMosaic.Lib.Pointwise
public import Idealize.ShloMosaic.Lib.Claim
public import Idealize.ShloMosaic.Lib.StableHlo.RunRead

@[expose] public section

set_option maxRecDepth 16384

noncomputable section

namespace Cert.KernelIdeal.Host

open Cert.KernelIdeal.Gen
open Idealize.ShloMosaic Idealize.ShloMosaic.TcCoe
open Idealize.ShloMosaic.Pointwise

variable (A : Valuation τ sig (Elt Ideal))

/-- The arguments the buffers hold. -/
def args : Spec.Args :=
  Spec.ofRaw (A main_arg0) (A main_arg1) (A main_arg2) (A main_arg3) (A main_arg4) (A main_arg5) (A main_arg6) (A main_arg7)
    (A main_arg8) (A main_arg9) (A main_arg10) (A main_arg11)

/-- The row of batch `b`, position `s`. -/
def tokRow (b : Fin 3) (s : Fin 512) : Fin 1536 := ⟨b.val * 512 + s.val, by omega⟩

theorem v0 (i : Fin 1536) (k : Fin 1024) : StableHlo.after hostOps0 A main_v0 (ix2 i k) = (args A).X i k := by
  after_reads_simp
  pointwise []
  try rfl

theorem v1 (i : Fin 1536) (k : Fin 2560) : StableHlo.after hostOps0 A main_v1 (ix2 i k) = (args A).H i k := by
  after_reads_simp
  pointwise []
  try rfl

theorem v2 (k : Fin 1024) : StableHlo.after hostOps0 A main_v2 (ix2 0 k) = (args A).gs k := by
  after_reads_simp
  pointwise []
  try rfl

theorem v3 (k : Fin 2560) : StableHlo.after hostOps0 A main_v3 (ix2 0 k) = (args A).gt k := by
  after_reads_simp
  pointwise []
  try rfl

theorem v5 (v : Fin 32000) : StableHlo.after hostOps1 A main_v5 (ix2 0 v) = (args A).ws v := by
  after_reads_simp
  pointwise []
  try rfl

theorem v23 (i : Fin 1536) : StableHlo.after hostOps2 A main_v23 (ix2 i 0) = (args A).tok i := by
  after_reads_simp
  pointwise []
  try rfl

theorem v24 (v : Fin 32000) : StableHlo.after hostOps2 A main_v24 (ix2 v 0) = (args A).ws v := by
  after_reads_simp
  pointwise []
  try rfl

theorem v29 (b : Fin 3) (s : Fin 512) : StableHlo.after hostOps3 A main_v29 (ix2 b s) = A main_v25_2 (ix2 (tokRow b s) 0) := by
  after_reads_simp
  pointwise []
  try rfl

/-- The log-sum-exp results leave base 2 and drop the constant. -/
theorem v36 (b : Fin 3) (s : Fin 512) (l : EReal) (h : A main_v6_2 (ix2 (tokRow b s) 0) = Math.lb * l) :
    StableHlo.after hostOps3 A main_v36 (ix2 b s) = l - Spec.f32 1093007826#32 := by
  after_reads_simp
  pointwise []
  unfold tokRow at h
  rw [h, Math.log_two, Math.lb_mul_ln2]

theorem v43 (b : Fin 3) (s : Fin 512) (l : EReal) (h : A main_v6_3 (ix2 (tokRow b s) 0) = Math.lb * l) :
    StableHlo.after hostOps3 A main_v43 (ix2 b s) = l - Spec.f32 1093007826#32 := by
  after_reads_simp
  pointwise []
  unfold tokRow at h
  rw [h, Math.log_two, Math.lb_mul_ln2]

theorem v44 (b : Fin 3) (s : Fin 512) (k : Fin 1024) : StableHlo.after hostOps3 A main_v44 (ix3 b s k) = A main_v25_1 (ix2 (tokRow b s) k) := by
  after_reads_simp
  pointwise []
  try rfl

theorem v45 (b : Fin 3) (s : Fin 512) (k : Fin 1024) : StableHlo.after hostOps3 A main_v45 (ix3 b s k) = A main_v25_0 (ix2 (tokRow b s) k) := by
  after_reads_simp
  pointwise []
  try rfl

theorem v46 (b : Fin 3) (s : Fin 512) (k : Fin 1024) : StableHlo.after hostOps3 A main_v46 (ix3 b s k) = A main_v4_1 (ix2 (tokRow b s) k) := by
  after_reads_simp
  pointwise []
  try rfl

theorem v49 (b : Fin 3) (s : Fin 512) : StableHlo.after hostOps3 A main_v49 (ix2 b s) = A main_v4_2 (ix2 (tokRow b s) 0) := by
  after_reads_simp
  pointwise []
  try rfl

end Cert.KernelIdeal.Host

end
-- ==== Proof.KernelIdeal.ProPay.lean ====
/- What the prologue body writes, entry by entry. -/
module

public import proofs.«01_k».proof.Proof.KernelIdeal.ProBody
public import proofs.«01_k».proof.Proof.Spec
public import Idealize.ShloMosaic.Lib.Pointwise

@[expose] public section

set_option maxRecDepth 16384

noncomputable section

namespace Cert.KernelIdeal.Pay

open Cert.KernelIdeal.Gen
open Idealize.ShloMosaic
open Idealize.ShloMosaic.Pointwise

theorem pro_ht (x : Vec Ideal S128x2560 .bf16) (g : Vec Ideal S1x2560 .f32) (i : Fin 128) (k : Fin 2560) :
    k0_pay5 x g (ix2 i k) = Spec.ht (fun k => x (ix2 i k)) (fun k => g (ix2 0 k)) k := by
  pointwise [k0_pay5]
  rfl

theorem pro_scale (x : Vec Ideal S128x1024 .bf16) (g : Vec Ideal S1x1024 .f32) (i : Fin 128) (k : Fin 128) :
    k0_pay3 (k0_pay9 x g) (ix2 i k) = Spec.qscale (Spec.yy (fun k => x (ix2 i k)) (fun k => g (ix2 0 k))) := by
  pointwise [k0_pay3, k0_pay8, k0_pay9, k0_pay7, k0_pay1, k0_pay6]
  rfl

theorem pro_code (x : Vec Ideal S128x1024 .bf16) (g : Vec Ideal S1x1024 .f32) (i : Fin 128) (k : Fin 1024) :
    k0_pay2 (k0_pay8 x g) (k0_pay9 x g) (ix2 i k) = Spec.code (Spec.yy (fun k => x (ix2 i k)) (fun k => g (ix2 0 k))) k := by
  pointwise [k0_pay2, k0_pay8, k0_pay9, k0_pay7, k0_pay1, k0_pay6]
  rfl

theorem pro_r (x : Vec Ideal S128x1024 .bf16) (i : Fin 128) (k : Fin 128) :
    k0_pay4 (k0_pay7 x) (ix2 i k) = Spec.rr (fun k => x (ix2 i k)) := by
  pointwise [k0_pay4, k0_pay7, k0_pay6]
  rfl

end Cert.KernelIdeal.Pay

end
-- ==== Proof.KernelIdeal.ProValue.lean ====
/- What the prologue call's output arrays hold after it, entry by entry, from the arrays it finds. -/
module

public import proofs.«01_k».proof.Proof.KernelIdeal.ProRegion
public import proofs.«01_k».proof.Proof.KernelIdeal.ProPay
public import Idealize.ShloMosaic.Lib.Pipeline.ValueKit
public import Idealize.ShloMosaic.Lib.ValueIdx

@[expose] public section

set_option maxRecDepth 16384

noncomputable section

namespace Cert.KernelIdeal.Pro

open Cert.KernelIdeal.Gen
open Idealize.ShloMosaic Idealize.ShloMosaic.TcCoe Idealize.ShloMosaic.Pipeline

variable (V : Dev nD → Valuation τ sig (Elt Ideal)) (c : Dev nD)

/-- Row `r` of the block of 128 rows at point `t`. -/
def row (t : Fin cfg0.N) (r : Fin 128) : Fin 1536 := ⟨128 * t.val + r.val, by have := Nat.lt_of_lt_of_eq t.isLt N_0; omega⟩

theorem x0_at (t : Fin cfg0.N) (r : Fin 128) (k : Fin 1024) : (ins V c t).x0 (ix2 r k) = V c main_v0 (ix2 (row t r) k) := by
  have e : ∀ t : Fin cfg0.N, win0_0.index t = ![t.val, 0] := (by decide +kernel : ∀ t : Fin grid0.N, _)
  refine congrArg (V c main_v0) ?_
  blk_ext [e, row]
theorem x1_at (t : Fin cfg0.N) (r : Fin 128) (k : Fin 2560) : (ins V c t).x1 (ix2 r k) = V c main_v1 (ix2 (row t r) k) := by
  have e : ∀ t : Fin cfg0.N, win0_1.index t = ![t.val, 0] := (by decide +kernel : ∀ t : Fin grid0.N, _)
  refine congrArg (V c main_v1) ?_
  blk_ext [e, row]
theorem x2_at (t : Fin cfg0.N) (k : Fin 1024) : (ins V c t).x2 (ix2 0 k) = V c main_v2 (ix2 0 k) := by
  have e : ∀ t : Fin cfg0.N, win0_2.index t = ![0, 0] := (by decide +kernel : ∀ t : Fin grid0.N, _)
  refine congrArg (V c main_v2) ?_
  blk_ext [e]
theorem x3_at (t : Fin cfg0.N) (k : Fin 2560) : (ins V c t).x3 (ix2 0 k) = V c main_v3 (ix2 0 k) := by
  have e : ∀ t : Fin cfg0.N, win0_3.index t = ![0, 0] := (by decide +kernel : ∀ t : Fin grid0.N, _)
  refine congrArg (V c main_v3) ?_
  blk_ext [e]

theorem ht_emb (t : Fin cfg0.N) (r : Fin 128) (k : Fin 2560) : (win0_4.blk t).view.emb (ix2 r k) = ix2 (row t r) k := by
  have e : ∀ t : Fin cfg0.N, win0_4.index t = ![t.val, 0] := (by decide +kernel : ∀ t : Fin grid0.N, _)
  blk_ext [e, row]

/-- The normalised teacher rows. -/
theorem ht_final (i : Fin 1536) (k : Fin 2560) : (dat V c).arrAt 4 cfg0.N (ix2 i k) = Spec.ht (fun k => V c main_v1 (ix2 i k)) (fun k => V c main_v3 (ix2 0 k)) k := by
  have key : (dat V c).arrAt 4 cfg0.N = (fun j => (fun (i : Fin 1536) (k : Fin 2560) => Spec.ht (fun k => V c main_v1 (ix2 i k)) (fun k => V c main_v3 (ix2 0 k)) k) (j 0) (j 1)) := by
    refine (dat V c).arrAt_eq_of_covers 4 _ (by decide +kernel) fun t hf y => ?_
    blk_simp
    rw [after_4]
    obtain ⟨r, k, rfl⟩ : ∃ (r : Fin 128) (k : Fin 2560), y = ix2 r k := ⟨y 0, y 1, eq_ix2 y⟩
    refine (Pay.pro_ht _ _ r k).trans ?_
    simp only [x0_at, x1_at, x2_at, x3_at]
    rw [ht_emb]
    rfl
  rw [key]; rfl

theorem code_emb (t : Fin cfg0.N) (r : Fin 128) (k : Fin 1024) : (win0_5.blk t).view.emb (ix2 r k) = ix2 (row t r) k := by
  have e : ∀ t : Fin cfg0.N, win0_5.index t = ![t.val, 0] := (by decide +kernel : ∀ t : Fin grid0.N, _)
  blk_ext [e, row]

/-- The quantised student rows. -/
theorem code_final (i : Fin 1536) (k : Fin 1024) : (dat V c).arrAt 5 cfg0.N (ix2 i k) = Spec.code (Spec.yy (fun k => V c main_v0 (ix2 i k)) (fun k => V c main_v2 (ix2 0 k))) k := by
  have key : (dat V c).arrAt 5 cfg0.N = (fun j => (fun (i : Fin 1536) (k : Fin 1024) => Spec.code (Spec.yy (fun k => V c main_v0 (ix2 i k)) (fun k => V c main_v2 (ix2 0 k))) k) (j 0) (j 1)) := by
    refine (dat V c).arrAt_eq_of_covers 5 _ (by decide +kernel) fun t hf y => ?_
    blk_simp
    rw [after_5]
    obtain ⟨r, k, rfl⟩ : ∃ (r : Fin 128) (k : Fin 1024), y = ix2 r k := ⟨y 0, y 1, eq_ix2 y⟩
    refine (Pay.pro_code _ _ r k).trans ?_
    simp only [x0_at, x1_at, x2_at, x3_at]
    rw [code_emb]
    rfl
  rw [key]; rfl

theorem scale_emb (t : Fin cfg0.N) (r : Fin 128) (k : Fin 128) : (win0_6.blk t).view.emb (ix2 r k) = ix2 (row t r) k := by
  have e : ∀ t : Fin cfg0.N, win0_6.index t = ![t.val, 0] := (by decide +kernel : ∀ t : Fin grid0.N, _)
  blk_ext [e, row]

/-- The quantisation scales. -/
theorem scale_final (i : Fin 1536) (k : Fin 128) : (dat V c).arrAt 6 cfg0.N (ix2 i k) = Spec.qscale (Spec.yy (fun k => V c main_v0 (ix2 i k)) (fun k => V c main_v2 (ix2 0 k))) := by
  have key : (dat V c).arrAt 6 cfg0.N = (fun j => (fun (i : Fin 1536) (k : Fin 128) => Spec.qscale (Spec.yy (fun k => V c main_v0 (ix2 i k)) (fun k => V c main_v2 (ix2 0 k)))) (j 0) (j 1)) := by
    refine (dat V c).arrAt_eq_of_covers 6 _ (by decide +kernel) fun t hf y => ?_
    blk_simp
    rw [after_6]
    obtain ⟨r, k, rfl⟩ : ∃ (r : Fin 128) (k : Fin 128), y = ix2 r k := ⟨y 0, y 1, eq_ix2 y⟩
    refine (Pay.pro_scale _ _ r k).trans ?_
    simp only [x0_at, x1_at, x2_at, x3_at]
    rw [scale_emb]
    rfl
  rw [key]; rfl

theorem r_emb (t : Fin cfg0.N) (r : Fin 128) (k : Fin 128) : (win0_7.blk t).view.emb (ix2 r k) = ix2 (row t r) k := by
  have e : ∀ t : Fin cfg0.N, win0_7.index t = ![t.val, 0] := (by decide +kernel : ∀ t : Fin grid0.N, _)
  blk_ext [e, row]

/-- The reciprocal root mean squares. -/
theorem r_final (i : Fin 1536) (k : Fin 128) : (dat V c).arrAt 7 cfg0.N (ix2 i k) = Spec.rr (fun k => V c main_v0 (ix2 i k)) := by
  have key : (dat V c).arrAt 7 cfg0.N = (fun j => (fun (i : Fin 1536) (k : Fin 128) => Spec.rr (fun k => V c main_v0 (ix2 i k))) (j 0) (j 1)) := by
    refine (dat V c).arrAt_eq_of_covers 7 _ (by decide +kernel) fun t hf y => ?_
    blk_simp
    rw [after_7]
    obtain ⟨r, k, rfl⟩ : ∃ (r : Fin 128) (k : Fin 128), y = ix2 r k := ⟨y 0, y 1, eq_ix2 y⟩
    refine (Pay.pro_r _ r k).trans ?_
    simp only [x0_at, x1_at, x2_at, x3_at]
    rw [r_emb]
    rfl
  rw [key]; rfl

end Cert.KernelIdeal.Pro

end
-- ==== Proof.KernelIdeal.FwdPay.lean ====
/- What the forward body writes, entry by entry, and one step of its running maxima and sums. -/
module

public import proofs.«01_k».proof.Proof.KernelIdeal.FwdBody
public import Idealize.ShloMosaic.Lib.Pointwise
public import Idealize.ShloMosaic.Lib.BitcastPair
public import Idealize.ShloMosaic.Lib.Pipeline.ValueKit
public import proofs.«01_k».proof.Proof.Math.Nibble

@[expose] public section

set_option maxRecDepth 16384

noncomputable section

namespace Cert.KernelIdeal.Pay

open Cert.KernelIdeal.Gen
open Idealize.ShloMosaic
open Idealize.ShloMosaic.Pointwise

variable (X : Fwd.In Ideal) (s : Fwd.St Ideal)

/-- Column `l` of the first half of a tile. -/
def lo (l : Fin 128) : Fin 256 := ⟨l.val, by omega⟩
/-- Column `l` of the second half of a tile. -/
def hi (l : Fin 128) : Fin 256 := ⟨128 + l.val, by omega⟩

theorem fwd_mt (i : Fin 1536) (l : Fin 128) :
    (X.step s).mt (ix2 i l) = max (s.mt (ix2 i l)) (max (X.zt (ix2 i (lo l))) (X.zt (ix2 i (hi l)))) := by
  dsimp only [Fwd.In.step]
  pointwise [k1_pay15, k1_pay13, k1_pay12, k1_pay10, k1_pay11]
  rfl

theorem fwd_lt (i : Fin 1536) (l : Fin 128) :
    (X.step s).lt (ix2 i l) = s.lt (ix2 i l) * Ideal.exp2 (s.mt (ix2 i l) - (X.step s).mt (ix2 i l))
      + Ideal.exp2 (X.zt (ix2 i (lo l)) - (X.step s).mt (ix2 i l)) + Ideal.exp2 (X.zt (ix2 i (hi l)) - (X.step s).mt (ix2 i l)) := by
  rw [fwd_mt]
  dsimp only [Fwd.In.step]
  pointwise [k1_pay14, k1_pay15, k1_pay12, k1_pay10, k1_pay11, k1_pay13]
  rfl

theorem fwd_ms (i : Fin 1536) (l : Fin 128) :
    (X.step s).ms (ix2 i l) = max (s.ms (ix2 i l)) (max (X.zs (ix2 i (lo l))) (X.zs (ix2 i (hi l)))) := by
  dsimp only [Fwd.In.step]
  pointwise [k1_pay2, k1_pay17, k1_pay18, k1_pay19]
  rfl

theorem fwd_ls (i : Fin 1536) (l : Fin 128) :
    (X.step s).ls (ix2 i l) = s.ls (ix2 i l) * Ideal.exp2 (s.ms (ix2 i l) - (X.step s).ms (ix2 i l))
      + Ideal.exp2 (X.zs (ix2 i (lo l)) - (X.step s).ms (ix2 i l)) + Ideal.exp2 (X.zs (ix2 i (hi l)) - (X.step s).ms (ix2 i l)) := by
  rw [fwd_ms]
  dsimp only [Fwd.In.step]
  pointwise [k1_pay1, k1_pay2, k1_pay17, k1_pay18, k1_pay19]
  rfl

theorem fwd_init_mt (i : Fin 1536) (l : Fin 128) : Fwd.init.mt (F := Ideal) (ix2 i l) = Ideal.ofBits .f32 4286578688#32 := by
  dsimp only [Fwd.init]; pointwise [k1_pay5]
theorem fwd_init_lt (i : Fin 1536) (l : Fin 128) : Fwd.init.lt (F := Ideal) (ix2 i l) = 0 := by
  dsimp only [Fwd.init]; pointwise [k1_pay7]
theorem fwd_init_ms (i : Fin 1536) (l : Fin 128) : Fwd.init.ms (F := Ideal) (ix2 i l) = Ideal.ofBits .f32 4286578688#32 := by
  dsimp only [Fwd.init]; pointwise [k1_pay6]
theorem fwd_init_ls (i : Fin 1536) (l : Fin 128) : Fwd.init.ls (F := Ideal) (ix2 i l) = 0 := by
  dsimp only [Fwd.init]; pointwise [k1_pay8]

/-- The row's log-sum-exp in base 2, from its lanes' maxima and sums. -/
def lseLanes (m l : Fin 128 → EReal) : EReal :=
  Finset.fold max (Ideal.ofBits .f32 4286578688#32) m Finset.univ
    + Ideal.log (∑ x, l x * Ideal.exp2 (m x - Finset.fold max (Ideal.ofBits .f32 4286578688#32) m Finset.univ)) * Named.named (F := Ideal) (φ := .f32) κ "log2e" 1069066811#32

theorem fwd_lse_t (m l : Vec Ideal S1536x128 .f32) (i : Fin 1536) (k : Fin 128) :
    k1_pay3 m l (ix2 i k) = lseLanes (fun x => m (ix2 i x)) (fun x => l (ix2 i x)) := by
  pointwise [k1_pay3]
  rfl

theorem fwd_lse_s (m l : Vec Ideal S1536x128 .f32) (i : Fin 1536) (k : Fin 128) :
    k1_pay4 m l (ix2 i k) = lseLanes (fun x => m (ix2 i x)) (fun x => l (ix2 i x)) := by
  pointwise [k1_pay4]
  rfl

theorem col0_at {a b : ℕ} (x : Vec Ideal ⟨2, ![a, b + 1]⟩ .f32) (inb) (i : Fin a) : Whole.col0 x inb (ix2 i 0) = x (ix2 i 0) := by
  unfold Whole.col0
  congr 1
  funext d
  apply Fin.ext
  rw [Rect.idx_unit_val]
  fin_cases d <;> exact Nat.zero_add _

theorem fwd_zs (i : Fin 1536) (k : Fin 256) :
    X.zs (ix2 i k) = (∑ x, X.x1 (ix2 i x) * X.x6 (ix2 k x)) * (X.x2 (ix2 i 0) * Named.named (F := Ideal) (φ := .f32) κ "half_log2e" 1060678203#32) * X.x7 (ix2 0 k) := by
  unfold Fwd.In.zs
  pointwise [k1_pay16]
  rw [col0_at]

/-- The code of input feature `x` in a tile's packed bytes: bytes hold features 2 r and 2 r + 1. -/
def nib (P : Vec Ideal S1280x256 .i8) (x : Fin 2560) (k : Fin 256) : EReal :=
  if x.val % 2 = 0 then Math.nibLo (P (ix2 ⟨x.val / 2, by omega⟩ k)) else Math.nibHi (P (ix2 ⟨x.val / 2, by omega⟩ k))

theorem nib_eq (P : Vec Ideal S1280x256 .i8) (x : Fin 2560) (k : Fin 256) :
    Ideal.ofBits FTy.bf16 (bitcast S2560x256 16
        (ori (andi (ori (extui 32 P natLt_8_32) (shli (extui 32 P natLt_8_32) (broadcast S1280x256 12#32))) (broadcast S1280x256 983055#32))
          (broadcast S1280x256 1124090624#32)) bitcasts_S1280x256_w32_S2560x256_w16 (ix2 x k)) - Ideal.ofBits FTy.bf16 17152#16
      = nib P x k := by
  rw [bitcast_32_16]
  have hrow : Shape.row (s := S2560x256) (ix2 x k) = x.val := rfl
  have hsrc : ∀ hp, bitcasts_S1280x256_w32_S2560x256_w16.srcIdx (ix2 x k) (Shape.row (s := S2560x256) (ix2 x k) / 2) hp = ix2 ⟨x.val / 2, by omega⟩ k := by
    intro hp
    funext d
    fin_cases d <;> rfl
  rw [hsrc, hrow]
  have hw : (ori (andi (ori (extui 32 P natLt_8_32) (shli (extui 32 P natLt_8_32) (broadcast S1280x256 12#32))) (broadcast S1280x256 983055#32))
          (broadcast S1280x256 1124090624#32)) (ix2 ⟨x.val / 2, by omega⟩ k) = Math.word (P (ix2 ⟨x.val / 2, by omega⟩ k)) := by rfl
  rw [hw]
  unfold nib
  split
  · rename_i h; rw [h]; exact Math.half_lo _
  · rename_i h; rw [show x.val % 2 = 1 by omega]; exact Math.half_hi _

theorem fwd_zt (i : Fin 1536) (k : Fin 256) :
    X.zt (ix2 i k) = (∑ x : Fin 2560, X.x0 (ix2 i x) * ((nib X.x3 x k - X.x5 (ix2 ⟨x.val / 128, by omega⟩ k)) * X.x4 (ix2 ⟨x.val / 128, by omega⟩ k)))
      * Named.named (F := Ideal) (φ := .f32) κ "half_log2e" 1060678203#32 := by
  unfold Fwd.In.zt
  pointwise [k1_pay9]
  simp only [nib_eq]

end Cert.KernelIdeal.Pay

end
-- ==== Proof.KernelIdeal.FwdValue.lean ====
/- What the forward call's output arrays hold after it, entry by entry, from the arrays it finds: the two arrays of
   logits, and the two log-sum-exps as they come out of the lanes. -/
module

public import proofs.«01_k».proof.Proof.KernelIdeal.FwdRegion
public import proofs.«01_k».proof.Proof.KernelIdeal.FwdPay
public import proofs.«01_k».proof.Proof.Math.Online
public import Idealize.ShloMosaic.Lib.Pipeline.ValueKit
public import Idealize.ShloMosaic.Lib.ValueIdx

@[expose] public section

set_option maxRecDepth 16384

noncomputable section

namespace Cert.KernelIdeal.Fwd

open Cert.KernelIdeal.Gen
open Idealize.ShloMosaic Idealize.ShloMosaic.TcCoe Idealize.ShloMosaic.Pipeline

variable (V : Dev nD → Valuation τ sig (Elt Ideal)) (c : Dev nD)

/-- Column `k` of the tile of 256 columns at point `t`. -/
def col (t : Fin cfg1.N) (k : Fin 256) : Fin 32000 := ⟨256 * t.val + k.val, by have := Nat.lt_of_lt_of_eq t.isLt N_1; omega⟩

theorem x0_at (t : Fin cfg1.N) (a : Fin 1536) (b : Fin 2560) : (ins V c t).x0 (ix2 a b) = V c main_v4_0 (ix2 a b) := by
  have e : ∀ t : Fin cfg1.N, win1_0.index t = ![0, 0] := (by decide +kernel : ∀ t : Fin grid1.N, _)
  refine congrArg (V c main_v4_0) ?_
  blk_ext [e, col]
theorem x1_at (t : Fin cfg1.N) (a : Fin 1536) (b : Fin 1024) : (ins V c t).x1 (ix2 a b) = V c main_v4_1 (ix2 a b) := by
  have e : ∀ t : Fin cfg1.N, win1_1.index t = ![0, 0] := (by decide +kernel : ∀ t : Fin grid1.N, _)
  refine congrArg (V c main_v4_1) ?_
  blk_ext [e, col]
theorem x2_at (t : Fin cfg1.N) (a : Fin 1536) (b : Fin 128) : (ins V c t).x2 (ix2 a b) = V c main_v4_2 (ix2 a b) := by
  have e : ∀ t : Fin cfg1.N, win1_2.index t = ![0, 0] := (by decide +kernel : ∀ t : Fin grid1.N, _)
  refine congrArg (V c main_v4_2) ?_
  blk_ext [e, col]
theorem x3_at (t : Fin cfg1.N) (a : Fin 1280) (b : Fin 256) : (ins V c t).x3 (ix2 a b) = V c main_arg4 (ix2 a (col t b)) := by
  have e : ∀ t : Fin cfg1.N, win1_3.index t = ![0, t.val] := (by decide +kernel : ∀ t : Fin grid1.N, _)
  refine congrArg (V c main_arg4) ?_
  blk_ext [e, col]
theorem x4_at (t : Fin cfg1.N) (a : Fin 20) (b : Fin 256) : (ins V c t).x4 (ix2 a b) = V c main_arg5 (ix2 a (col t b)) := by
  have e : ∀ t : Fin cfg1.N, win1_4.index t = ![0, t.val] := (by decide +kernel : ∀ t : Fin grid1.N, _)
  refine congrArg (V c main_arg5) ?_
  blk_ext [e, col]
theorem x5_at (t : Fin cfg1.N) (a : Fin 20) (b : Fin 256) : (ins V c t).x5 (ix2 a b) = V c main_arg6 (ix2 a (col t b)) := by
  have e : ∀ t : Fin cfg1.N, win1_5.index t = ![0, t.val] := (by decide +kernel : ∀ t : Fin grid1.N, _)
  refine congrArg (V c main_arg6) ?_
  blk_ext [e, col]
theorem x6_at (t : Fin cfg1.N) (a : Fin 256) (b : Fin 1024) : (ins V c t).x6 (ix2 a b) = V c main_arg7 (ix2 (col t a) b) := by
  have e : ∀ t : Fin cfg1.N, win1_6.index t = ![t.val, 0] := (by decide +kernel : ∀ t : Fin grid1.N, _)
  refine congrArg (V c main_arg7) ?_
  blk_ext [e, col]
theorem x7_at (t : Fin cfg1.N) (a : Fin 1) (b : Fin 256) : (ins V c t).x7 (ix2 a b) = V c main_v5 (ix2 a (col t b)) := by
  have e : ∀ t : Fin cfg1.N, win1_7.index t = ![0, t.val] := (by decide +kernel : ∀ t : Fin grid1.N, _)
  refine congrArg (V c main_v5) ?_
  blk_ext [e, col]

/-- The code of input feature `x` for column `v`. -/
def nibV (x : Fin 2560) (v : Fin 32000) : EReal :=
  if x.val % 2 = 0 then Math.nibLo (V c main_arg4 (ix2 (⟨x.val / 2, by omega⟩ : Fin 1280) v)) else Math.nibHi (V c main_arg4 (ix2 (⟨x.val / 2, by omega⟩ : Fin 1280) v))

/-- The dequantised teacher weight of input feature `x` for column `v`. -/
def wtV (x : Fin 2560) (v : Fin 32000) : EReal :=
  (nibV V c x v - V c main_arg6 (ix2 (⟨x.val / 128, by omega⟩ : Fin 20) v)) * V c main_arg5 (ix2 (⟨x.val / 128, by omega⟩ : Fin 20) v)

/-- The entries the logits are made of. -/
def htV (i : Fin 1536) (x : Fin 2560) : EReal := V c main_v4_0 (ix2 i x)
def codeV (i : Fin 1536) (x : Fin 1024) : EReal := V c main_v4_1 (ix2 i x)
def scaleV (i : Fin 1536) : EReal := V c main_v4_2 (ix2 i (0 : Fin 128))
def wV (v : Fin 32000) (x : Fin 1024) : EReal := V c main_arg7 (ix2 v x)
def wsV (v : Fin 32000) : EReal := V c main_v5 (ix2 (0 : Fin 1) v)

/-- The teacher's logits in base 2. -/
def ztV (i : Fin 1536) (v : Fin 32000) : EReal :=
  (∑ x : Fin 2560, htV V c i x * wtV V c x v) * Named.named (F := Ideal) (φ := .f32) κ "half_log2e" 1060678203#32

/-- The student's logits in base 2. -/
def zsV (i : Fin 1536) (v : Fin 32000) : EReal :=
  (∑ x : Fin 1024, codeV V c i x * wV V c v x)
    * (scaleV V c i * Named.named (F := Ideal) (φ := .f32) κ "half_log2e" 1060678203#32) * wsV V c v

theorem ins_zt (t : Fin cfg1.N) (i : Fin 1536) (k : Fin 256) : (ins V c t).zt (ix2 i k) = ztV V c i (col t k) := by
  rw [Pay.fwd_zt]
  simp only [Pay.nib, x0_at, x3_at, x4_at, x5_at]
  rfl

theorem ins_zs (t : Fin cfg1.N) (i : Fin 1536) (k : Fin 256) : (ins V c t).zs (ix2 i k) = zsV V c i (col t k) := by
  rw [Pay.fwd_zs]
  simp only [x1_at, x2_at, x6_at, x7_at]
  rfl

theorem zt_emb (t : Fin cfg1.N) (r : Fin 1536) (k : Fin 256) : (win1_8.blk t).view.emb (ix2 r k) = ix2 r (col t k) := by
  have e : ∀ t : Fin cfg1.N, win1_8.index t = ![0, t.val] := (by decide +kernel : ∀ t : Fin grid1.N, _)
  blk_ext [e, col]

/-- The teacher's logits. -/
theorem zt_final (i : Fin 1536) (v : Fin 32000) : (dat V c).arrAt 8 cfg1.N (ix2 i v) = ztV V c i v := by
  have key : (dat V c).arrAt 8 cfg1.N = (fun j => ztV V c (j 0) (j 1)) := by
    refine (dat V c).arrAt_eq_of_covers 8 _ (by decide +kernel) fun t hf y => ?_
    blk_simp
    rw [after_8]
    obtain ⟨r, k, rfl⟩ : ∃ (r : Fin 1536) (k : Fin 256), y = ix2 r k := ⟨y 0, y 1, eq_ix2 y⟩
    refine (ins_zt V c t r k).trans ?_
    rw [zt_emb]
    rfl
  rw [key]; rfl

theorem zs_emb (t : Fin cfg1.N) (r : Fin 1536) (k : Fin 256) : (win1_9.blk t).view.emb (ix2 r k) = ix2 r (col t k) := by
  have e : ∀ t : Fin cfg1.N, win1_9.index t = ![0, t.val] := (by decide +kernel : ∀ t : Fin grid1.N, _)
  blk_ext [e, col]

/-- The student's logits. -/
theorem zs_final (i : Fin 1536) (v : Fin 32000) : (dat V c).arrAt 9 cfg1.N (ix2 i v) = zsV V c i v := by
  have key : (dat V c).arrAt 9 cfg1.N = (fun j => zsV V c (j 0) (j 1)) := by
    refine (dat V c).arrAt_eq_of_covers 9 _ (by decide +kernel) fun t hf y => ?_
    blk_simp
    rw [after_9]
    obtain ⟨r, k, rfl⟩ : ∃ (r : Fin 1536) (k : Fin 256), y = ix2 r k := ⟨y 0, y 1, eq_ix2 y⟩
    refine (ins_zs V c t r k).trans ?_
    rw [zs_emb]
    rfl
  rw [key]; rfl

/-- Columns numbered by natural numbers. -/
def nat (z : Fin 32000 → EReal) (v : ℕ) : EReal := z (Fin.ofNat 32000 v)

theorem nat_lo (z : Fin 32000 → EReal) (t : Fin cfg1.N) (l : Fin 128) : nat z (256 * t.val + l.val) = z (col t (Pay.lo l)) := by
  have := Nat.lt_of_lt_of_eq t.isLt N_1
  unfold nat; congr 1; apply Fin.ext
  show (256 * t.val + l.val) % 32000 = 256 * t.val + l.val
  omega

theorem nat_hi (z : Fin 32000 → EReal) (t : Fin cfg1.N) (l : Fin 128) : nat z (256 * t.val + (128 + l.val)) = z (col t (Pay.hi l)) := by
  have := Nat.lt_of_lt_of_eq t.isLt N_1
  unfold nat; congr 1; apply Fin.ext
  show (256 * t.val + (128 + l.val)) % 32000 = 256 * t.val + (128 + l.val)
  omega

theorem neg_inf : Ideal.ofBits .f32 4286578688#32 = ⊥ := by simp [Ideal.ofBits, Ideal.ieee]

theorem next_eq (t : Fin cfg1.N) : st V c (t.val + 1) = (ins V c t).step (st V c t.val) := by
  rw [st_succ]
  unfold In.next
  split
  · rename_i h
    have := Nat.lt_of_lt_of_eq t.isLt N_1
    have h0 : t.val = 0 := by have := (first_iff t).mp h; omega
    rw [h0]; rfl
  · rfl

/-- What the lanes hold after `n` tiles. -/
theorem st_zt (n : ℕ) (hn : n ≤ 125) (i : Fin 1536) (l : Fin 128) :
    (st V c n).mt (ix2 i l) = Math.laneMax (nat (ztV V c i)) l.val (2 * n)
      ∧ (st V c n).lt (ix2 i l) = Math.laneSum (nat (ztV V c i)) l.val (2 * n) (Math.laneMax (nat (ztV V c i)) l.val (2 * n)) := by
  induction n with
  | zero =>
    refine ⟨?_, ?_⟩
    · rw [Math.laneMax_zero]; exact (Pay.fwd_init_mt i l).trans neg_inf
    · rw [Math.laneSum_zero]; exact Pay.fwd_init_lt i l
  | succ n ih =>
    obtain ⟨hm, hl⟩ := ih (by omega)
    have hN : n < cfg1.N := by rw [show cfg1.N = 125 from N_1]; omega
    have e := next_eq V c ⟨n, hN⟩
    dsimp only at e
    have hmax : (st V c (n + 1)).mt (ix2 i l) = Math.laneMax (nat (ztV V c i)) l.val (2 * (n + 1)) := by
      rw [e, Pay.fwd_mt, ins_zt, ins_zt, hm, ← nat_lo (ztV V c i) ⟨n, hN⟩ l, ← nat_hi (ztV V c i) ⟨n, hN⟩ l]
      exact Math.laneMax_step _ _ _
    refine ⟨hmax, ?_⟩
    rw [← Math.laneSum_step]
    · rw [e, Pay.fwd_lt, ← e, hmax, ins_zt, ins_zt, hm, hl, ← nat_lo (ztV V c i) ⟨n, hN⟩ l, ← nat_hi (ztV V c i) ⟨n, hN⟩ l]
    · rw [← Math.laneMax_step]; exact le_max_left _ _

/-- What the lanes hold after `n` tiles. -/
theorem st_zs (n : ℕ) (hn : n ≤ 125) (i : Fin 1536) (l : Fin 128) :
    (st V c n).ms (ix2 i l) = Math.laneMax (nat (zsV V c i)) l.val (2 * n)
      ∧ (st V c n).ls (ix2 i l) = Math.laneSum (nat (zsV V c i)) l.val (2 * n) (Math.laneMax (nat (zsV V c i)) l.val (2 * n)) := by
  induction n with
  | zero =>
    refine ⟨?_, ?_⟩
    · rw [Math.laneMax_zero]; exact (Pay.fwd_init_ms i l).trans neg_inf
    · rw [Math.laneSum_zero]; exact Pay.fwd_init_ls i l
  | succ n ih =>
    obtain ⟨hm, hl⟩ := ih (by omega)
    have hN : n < cfg1.N := by rw [show cfg1.N = 125 from N_1]; omega
    have e := next_eq V c ⟨n, hN⟩
    dsimp only at e
    have hmax : (st V c (n + 1)).ms (ix2 i l) = Math.laneMax (nat (zsV V c i)) l.val (2 * (n + 1)) := by
      rw [e, Pay.fwd_ms, ins_zs, ins_zs, hm, ← nat_lo (zsV V c i) ⟨n, hN⟩ l, ← nat_hi (zsV V c i) ⟨n, hN⟩ l]
      exact Math.laneMax_step _ _ _
    refine ⟨hmax, ?_⟩
    rw [← Math.laneSum_step]
    · rw [e, Pay.fwd_ls, ← e, hmax, ins_zs, ins_zs, hm, hl, ← nat_lo (zsV V c i) ⟨n, hN⟩ l, ← nat_hi (zsV V c i) ⟨n, hN⟩ l]
    · rw [← Math.laneMax_step]; exact le_max_left _ _

theorem lse_t_emb (t : Fin cfg1.N) (r : Fin 1536) (k : Fin 128) : (win1_10.blk t).view.emb (ix2 r k) = ix2 r k := by
  have e : ∀ t : Fin cfg1.N, win1_10.index t = ![0, 0] := (by decide +kernel : ∀ t : Fin grid1.N, _)
  blk_ext [e]

/-- The log-sum-exp, from the lanes after the last tile. -/
theorem lse_t_final (i : Fin 1536) (k : Fin 128) : (dat V c).arrAt 10 cfg1.N (ix2 i k)
    = Pay.lseLanes (fun l => Math.laneMax (nat (ztV V c i)) l.val 250) (fun l => Math.laneSum (nat (ztV V c i)) l.val 250 (Math.laneMax (nat (ztV V c i)) l.val 250)) := by
  have hl : ∀ t : Fin cfg1.N, (cfg1.win 10).flush t = true → t.val = 124 := (by decide +kernel : ∀ t : Fin grid1.N, win1_10.flush t = true → t.val = 124)
  have key : (dat V c).arrAt 10 cfg1.N = (fun j => (fun i : Fin 1536 => Pay.lseLanes (fun l => Math.laneMax (nat (ztV V c i)) l.val 250) (fun l => Math.laneSum (nat (ztV V c i)) l.val 250 (Math.laneMax (nat (ztV V c i)) l.val 250))) (j 0)) := by
    refine (dat V c).arrAt_eq_of_covers 10 _ (by decide +kernel) fun t hf y => ?_
    have h124 := hl t hf
    blk_simp
    rw [after_10]
    obtain ⟨r, k, rfl⟩ : ∃ (r : Fin 1536) (k : Fin 128), y = ix2 r k := ⟨y 0, y 1, eq_ix2 y⟩
    refine (Pay.fwd_lse_t _ _ r k).trans ?_
    rw [lse_t_emb, h124]
    show Pay.lseLanes (fun x => (st V c 125).mt (ix2 r x)) (fun x => (st V c 125).lt (ix2 r x)) = _
    simp only [(st_zt V c 125 (le_refl _) r _).1, (st_zt V c 125 (le_refl _) r _).2]
    rfl
  rw [key]; rfl

theorem lse_s_emb (t : Fin cfg1.N) (r : Fin 1536) (k : Fin 128) : (win1_11.blk t).view.emb (ix2 r k) = ix2 r k := by
  have e : ∀ t : Fin cfg1.N, win1_11.index t = ![0, 0] := (by decide +kernel : ∀ t : Fin grid1.N, _)
  blk_ext [e]

/-- The log-sum-exp, from the lanes after the last tile. -/
theorem lse_s_final (i : Fin 1536) (k : Fin 128) : (dat V c).arrAt 11 cfg1.N (ix2 i k)
    = Pay.lseLanes (fun l => Math.laneMax (nat (zsV V c i)) l.val 250) (fun l => Math.laneSum (nat (zsV V c i)) l.val 250 (Math.laneMax (nat (zsV V c i)) l.val 250)) := by
  have hl : ∀ t : Fin cfg1.N, (cfg1.win 11).flush t = true → t.val = 124 := (by decide +kernel : ∀ t : Fin grid1.N, win1_11.flush t = true → t.val = 124)
  have key : (dat V c).arrAt 11 cfg1.N = (fun j => (fun i : Fin 1536 => Pay.lseLanes (fun l => Math.laneMax (nat (zsV V c i)) l.val 250) (fun l => Math.laneSum (nat (zsV V c i)) l.val 250 (Math.laneMax (nat (zsV V c i)) l.val 250))) (j 0)) := by
    refine (dat V c).arrAt_eq_of_covers 11 _ (by decide +kernel) fun t hf y => ?_
    have h124 := hl t hf
    blk_simp
    rw [after_11]
    obtain ⟨r, k, rfl⟩ : ∃ (r : Fin 1536) (k : Fin 128), y = ix2 r k := ⟨y 0, y 1, eq_ix2 y⟩
    refine (Pay.fwd_lse_s _ _ r k).trans ?_
    rw [lse_s_emb, h124]
    show Pay.lseLanes (fun x => (st V c 125).ms (ix2 r x)) (fun x => (st V c 125).ls (ix2 r x)) = _
    simp only [(st_zs V c 125 (le_refl _) r _).1, (st_zs V c 125 (le_refl _) r _).2]
    rfl
  rw [key]; rfl

end Cert.KernelIdeal.Fwd

end
-- ==== Proof.KernelIdeal.BwdPay.lean ====
/- What the backward body writes, entry by entry, and one step of its running sums. -/
module

public import proofs.«01_k».proof.Proof.KernelIdeal.BwdBody
public import proofs.«01_k».proof.Proof.KernelIdeal.FwdPay
public import Idealize.ShloMosaic.Lib.Pointwise

@[expose] public section

set_option maxRecDepth 16384

noncomputable section

namespace Cert.KernelIdeal.Pay

open Cert.KernelIdeal.Gen
open Idealize.ShloMosaic
open Idealize.ShloMosaic.Pointwise

variable (X : Bwd.In Ideal) (u : Bwd.St Ideal)

/-- A term of the divergence, all in base 2: the teacher's probability times the difference of the logarithms. -/
def term (zt lt zs ls : EReal) : EReal := Ideal.exp2 (zt - lt) * (zt - lt - (zs - ls))

theorem bwd_acc (i : Fin 256) (k : Fin 1024) :
    (X.step u).acc (ix2 i k) = u.acc (ix2 i k) + ∑ x, (Ideal.exp2 (X.x1 (ix2 i x) - X.x3 (ix2 i 0)) - Ideal.exp2 (X.x0 (ix2 i x) - X.x2 (ix2 i 0)))
      * (X.x4 (ix2 x k) * X.x5 (ix2 x 0)) := by
  dsimp only [Bwd.In.step]
  pointwise [k2_pay1, k2_pay11, k2_pay16, k2_pay12, k2_pay13, k2_pay14]
  rw [col0_at, col0_at]
  rfl

theorem bwd_lacc (i : Fin 256) (l : Fin 128) :
    (X.step u).lacc (ix2 i l) = u.lacc (ix2 i l)
      + (term (X.x0 (ix2 i (lo l))) (X.x2 (ix2 i 0)) (X.x1 (ix2 i (lo l))) (X.x3 (ix2 i 0))
        + term (X.x0 (ix2 i (hi l))) (X.x2 (ix2 i 0)) (X.x1 (ix2 i (hi l))) (X.x3 (ix2 i 0))) := by
  dsimp only [Bwd.In.step]
  pointwise [k2_pay15, k2_pay11, k2_pay16, k2_pay12, k2_pay13, k2_pay14]
  rw [col0_at, col0_at]
  rfl

theorem bwd_init_acc (i : Fin 256) (k : Fin 1024) : Bwd.init.acc (F := Ideal) (ix2 i k) = 0 := by
  dsimp only [Bwd.init]; pointwise [k2_pay9]
theorem bwd_init_lacc (i : Fin 256) (k : Fin 128) : Bwd.init.lacc (F := Ideal) (ix2 i k) = 0 := by
  dsimp only [Bwd.init]; pointwise [k2_pay10]

theorem bwd_dy (i : Fin 256) (k : Fin 1024) :
    X.dy u (ix2 i k) = Ideal.div (X.x6 (ix2 i 0)) (Ideal.ofBits .f32 1073741824#32) * u.acc (ix2 i k) := by
  dsimp only [Bwd.In.dy]
  pointwise [k2_pay5, k2_pay3]

/-- The gradient through the normalisation: `n` the normalised row, `d` the gradient with respect to it, `r` the row's
    reciprocal root mean square. -/
def dxAt (r : EReal) (d n : Fin 1024 → EReal) (k : Fin 1024) : EReal :=
  r * (d k - n k * Ideal.div (∑ x, d x * n x) (Ideal.ofBits .f32 1149239296#32))

theorem bwd_dx (i : Fin 256) (k : Fin 1024) :
    X.dx u (ix2 i k) = dxAt (X.x8 (ix2 i 0)) (fun k => Ideal.div (X.x6 (ix2 i 0)) (Ideal.ofBits .f32 1073741824#32) * u.acc (ix2 i k) * X.x9 (ix2 0 k))
      (fun k => X.x7 (ix2 i k) * X.x8 (ix2 i 0)) k := by
  dsimp only [Bwd.In.dx]
  pointwise [k2_pay2, k2_pay7, k2_pay8, k2_pay6, k2_pay5, k2_pay3]
  simp only [col0_at]
  rfl

theorem bwd_loss (i : Fin 256) (k : Fin 128) :
    X.loss u (ix2 i k) = X.x6 (ix2 i 0) * (Named.named (F := Ideal) (φ := .f32) κ "ln2" 1060205080#32 * ∑ x, u.lacc (ix2 i x)) := by
  dsimp only [Bwd.In.loss]
  pointwise [k2_pay4, k2_pay3]

end Cert.KernelIdeal.Pay

end
-- ==== Proof.KernelIdeal.BwdValue.lean ====
/- What the backward call's output arrays hold after it, entry by entry, from the arrays it finds: the two gradients and
   the loss, as sums over all the columns. -/
module

public import proofs.«01_k».proof.Proof.KernelIdeal.BwdRegion
public import proofs.«01_k».proof.Proof.KernelIdeal.BwdPay
public import proofs.«01_k».proof.Proof.Math.Online
public import Idealize.ShloMosaic.Lib.Pipeline.ValueKit
public import Idealize.ShloMosaic.Lib.ValueIdx

@[expose] public section

set_option maxRecDepth 16384

noncomputable section

namespace Cert.KernelIdeal.Bwd

open Cert.KernelIdeal.Gen
open Idealize.ShloMosaic Idealize.ShloMosaic.TcCoe Idealize.ShloMosaic.Pipeline

variable (V : Dev nD → Valuation τ sig (Elt Ideal)) (c : Dev nD)

/-- Row `r` of the block of 256 rows at point `t`. -/
def row (t : Fin cfg2.N) (r : Fin 256) : Fin 1536 := ⟨256 * (t.val / 125) + r.val, by have := Nat.lt_of_lt_of_eq t.isLt N_2; omega⟩
/-- Column `k` of the tile of 256 columns at point `t`. -/
def col (t : Fin cfg2.N) (k : Fin 256) : Fin 32000 := ⟨256 * (t.val % 125) + k.val, by omega⟩

theorem x0_at (t : Fin cfg2.N) (a : Fin 256) (b : Fin 256) : (ins V c t).x0 (ix2 a b) = V c main_v6_0 (ix2 (row t a) (col t b)) := by
  have e : ∀ t : Fin cfg2.N, win2_0.index t = ![t.val / 125, t.val % 125] := (by decide +kernel : ∀ t : Fin grid2.N, _)
  refine congrArg (V c main_v6_0) ?_
  blk_ext [e, row, col]
theorem x1_at (t : Fin cfg2.N) (a : Fin 256) (b : Fin 256) : (ins V c t).x1 (ix2 a b) = V c main_v6_1 (ix2 (row t a) (col t b)) := by
  have e : ∀ t : Fin cfg2.N, win2_1.index t = ![t.val / 125, t.val % 125] := (by decide +kernel : ∀ t : Fin grid2.N, _)
  refine congrArg (V c main_v6_1) ?_
  blk_ext [e, row, col]
theorem x2_at (t : Fin cfg2.N) (a : Fin 256) (b : Fin 128) : (ins V c t).x2 (ix2 a b) = V c main_v6_2 (ix2 (row t a) b) := by
  have e : ∀ t : Fin cfg2.N, win2_2.index t = ![t.val / 125, 0] := (by decide +kernel : ∀ t : Fin grid2.N, _)
  refine congrArg (V c main_v6_2) ?_
  blk_ext [e, row, col]
theorem x3_at (t : Fin cfg2.N) (a : Fin 256) (b : Fin 128) : (ins V c t).x3 (ix2 a b) = V c main_v6_3 (ix2 (row t a) b) := by
  have e : ∀ t : Fin cfg2.N, win2_3.index t = ![t.val / 125, 0] := (by decide +kernel : ∀ t : Fin grid2.N, _)
  refine congrArg (V c main_v6_3) ?_
  blk_ext [e, row, col]
theorem x4_at (t : Fin cfg2.N) (a : Fin 256) (b : Fin 1024) : (ins V c t).x4 (ix2 a b) = V c main_arg7 (ix2 (col t a) b) := by
  have e : ∀ t : Fin cfg2.N, win2_4.index t = ![t.val % 125, 0] := (by decide +kernel : ∀ t : Fin grid2.N, _)
  refine congrArg (V c main_arg7) ?_
  blk_ext [e, row, col]
theorem x5_at (t : Fin cfg2.N) (a : Fin 256) (b : Fin 1) : (ins V c t).x5 (ix2 a b) = V c main_v24 (ix2 (col t a) b) := by
  have e : ∀ t : Fin cfg2.N, win2_5.index t = ![t.val % 125, 0] := (by decide +kernel : ∀ t : Fin grid2.N, _)
  refine congrArg (V c main_v24) ?_
  blk_ext [e, row, col]
theorem x6_at (t : Fin cfg2.N) (a : Fin 256) (b : Fin 1) : (ins V c t).x6 (ix2 a b) = V c main_v23 (ix2 (row t a) b) := by
  have e : ∀ t : Fin cfg2.N, win2_6.index t = ![t.val / 125, 0] := (by decide +kernel : ∀ t : Fin grid2.N, _)
  refine congrArg (V c main_v23) ?_
  blk_ext [e, row, col]
theorem x7_at (t : Fin cfg2.N) (a : Fin 256) (b : Fin 1024) : (ins V c t).x7 (ix2 a b) = V c main_v0 (ix2 (row t a) b) := by
  have e : ∀ t : Fin cfg2.N, win2_7.index t = ![t.val / 125, 0] := (by decide +kernel : ∀ t : Fin grid2.N, _)
  refine congrArg (V c main_v0) ?_
  blk_ext [e, row, col]
theorem x8_at (t : Fin cfg2.N) (a : Fin 256) (b : Fin 128) : (ins V c t).x8 (ix2 a b) = V c main_v4_3 (ix2 (row t a) b) := by
  have e : ∀ t : Fin cfg2.N, win2_8.index t = ![t.val / 125, 0] := (by decide +kernel : ∀ t : Fin grid2.N, _)
  refine congrArg (V c main_v4_3) ?_
  blk_ext [e, row, col]
theorem x9_at (t : Fin cfg2.N) (a : Fin 1) (b : Fin 1024) : (ins V c t).x9 (ix2 a b) = V c main_v2 (ix2 a b) := by
  have e : ∀ t : Fin cfg2.N, win2_9.index t = ![0, 0] := (by decide +kernel : ∀ t : Fin grid2.N, _)
  refine congrArg (V c main_v2) ?_
  blk_ext [e, row, col]

/-- The entries the results are made of: the logits, the log-sum-exps, the student's weights and their scales, the rows'
    weights, the rows, their reciprocal root mean squares and the gain. -/
def ztV (i : Fin 1536) (v : Fin 32000) : EReal := V c main_v6_0 (ix2 i v)
def zsV (i : Fin 1536) (v : Fin 32000) : EReal := V c main_v6_1 (ix2 i v)
def ltV (i : Fin 1536) : EReal := V c main_v6_2 (ix2 i (0 : Fin 128))
def lsV (i : Fin 1536) : EReal := V c main_v6_3 (ix2 i (0 : Fin 128))
def wV (v : Fin 32000) (x : Fin 1024) : EReal := V c main_arg7 (ix2 v x)
def wsV (v : Fin 32000) : EReal := V c main_v24 (ix2 v (0 : Fin 1))
def tokV (i : Fin 1536) : EReal := V c main_v23 (ix2 i (0 : Fin 1))
def xV (i : Fin 1536) (k : Fin 1024) : EReal := V c main_v0 (ix2 i k)
def rV (i : Fin 1536) : EReal := V c main_v4_3 (ix2 i (0 : Fin 128))
def gV (k : Fin 1024) : EReal := V c main_v2 (ix2 (0 : Fin 1) k)

/-- Column `v`'s term of the gradient. -/
def gradV (i : Fin 1536) (k : Fin 1024) (v : Fin 32000) : EReal :=
  (Ideal.exp2 (zsV V c i v - lsV V c i) - Ideal.exp2 (ztV V c i v - ltV V c i)) * (wV V c v k * wsV V c v)

/-- Column `v`'s term of the divergence. -/
def divV (i : Fin 1536) (v : Fin 32000) : EReal := Pay.term (ztV V c i v) (ltV V c i) (zsV V c i v) (lsV V c i)

theorem step_acc (t : Fin cfg2.N) (u : St Ideal) (r : Fin 256) (k : Fin 1024) :
    ((ins V c t).step u).acc (ix2 r k) = u.acc (ix2 r k) + ∑ x, gradV V c (row t r) k (col t x) := by
  rw [Pay.bwd_acc]
  simp only [x0_at, x1_at, x2_at, x3_at, x4_at, x5_at]
  rfl

theorem step_lacc (t : Fin cfg2.N) (u : St Ideal) (r : Fin 256) (l : Fin 128) :
    ((ins V c t).step u).lacc (ix2 r l) = u.lacc (ix2 r l) + (divV V c (row t r) (col t (Pay.lo l)) + divV V c (row t r) (col t (Pay.hi l))) := by
  rw [Pay.bwd_lacc]
  simp only [x0_at, x1_at, x2_at, x3_at]
  rfl

/-- Columns numbered by natural numbers. -/
def nat (z : Fin 32000 → EReal) (v : ℕ) : EReal := z (Fin.ofNat 32000 v)

theorem nat_col (z : Fin 32000 → EReal) (t : Fin cfg2.N) (x : Fin 256) : nat z (256 * (t.val % 125) + x.val) = z (col t x) := by
  unfold nat; congr 1; apply Fin.ext
  show (256 * (t.val % 125) + x.val) % 32000 = 256 * (t.val % 125) + x.val
  omega

theorem sum_nat (z : Fin 32000 → EReal) : ∑ v ∈ Finset.range 32000, nat z v = ∑ v, z v := by
  rw [Finset.sum_range]
  refine Finset.sum_congr rfl fun v _ => ?_
  unfold nat; congr 1; apply Fin.ext
  exact Nat.mod_eq_of_lt v.isLt

/-- The sums over the tiles up to the one at point `t`. -/
def accTo (t : Fin cfg2.N) (r : Fin 256) (k : Fin 1024) (n : ℕ) : EReal := ∑ v ∈ Finset.range (256 * n), nat (gradV V c (row t r) k) v
def laccTo (t : Fin cfg2.N) (r : Fin 256) (l : Fin 128) (n : ℕ) : EReal := ∑ j ∈ Finset.range (2 * n), nat (divV V c (row t r)) (128 * j + l.val)

theorem accTo_step (t : Fin cfg2.N) (r : Fin 256) (k : Fin 1024) :
    accTo V c t r k (t.val % 125) + ∑ x, gradV V c (row t r) k (col t x) = accTo V c t r k (t.val % 125 + 1) := by
  unfold accTo
  rw [show 256 * (t.val % 125 + 1) = 256 * (t.val % 125) + 256 by ring, Finset.sum_range_add, Finset.sum_range (n := 256)]
  simp only [nat_col]

theorem laccTo_step (t : Fin cfg2.N) (r : Fin 256) (l : Fin 128) :
    laccTo V c t r l (t.val % 125) + (divV V c (row t r) (col t (Pay.lo l)) + divV V c (row t r) (col t (Pay.hi l))) = laccTo V c t r l (t.val % 125 + 1) := by
  unfold laccTo
  rw [show 2 * (t.val % 125 + 1) = 2 * (t.val % 125) + 1 + 1 by ring, Finset.sum_range_succ, Finset.sum_range_succ, ← nat_col (divV V c (row t r)) t (Pay.lo l), ← nat_col (divV V c (row t r)) t (Pay.hi l), ← add_assoc]
  have e0 : 128 * (2 * (t.val % 125)) + l.val = 256 * (t.val % 125) + (Pay.lo l).val := by show _ = _ + l.val; ring
  have e1 : 128 * (2 * (t.val % 125) + 1) + l.val = 256 * (t.val % 125) + (Pay.hi l).val := by show _ = _ + (128 + l.val); ring
  rw [e0, e1]

theorem row_eq {n : ℕ} (h : n < cfg2.N) (h' : n + 1 < cfg2.N) (hf : (n + 1) % 125 ≠ 0) (r : Fin 256) : row ⟨n, h⟩ r = row ⟨n + 1, h'⟩ r := by
  apply Fin.ext
  show 256 * (n / 125) + r.val = 256 * ((n + 1) / 125) + r.val
  omega

/-- The state after the point `t`: the sums over the row block's tiles so far. -/
theorem st_eq (n : ℕ) (h : n < cfg2.N) :
    (∀ r k, (st V c (n + 1)).acc (ix2 r k) = accTo V c ⟨n, h⟩ r k (n % 125 + 1))
      ∧ ∀ r l, (st V c (n + 1)).lacc (ix2 r l) = laccTo V c ⟨n, h⟩ r l (n % 125 + 1) := by
  have e := st_succ V c ⟨n, h⟩
  dsimp only at e
  rw [e]
  by_cases hf : n % 125 = 0
  · have e1 : (ins V c ⟨n, h⟩).next (grid2.coords ⟨n, h⟩) (st V c n) = (ins V c ⟨n, h⟩).step init := by
      unfold In.next; rw [if_pos ((first_iff ⟨n, h⟩).mpr hf)]
    rw [e1]
    refine ⟨fun r k => ?_, fun r l => ?_⟩
    · rw [step_acc, Pay.bwd_init_acc, ← accTo_step]
      show _ = accTo V c ⟨n, h⟩ r k (n % 125) + _
      rw [hf]; unfold accTo; simp
    · rw [step_lacc, Pay.bwd_init_lacc, ← laccTo_step]
      show _ = laccTo V c ⟨n, h⟩ r l (n % 125) + _
      rw [hf]; unfold laccTo; simp
  · have e1 : (ins V c ⟨n, h⟩).next (grid2.coords ⟨n, h⟩) (st V c n) = (ins V c ⟨n, h⟩).step (st V c n) := by
      unfold In.next; rw [if_neg (fun hh => hf ((first_iff ⟨n, h⟩).mp hh))]
    rw [e1]
    obtain ⟨m, rfl⟩ : ∃ m, n = m + 1 := ⟨n - 1, by omega⟩
    obtain ⟨ha, hl⟩ := st_eq m (by omega)
    have hm : m % 125 + 1 = (m + 1) % 125 := by omega
    refine ⟨fun r k => ?_, fun r l => ?_⟩
    · rw [step_acc, ha]
      refine Eq.trans ?_ (accTo_step V c ⟨m + 1, h⟩ r k)
      congr 1
      unfold accTo
      rw [row_eq (by omega) h hf, hm]
    · rw [step_lacc, hl]
      refine Eq.trans ?_ (laccTo_step V c ⟨m + 1, h⟩ r l)
      congr 1
      unfold laccTo
      rw [row_eq (by omega) h hf, hm]
termination_by n

/-- After a row block's last tile: the sums over all columns. -/
theorem acc_last (t : Fin cfg2.N) (h : t.val % 125 = 124) (r : Fin 256) (k : Fin 1024) :
    (st V c (t.val + 1)).acc (ix2 r k) = ∑ v, gradV V c (row t r) k v := by
  rw [(st_eq V c t.val t.isLt).1, h, ← sum_nat]; rfl

theorem lacc_last (t : Fin cfg2.N) (h : t.val % 125 = 124) (r : Fin 256) :
    ∑ l, (st V c (t.val + 1)).lacc (ix2 r l) = ∑ v, divV V c (row t r) v := by
  simp only [(st_eq V c t.val t.isLt).2, h, laccTo]
  rw [← sum_nat, show 32000 = 128 * 250 by rfl, ← Math.sum_lanes, Finset.sum_range]

/-- The gradient with respect to the normalised rows. -/
def dyV (i : Fin 1536) (k : Fin 1024) : EReal := Ideal.div (tokV V c i) (Ideal.ofBits .f32 1073741824#32) * ∑ v, gradV V c i k v
/-- The gradient with respect to the rows. -/
def dxV (i : Fin 1536) (k : Fin 1024) : EReal :=
  Pay.dxAt (rV V c i) (fun k => dyV V c i k * gV V c k) (fun k => xV V c i k * rV V c i) k
/-- The loss. -/
def lossV (i : Fin 1536) : EReal := tokV V c i * (Named.named (F := Ideal) (φ := .f32) κ "ln2" 1060205080#32 * ∑ v, divV V c i v)

theorem dy_at (t : Fin cfg2.N) (h : t.val % 125 = 124) (r : Fin 256) (k : Fin 1024) :
    (ins V c t).dy (st V c (t.val + 1)) (ix2 r k) = dyV V c (row t r) k := by
  rw [Pay.bwd_dy, acc_last V c t h, x6_at]; rfl

theorem dx_at (t : Fin cfg2.N) (h : t.val % 125 = 124) (r : Fin 256) (k : Fin 1024) :
    (ins V c t).dx (st V c (t.val + 1)) (ix2 r k) = dxV V c (row t r) k := by
  rw [Pay.bwd_dx]
  simp only [acc_last V c t h, x6_at, x7_at, x8_at, x9_at]
  rfl

theorem loss_at (t : Fin cfg2.N) (h : t.val % 125 = 124) (r : Fin 256) (k : Fin 128) :
    (ins V c t).loss (st V c (t.val + 1)) (ix2 r k) = lossV V c (row t r) := by
  rw [Pay.bwd_loss, lacc_last V c t h, x6_at]; rfl

theorem dy_emb (t : Fin cfg2.N) (r : Fin 256) (k : Fin 1024) : (win2_10.blk t).view.emb (ix2 r k) = ix2 (row t r) k := by
  have e : ∀ t : Fin cfg2.N, win2_10.index t = ![t.val / 125, 0] := (by decide +kernel : ∀ t : Fin grid2.N, _)
  blk_ext [e, row]

theorem dy_final (i : Fin 1536) (k : Fin 1024) : (dat V c).arrAt 10 cfg2.N (ix2 i k) = dyV V c i k := by
  have hl : ∀ t : Fin cfg2.N, (cfg2.win 10).flush t = true → t.val % 125 = 124 := (by decide +kernel : ∀ t : Fin grid2.N, win2_10.flush t = true → t.val % 125 = 124)
  have key : (dat V c).arrAt 10 cfg2.N = (fun j => (fun (i : Fin 1536) (k : Fin 1024) => dyV V c i k) (j 0) (j 1)) := by
    refine (dat V c).arrAt_eq_of_covers 10 _ (by decide +kernel) fun t hf y => ?_
    have h124 := hl t hf
    blk_simp
    rw [after_10]
    obtain ⟨r, k, rfl⟩ : ∃ (r : Fin 256) (k : Fin 1024), y = ix2 r k := ⟨y 0, y 1, eq_ix2 y⟩
    refine (dy_at V c t h124 r k).trans ?_
    rw [dy_emb]
    rfl
  rw [key]; rfl

theorem dx_emb (t : Fin cfg2.N) (r : Fin 256) (k : Fin 1024) : (win2_11.blk t).view.emb (ix2 r k) = ix2 (row t r) k := by
  have e : ∀ t : Fin cfg2.N, win2_11.index t = ![t.val / 125, 0] := (by decide +kernel : ∀ t : Fin grid2.N, _)
  blk_ext [e, row]

theorem dx_final (i : Fin 1536) (k : Fin 1024) : (dat V c).arrAt 11 cfg2.N (ix2 i k) = dxV V c i k := by
  have hl : ∀ t : Fin cfg2.N, (cfg2.win 11).flush t = true → t.val % 125 = 124 := (by decide +kernel : ∀ t : Fin grid2.N, win2_11.flush t = true → t.val % 125 = 124)
  have key : (dat V c).arrAt 11 cfg2.N = (fun j => (fun (i : Fin 1536) (k : Fin 1024) => dxV V c i k) (j 0) (j 1)) := by
    refine (dat V c).arrAt_eq_of_covers 11 _ (by decide +kernel) fun t hf y => ?_
    have h124 := hl t hf
    blk_simp
    rw [after_11]
    obtain ⟨r, k, rfl⟩ : ∃ (r : Fin 256) (k : Fin 1024), y = ix2 r k := ⟨y 0, y 1, eq_ix2 y⟩
    refine (dx_at V c t h124 r k).trans ?_
    rw [dx_emb]
    rfl
  rw [key]; rfl

theorem loss_emb (t : Fin cfg2.N) (r : Fin 256) (k : Fin 128) : (win2_12.blk t).view.emb (ix2 r k) = ix2 (row t r) k := by
  have e : ∀ t : Fin cfg2.N, win2_12.index t = ![t.val / 125, 0] := (by decide +kernel : ∀ t : Fin grid2.N, _)
  blk_ext [e, row]

theorem loss_final (i : Fin 1536) (k : Fin 128) : (dat V c).arrAt 12 cfg2.N (ix2 i k) = lossV V c i := by
  have hl : ∀ t : Fin cfg2.N, (cfg2.win 12).flush t = true → t.val % 125 = 124 := (by decide +kernel : ∀ t : Fin grid2.N, win2_12.flush t = true → t.val % 125 = 124)
  have key : (dat V c).arrAt 12 cfg2.N = (fun j => (fun (i : Fin 1536) (k : Fin 128) => lossV V c i) (j 0) (j 1)) := by
    refine (dat V c).arrAt_eq_of_covers 12 _ (by decide +kernel) fun t hf y => ?_
    have h124 := hl t hf
    blk_simp
    rw [after_12]
    obtain ⟨r, k, rfl⟩ : ∃ (r : Fin 256) (k : Fin 128), y = ix2 r k := ⟨y 0, y 1, eq_ix2 y⟩
    refine (loss_at V c t h124 r k).trans ?_
    rw [loss_emb]
    rfl
  rw [key]; rfl

end Cert.KernelIdeal.Bwd

end
-- ==== Proof.KernelIdeal.Glue.lean ====
/- From the kernel's base-2 values to the mathematics: what the forward and backward calls leave, once the arrays they
   read hold what the mathematics says. -/
module

public import proofs.«01_k».proof.Proof.KernelIdeal.FwdValue
public import proofs.«01_k».proof.Proof.KernelIdeal.BwdValue
public import proofs.«01_k».proof.Proof.Math.Base2

@[expose] public section

set_option maxRecDepth 16384

noncomputable section

namespace Cert.KernelIdeal.Glue

open Cert.KernelIdeal.Gen
open Idealize.ShloMosaic Idealize.ShloMosaic.TcCoe

variable (V : Dev nD → Valuation τ sig (Elt Ideal)) (c : Dev nD) (a : Spec.Args)

/-- The arrays the forward call reads hold the mathematics' values. -/
structure FwdIn : Prop where
  ht : ∀ i x, Fwd.htV V c i x = a.t i x
  nib : ∀ x v, Fwd.nibV V c x v = a.nib x v
  wt : ∀ x v, Fwd.wtV V c x v = a.wt x v
  code : ∀ i x, Fwd.codeV V c i x = Spec.code (a.y i) x
  scale : ∀ i, Fwd.scaleV V c i = Spec.qscale (a.y i)
  w : ∀ v x, Fwd.wV V c v x = a.W v x
  ws : ∀ v, Fwd.wsV V c v = a.ws v

variable {V c a}

theorem named_half : Named.named (F := Ideal) (φ := .f32) κ "half_log2e" 1060678203#32 = Math.halfLb := rfl
theorem named_lb : Named.named (F := Ideal) (φ := .f32) κ "log2e" 1069066811#32 = Math.lb := rfl
theorem named_ln2 : Named.named (F := Ideal) (φ := .f32) κ "ln2" 1060205080#32 = Math.ln2 := rfl

/-- The teacher's logits come in base 2. -/
theorem zt (h : FwdIn V c a) (i : Fin 1536) (v : Fin 32000) : Fwd.ztV V c i v = Math.lb * a.zt i v := by
  unfold Fwd.ztV
  rw [named_half, Math.scale_half, Math.sum_halves]
  simp only [h.ht, h.wt]
  rfl

/-- The student's logits come in base 2. -/
theorem zs (h : FwdIn V c a) (i : Fin 1536) (v : Fin 32000) : Fwd.zsV V c i v = Math.lb * a.zs i v := by
  unfold Fwd.zsV
  rw [named_half, Math.scale_half_mid]
  simp only [h.code, h.scale, h.w, h.ws]
  rfl

/-- A row's log-sum-exp through the lanes comes in base 2. -/
theorem lanes (z2 z : Fin 32000 → EReal) (h : ∀ v, z2 v = Math.lb * z v) :
    Pay.lseLanes (fun l => Math.laneMax (Fwd.nat z2) l.val 250) (fun l => Math.laneSum (Fwd.nat z2) l.val 250 (Math.laneMax (Fwd.nat z2) l.val 250))
      = Math.lb * Spec.lse z := by
  unfold Pay.lseLanes
  rw [named_lb]
  refine Math.lanes_lse z (Fwd.nat z2) fun v => ?_
  rw [← h v]
  unfold Fwd.nat
  congr 1
  exact Fin.ext (Nat.mod_eq_of_lt v.isLt)

theorem lse_t (h : FwdIn V c a) (i : Fin 1536) :
    Pay.lseLanes (fun l => Math.laneMax (Fwd.nat (Fwd.ztV V c i)) l.val 250) (fun l => Math.laneSum (Fwd.nat (Fwd.ztV V c i)) l.val 250 (Math.laneMax (Fwd.nat (Fwd.ztV V c i)) l.val 250))
      = Math.lb * Spec.lse (a.zt i) := lanes _ _ fun v => zt h i v

theorem lse_s (h : FwdIn V c a) (i : Fin 1536) :
    Pay.lseLanes (fun l => Math.laneMax (Fwd.nat (Fwd.zsV V c i)) l.val 250) (fun l => Math.laneSum (Fwd.nat (Fwd.zsV V c i)) l.val 250 (Math.laneMax (Fwd.nat (Fwd.zsV V c i)) l.val 250))
      = Math.lb * Spec.lse (a.zs i) := lanes _ _ fun v => zs h i v

variable (V c a)

/-- The arrays the backward call reads hold the mathematics' values, the logits and their log-sum-exps in base 2. -/
structure BwdIn : Prop where
  zt : ∀ i v, Bwd.ztV V c i v = Math.lb * a.zt i v
  zs : ∀ i v, Bwd.zsV V c i v = Math.lb * a.zs i v
  lt : ∀ i, Bwd.ltV V c i = Math.lb * Spec.lse (a.zt i)
  ls : ∀ i, Bwd.lsV V c i = Math.lb * Spec.lse (a.zs i)
  w : ∀ v x, Bwd.wV V c v x = a.W v x
  ws : ∀ v, Bwd.wsV V c v = a.ws v
  tok : ∀ i, Bwd.tokV V c i = a.tok i
  x : ∀ i k, Bwd.xV V c i k = a.X i k
  r : ∀ i, Bwd.rV V c i = Spec.rr (a.X i)
  g : ∀ k, Bwd.gV V c k = a.gs k

variable {V c a}

theorem grad (h : BwdIn V c a) (i : Fin 1536) (k : Fin 1024) (v : Fin 32000) :
    Bwd.gradV V c i k v = (Ideal.exp (a.zs i v - Spec.lse (a.zs i)) - Ideal.exp (a.zt i v - Spec.lse (a.zt i))) * (a.W v k * a.ws v) := by
  unfold Bwd.gradV
  rw [h.zt, h.zs, h.lt, h.ls, h.w, h.ws, Math.exp2_sub, Math.exp2_sub]

theorem dy (h : BwdIn V c a) (i : Fin 1536) (k : Fin 1024) : Bwd.dyV V c i k = a.dy i k := by
  unfold Bwd.dyV Spec.Args.dy
  rw [h.tok]
  simp only [grad h]

theorem dx (h : BwdIn V c a) (i : Fin 1536) (k : Fin 1024) : Bwd.dxV V c i k = a.dx i k := by
  unfold Bwd.dxV Spec.Args.dx Pay.dxAt
  simp only [dy h, h.x, h.r, h.g]

theorem loss (h : BwdIn V c a) (i : Fin 1536) : Bwd.lossV V c i = a.loss i := by
  unfold Bwd.lossV Bwd.divV Pay.term Spec.Args.loss
  rw [named_ln2, h.tok]
  simp only [h.zt, h.zs, h.lt, h.ls, Math.term_eq]
  rw [Math.ln2_sum]

end Cert.KernelIdeal.Glue

end
-- ==== Proof.KernelIdeal.Value.lean ====
/- What a whole run of the kernel leaves in its result buffers, entry by entry, as the mathematics over the arguments. -/
module

public import proofs.«01_k».proof.Proof.KernelIdeal.Run
public import proofs.«01_k».proof.Proof.KernelIdeal.Host
public import proofs.«01_k».proof.Proof.KernelIdeal.ProValue
public import proofs.«01_k».proof.Proof.KernelIdeal.Glue

@[expose] public section

set_option maxRecDepth 16384

noncomputable section

namespace Cert.KernelIdeal.Value

open Cert.KernelIdeal.Gen Cert.KernelIdeal.Run
open Idealize.ShloMosaic Idealize.ShloMosaic.TcCoe

variable (m : (ℓ : Loc nD τ sig) → Buf (Elt Ideal) ℓ) (c : Dev nD)

/-- The arguments, from the memory at launch. -/
def args : Spec.Args := Host.args (W0 m c)

/-! ## Buffers carried unchanged from one item to the next -/

theorem k1 (r : Ref sig .tc) (h : r ∉ hostOps0_W) : W1 m c r = W0 m c r := StableHlo.after_of_writes_sub hostOps0 _ hostOps0_writes h
theorem k2 (r : Ref sig .tc) (g : ∀ w, Pipeline.arrRef spec0 w = r → (cfg0.win w).isOut = false) : W2 m c r = W1 m c r :=
  Pipeline.afterRegion_keeps (Pro.dat (W1 m) c) _ launch0.win.arr_inj (Pro.A_eq (W1 m) c) r g
theorem k3 (r : Ref sig .tc) (h : r ∉ hostOps1_W) : W3 m c r = W2 m c r := StableHlo.after_of_writes_sub hostOps1 _ hostOps1_writes h
theorem k4 (r : Ref sig .tc) (g : ∀ w, Pipeline.arrRef spec1 w = r → (cfg1.win w).isOut = false) : W4 m c r = W3 m c r :=
  Pipeline.afterRegion_keeps (Fwd.dat (W3 m) c) _ launch1.win.arr_inj (Fwd.A_eq (W3 m) c) r g
theorem k5 (r : Ref sig .tc) (h : r ∉ hostOps2_W) : W5 m c r = W4 m c r := StableHlo.after_of_writes_sub hostOps2 _ hostOps2_writes h
theorem k6 (r : Ref sig .tc) (g : ∀ w, Pipeline.arrRef spec2 w = r → (cfg2.win w).isOut = false) : W6 m c r = W5 m c r :=
  Pipeline.afterRegion_keeps (Bwd.dat (W5 m) c) _ launch2.win.arr_inj (Bwd.A_eq (W5 m) c) r g

/-- An argument's buffer, at each item that reads it. -/
theorem arg2 (r : Ref sig .tc) (h0 : r ∉ hostOps0_W) (g0 : ∀ w, Pipeline.arrRef spec0 w = r → (cfg0.win w).isOut = false) : W2 m c r = W0 m c r :=
  (k2 m c r g0).trans (k1 m c r h0)
theorem arg4 (r : Ref sig .tc) (h0 : r ∉ hostOps0_W) (g0 : ∀ w, Pipeline.arrRef spec0 w = r → (cfg0.win w).isOut = false) (h1 : r ∉ hostOps1_W)
    (g1 : ∀ w, Pipeline.arrRef spec1 w = r → (cfg1.win w).isOut = false) : W4 m c r = W0 m c r :=
  (k4 m c r g1).trans <| (k3 m c r h1).trans (arg2 m c r h0 g0)

theorem args2 : Host.args (W2 m c) = args m c := by
  unfold args Host.args
  rw [arg2 m c main_arg0 (by decide) (by decide), arg2 m c main_arg1 (by decide) (by decide), arg2 m c main_arg2 (by decide) (by decide),
    arg2 m c main_arg3 (by decide) (by decide), arg2 m c main_arg4 (by decide) (by decide), arg2 m c main_arg5 (by decide) (by decide),
    arg2 m c main_arg6 (by decide) (by decide), arg2 m c main_arg7 (by decide) (by decide), arg2 m c main_arg8 (by decide) (by decide),
    arg2 m c main_arg9 (by decide) (by decide), arg2 m c main_arg10 (by decide) (by decide), arg2 m c main_arg11 (by decide) (by decide)]

theorem args4 : Host.args (W4 m c) = args m c := by
  unfold args Host.args
  rw [arg4 m c main_arg0 (by decide) (by decide) (by decide) (by decide), arg4 m c main_arg1 (by decide) (by decide) (by decide) (by decide),
    arg4 m c main_arg2 (by decide) (by decide) (by decide) (by decide), arg4 m c main_arg3 (by decide) (by decide) (by decide) (by decide),
    arg4 m c main_arg4 (by decide) (by decide) (by decide) (by decide), arg4 m c main_arg5 (by decide) (by decide) (by decide) (by decide),
    arg4 m c main_arg6 (by decide) (by decide) (by decide) (by decide), arg4 m c main_arg7 (by decide) (by decide) (by decide) (by decide),
    arg4 m c main_arg8 (by decide) (by decide) (by decide) (by decide), arg4 m c main_arg9 (by decide) (by decide) (by decide) (by decide),
    arg4 m c main_arg10 (by decide) (by decide) (by decide) (by decide), arg4 m c main_arg11 (by decide) (by decide) (by decide) (by decide)]

/-! ## The prologue call -/

theorem W1_v0 (i : Fin 1536) (k : Fin 1024) : W1 m c main_v0 (ix2 i k) = (args m c).X i k := Host.v0 (W0 m c) i k
theorem W1_v1 (i : Fin 1536) (k : Fin 2560) : W1 m c main_v1 (ix2 i k) = (args m c).H i k := Host.v1 (W0 m c) i k
theorem W1_v2 (k : Fin 1024) : W1 m c main_v2 (ix2 0 k) = (args m c).gs k := Host.v2 (W0 m c) k
theorem W1_v3 (k : Fin 2560) : W1 m c main_v3 (ix2 0 k) = (args m c).gt k := Host.v3 (W0 m c) k

theorem W2_ht (i : Fin 1536) (x : Fin 2560) : W2 m c main_v4_0 (ix2 i x) = (args m c).t i x := by
  refine (congrFun (Pipeline.afterRegion_arr (Pro.dat (W1 m) c) (W1 m c) launch0.win.arr_inj 4) (ix2 i x)).trans ?_
  refine (Pro.ht_final (W1 m) c i x).trans ?_
  rw [funext fun k => W1_v1 m c i k, funext fun k => W1_v3 m c k]
  rfl

theorem W2_code (i : Fin 1536) (x : Fin 1024) : W2 m c main_v4_1 (ix2 i x) = Spec.code ((args m c).y i) x := by
  refine (congrFun (Pipeline.afterRegion_arr (Pro.dat (W1 m) c) (W1 m c) launch0.win.arr_inj 5) (ix2 i x)).trans ?_
  refine (Pro.code_final (W1 m) c i x).trans ?_
  rw [funext fun k => W1_v0 m c i k, funext fun k => W1_v2 m c k]
  rfl

theorem W2_scale (i : Fin 1536) (x : Fin 128) : W2 m c main_v4_2 (ix2 i x) = Spec.qscale ((args m c).y i) := by
  refine (congrFun (Pipeline.afterRegion_arr (Pro.dat (W1 m) c) (W1 m c) launch0.win.arr_inj 6) (ix2 i x)).trans ?_
  refine (Pro.scale_final (W1 m) c i x).trans ?_
  rw [funext fun k => W1_v0 m c i k, funext fun k => W1_v2 m c k]
  rfl

theorem W2_r (i : Fin 1536) (x : Fin 128) : W2 m c main_v4_3 (ix2 i x) = Spec.rr ((args m c).X i) := by
  refine (congrFun (Pipeline.afterRegion_arr (Pro.dat (W1 m) c) (W1 m c) launch0.win.arr_inj 7) (ix2 i x)).trans ?_
  refine (Pro.r_final (W1 m) c i x).trans ?_
  rw [funext fun k => W1_v0 m c i k]

/-! ## The forward call -/

theorem W3_arg (r : Ref sig .tc) (h0 : r ∉ hostOps0_W) (g0 : ∀ w, Pipeline.arrRef spec0 w = r → (cfg0.win w).isOut = false) (h1 : r ∉ hostOps1_W) :
    W3 m c r = W0 m c r := (k3 m c r h1).trans (arg2 m c r h0 g0)

theorem nib3 (x : Fin 2560) (v : Fin 32000) : Fwd.nibV (W3 m) c x v = (args m c).nib x v := by
  unfold Fwd.nibV
  rw [W3_arg m c main_arg4 (by decide) (by decide) (by decide)]
  rfl

theorem wt3 (x : Fin 2560) (v : Fin 32000) : Fwd.wtV (W3 m) c x v = (args m c).wt x v := by
  unfold Fwd.wtV
  rw [nib3, W3_arg m c main_arg5 (by decide) (by decide) (by decide), W3_arg m c main_arg6 (by decide) (by decide) (by decide)]
  rfl

theorem w3 (v : Fin 32000) (x : Fin 1024) : Fwd.wV (W3 m) c v x = (args m c).W v x := by
  unfold Fwd.wV
  rw [W3_arg m c main_arg7 (by decide) (by decide) (by decide)]
  rfl

theorem ws3 (v : Fin 32000) : Fwd.wsV (W3 m) c v = (args m c).ws v :=
  (Host.v5 (W2 m c) v).trans (by rw [args2])

theorem fwdIn : Glue.FwdIn (W3 m) c (args m c) where
  ht i x := (congrFun (k3 m c main_v4_0 (by decide)) (ix2 i x)).trans (W2_ht m c i x)
  nib := nib3 m c
  wt := wt3 m c
  code i x := (congrFun (k3 m c main_v4_1 (by decide)) (ix2 i x)).trans (W2_code m c i x)
  scale i := (congrFun (k3 m c main_v4_2 (by decide)) (ix2 i 0)).trans (W2_scale m c i 0)
  w := w3 m c
  ws := ws3 m c

theorem W4_zt (i : Fin 1536) (v : Fin 32000) : W4 m c main_v6_0 (ix2 i v) = Math.lb * (args m c).zt i v := by
  refine (congrFun (Pipeline.afterRegion_arr (Fwd.dat (W3 m) c) (W3 m c) launch1.win.arr_inj 8) (ix2 i v)).trans ?_
  exact (Fwd.zt_final (W3 m) c i v).trans (Glue.zt (fwdIn m c) i v)

theorem W4_zs (i : Fin 1536) (v : Fin 32000) : W4 m c main_v6_1 (ix2 i v) = Math.lb * (args m c).zs i v := by
  refine (congrFun (Pipeline.afterRegion_arr (Fwd.dat (W3 m) c) (W3 m c) launch1.win.arr_inj 9) (ix2 i v)).trans ?_
  exact (Fwd.zs_final (W3 m) c i v).trans (Glue.zs (fwdIn m c) i v)

theorem W4_lt (i : Fin 1536) (k : Fin 128) : W4 m c main_v6_2 (ix2 i k) = Math.lb * Spec.lse ((args m c).zt i) := by
  refine (congrFun (Pipeline.afterRegion_arr (Fwd.dat (W3 m) c) (W3 m c) launch1.win.arr_inj 10) (ix2 i k)).trans ?_
  exact (Fwd.lse_t_final (W3 m) c i k).trans (Glue.lse_t (fwdIn m c) i)

theorem W4_ls (i : Fin 1536) (k : Fin 128) : W4 m c main_v6_3 (ix2 i k) = Math.lb * Spec.lse ((args m c).zs i) := by
  refine (congrFun (Pipeline.afterRegion_arr (Fwd.dat (W3 m) c) (W3 m c) launch1.win.arr_inj 11) (ix2 i k)).trans ?_
  exact (Fwd.lse_s_final (W3 m) c i k).trans (Glue.lse_s (fwdIn m c) i)

/-! ## The backward call -/

theorem W5_arg7 : W5 m c main_arg7 = W0 m c main_arg7 :=
  (k5 m c main_arg7 (by decide)).trans (arg4 m c main_arg7 (by decide) (by decide) (by decide) (by decide))

theorem bwdIn : Glue.BwdIn (W5 m) c (args m c) where
  zt i v := (congrFun (k5 m c main_v6_0 (by decide)) (ix2 i v)).trans (W4_zt m c i v)
  zs i v := (congrFun (k5 m c main_v6_1 (by decide)) (ix2 i v)).trans (W4_zs m c i v)
  lt i := (congrFun (k5 m c main_v6_2 (by decide)) (ix2 i 0)).trans (W4_lt m c i 0)
  ls i := (congrFun (k5 m c main_v6_3 (by decide)) (ix2 i 0)).trans (W4_ls m c i 0)
  w v x := congrFun (W5_arg7 m c) (ix2 v x)
  ws v := (Host.v24 (W4 m c) v).trans (by rw [args4])
  tok i := (Host.v23 (W4 m c) i).trans (by rw [args4])
  x i k := (congrFun ((k5 m c main_v0 (by decide)).trans <| (k4 m c main_v0 (by decide)).trans <| (k3 m c main_v0 (by decide)).trans
    (k2 m c main_v0 (by decide))) (ix2 i k)).trans (W1_v0 m c i k)
  r i := (congrFun ((k5 m c main_v4_3 (by decide)).trans <| (k4 m c main_v4_3 (by decide)).trans (k3 m c main_v4_3 (by decide))) (ix2 i 0)).trans
    (W2_r m c i 0)
  g k := (congrFun ((k5 m c main_v2 (by decide)).trans <| (k4 m c main_v2 (by decide)).trans <| (k3 m c main_v2 (by decide)).trans
    (k2 m c main_v2 (by decide))) (ix2 0 k)).trans (W1_v2 m c k)

theorem W6_dy (i : Fin 1536) (k : Fin 1024) : W6 m c main_v25_0 (ix2 i k) = (args m c).dy i k := by
  refine (congrFun (Pipeline.afterRegion_arr (Bwd.dat (W5 m) c) (W5 m c) launch2.win.arr_inj 10) (ix2 i k)).trans ?_
  exact (Bwd.dy_final (W5 m) c i k).trans (Glue.dy (bwdIn m c) i k)

theorem W6_dx (i : Fin 1536) (k : Fin 1024) : W6 m c main_v25_1 (ix2 i k) = (args m c).dx i k := by
  refine (congrFun (Pipeline.afterRegion_arr (Bwd.dat (W5 m) c) (W5 m c) launch2.win.arr_inj 11) (ix2 i k)).trans ?_
  exact (Bwd.dx_final (W5 m) c i k).trans (Glue.dx (bwdIn m c) i k)

theorem W6_loss (i : Fin 1536) (k : Fin 128) : W6 m c main_v25_2 (ix2 i k) = (args m c).loss i := by
  refine (congrFun (Pipeline.afterRegion_arr (Bwd.dat (W5 m) c) (W5 m c) launch2.win.arr_inj 12) (ix2 i k)).trans ?_
  exact (Bwd.loss_final (W5 m) c i k).trans (Glue.loss (bwdIn m c) i)

/-! ## The results -/

theorem loss (b : Fin 3) (s : Fin 512) : W7 m c main_v29 (ix2 b s) = (args m c).loss (Host.tokRow b s) :=
  (Host.v29 (W6 m c) b s).trans (W6_loss m c _ 0)

theorem lse_t (b : Fin 3) (s : Fin 512) : W7 m c main_v36 (ix2 b s) = Spec.lse ((args m c).zt (Host.tokRow b s)) - Spec.f32 1093007826#32 :=
  Host.v36 (W6 m c) b s _ <| (congrFun ((k6 m c main_v6_2 (by decide)).trans (k5 m c main_v6_2 (by decide))) (ix2 (Host.tokRow b s) 0)).trans
    (W4_lt m c _ 0)

theorem lse_s (b : Fin 3) (s : Fin 512) : W7 m c main_v43 (ix2 b s) = Spec.lse ((args m c).zs (Host.tokRow b s)) - Spec.f32 1093007826#32 :=
  Host.v43 (W6 m c) b s _ <| (congrFun ((k6 m c main_v6_3 (by decide)).trans (k5 m c main_v6_3 (by decide))) (ix2 (Host.tokRow b s) 0)).trans
    (W4_ls m c _ 0)

theorem dx (b : Fin 3) (s : Fin 512) (k : Fin 1024) : W7 m c main_v44 (ix3 b s k) = (args m c).dx (Host.tokRow b s) k :=
  (Host.v44 (W6 m c) b s k).trans (W6_dx m c _ k)

theorem dy (b : Fin 3) (s : Fin 512) (k : Fin 1024) : W7 m c main_v45 (ix3 b s k) = (args m c).dy (Host.tokRow b s) k :=
  (Host.v45 (W6 m c) b s k).trans (W6_dy m c _ k)

/-- The prologue call's outputs outlive the other two calls. -/
theorem W6_pro (r : Ref sig .tc) (g2 : ∀ w, Pipeline.arrRef spec2 w = r → (cfg2.win w).isOut = false) (h2 : r ∉ hostOps2_W)
    (g1 : ∀ w, Pipeline.arrRef spec1 w = r → (cfg1.win w).isOut = false) (h1 : r ∉ hostOps1_W) : W6 m c r = W2 m c r :=
  (k6 m c r g2).trans <| (k5 m c r h2).trans <| (k4 m c r g1).trans (k3 m c r h1)

theorem code (b : Fin 3) (s : Fin 512) (k : Fin 1024) : W7 m c main_v46 (ix3 b s k) = Spec.code ((args m c).y (Host.tokRow b s)) k :=
  (Host.v46 (W6 m c) b s k).trans <| (congrFun (W6_pro m c main_v4_1 (by decide) (by decide) (by decide) (by decide)) (ix2 (Host.tokRow b s) k)).trans
    (W2_code m c _ k)

theorem scale (b : Fin 3) (s : Fin 512) : W7 m c main_v49 (ix2 b s) = Spec.qscale ((args m c).y (Host.tokRow b s)) :=
  (Host.v49 (W6 m c) b s).trans <| (congrFun (W6_pro m c main_v4_2 (by decide) (by decide) (by decide) (by decide)) (ix2 (Host.tokRow b s) 0)).trans
    (W2_scale m c _ 0)

end Cert.KernelIdeal.Value

end
-- ==== Proof.ReferenceIdeal.Host.lean ====
/- What the reference's host operations leave in the arrays its one call reads, entry by entry, as the mathematics over
   the arguments. Long chains are read in cuts: the contents after a prefix of the operations, then the rest over them. -/
module

public import proofs.«01_k».proof.Proof.Gen.ReferenceIdeal.Launch
public import proofs.«01_k».proof.Proof.Math.Base2
public import Idealize.ShloMosaic.Lib.Pointwise
public import Idealize.ShloMosaic.Lib.Claim
public import Idealize.ShloMosaic.Lib.StableHlo.RunRead

@[expose] public section

set_option maxRecDepth 16384

noncomputable section

namespace Cert.ReferenceIdeal.Host

open Cert.ReferenceIdeal.Gen
open Idealize.ShloMosaic Idealize.ShloMosaic.TcCoe
open Idealize.ShloMosaic.Pointwise

variable (A : Valuation τ sig (Elt Ideal))

/-- The arguments the buffers hold. -/
def args : Spec.Args :=
  Spec.ofRaw (A main_arg0) (A main_arg1) (A main_arg2) (A main_arg3) (A main_arg4) (A main_arg5) (A main_arg6) (A main_arg7)
    (A main_arg8) (A main_arg9) (A main_arg10) (A main_arg11)

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The line of operations, cut after its first `n`. -/
theorem cut (n : ℕ) : StableHlo.after hostOps0 A = StableHlo.after (hostOps0.drop n) (StableHlo.upto hostOps0 A n) := by
  have e := after_append (hostOps0.take n) (hostOps0.drop n) A
  rw [List.take_append_drop] at e
  exact e

/-- A prefix, cut. -/
theorem upto_cut (k n : ℕ) (h : k ≤ n) : StableHlo.upto hostOps0 A n = StableHlo.after ((hostOps0.take n).drop k) (StableHlo.upto hostOps0 A k) := by
  have e := after_append (hostOps0.take k) ((hostOps0.take n).drop k) A
  have t : hostOps0.take k ++ (hostOps0.take n).drop k = (hostOps0.take n : List (HloOp τ sig (Elt Ideal))) := by
    have := List.take_append_drop k (hostOps0.take n : List (HloOp τ sig (Elt Ideal)))
    rwa [List.take_take, Nat.min_eq_left h] at this
  rw [t] at e
  exact e

theorem v49 (i : Fin 1536) (k : Fin 2560) : StableHlo.after hostOps0 A main_v49 (ix2 i k) = (args A).t i k := by
  after_reads_simp
  pointwise []
  rfl

theorem v11 (e : Fin 1280) (v : Fin 32000) : StableHlo.after hostOps0 A main_v11 (ix2 e v) = (args A).wt ⟨2 * e.val, by omega⟩ v := by
  after_reads_simp
  pointwise []
  rw [Math.sitofp_lo]
  unfold Spec.Args.wt Spec.Args.nib
  rw [if_pos (show 2 * e.val % 2 = 0 by omega)]
  have h : (⟨2 * e.val / 2, by omega⟩ : Fin 1280) = e := Fin.ext (show 2 * e.val / 2 = e.val by omega)
  have h' : (⟨2 * e.val / 128, by omega⟩ : Fin 20) = ⟨e.val / 64, by omega⟩ := Fin.ext (show 2 * e.val / 128 = e.val / 64 by omega)
  simp only [h, h']
  rfl

theorem v16 (e : Fin 1280) (v : Fin 32000) : StableHlo.after hostOps0 A main_v16 (ix2 e v) = (args A).wt ⟨1 + 2 * e.val, by omega⟩ v := by
  after_reads_simp
  pointwise []
  rw [Math.sitofp_hi]
  unfold Spec.Args.wt Spec.Args.nib
  rw [if_neg (show ¬ (1 + 2 * e.val) % 2 = 0 by omega)]
  have h : (⟨(1 + 2 * e.val) / 2, by omega⟩ : Fin 1280) = e := Fin.ext (show (1 + 2 * e.val) / 2 = e.val by omega)
  have h' : (⟨(1 + 2 * e.val) / 128, by omega⟩ : Fin 20) = ⟨e.val / 64, by omega⟩ := Fin.ext (show (1 + 2 * e.val) / 128 = e.val / 64 by omega)
  simp only [h, h']
  rfl

theorem v33 (i : Fin 1536) : StableHlo.after hostOps0 A main_v33 (ix2 i 0) = (args A).tok i := by
  after_reads_simp
  pointwise []
  rfl

theorem v79 (i : Fin 1536) : StableHlo.after hostOps0 A main_v79 (ix2 i 0) = Spec.rr ((args A).X i) := by
  after_reads_simp
  pointwise []
  rfl

theorem v81 (i : Fin 1536) (k : Fin 1024) : StableHlo.after hostOps0 A main_v81 (ix2 i k) = (args A).X i k * Spec.rr ((args A).X i) := by
  after_reads_simp
  pointwise []
  rfl

theorem v84 (i : Fin 1536) (k : Fin 1024) : StableHlo.after hostOps0 A main_v84 (ix2 i k) = (args A).y i k := by
  after_reads_simp
  pointwise []
  rfl

theorem v85 (k : Fin 1024) : StableHlo.after hostOps0 A main_v85 (ix2 0 k) = (args A).gs k := by
  after_reads_simp
  pointwise []
  try rfl

theorem v86 (v : Fin 32000) : StableHlo.after hostOps0 A main_v86 (ix2 0 v) = (args A).ws v := by
  after_reads_simp
  pointwise []
  try rfl

theorem v87 (v : Fin 32000) : StableHlo.after hostOps0 A main_v87 (ix2 v 0) = (args A).ws v := by
  after_reads_simp
  pointwise []
  try rfl

/-- The buffers before the logits' two products. -/
def B : Valuation τ sig (Elt Ideal) := StableHlo.upto hostOps0 A 55
/-- The buffers before the row maxima. -/
def C : Valuation τ sig (Elt Ideal) := StableHlo.upto hostOps0 A 63

/-- The later operations leave them. -/
theorem keep_v49 (D : Valuation τ sig (Elt Ideal)) : StableHlo.after (hostOps0.drop 55) D main_v49 = D main_v49 := by after_reads_simp
theorem keep_v11 (D : Valuation τ sig (Elt Ideal)) : StableHlo.after (hostOps0.drop 55) D main_v11 = D main_v11 := by after_reads_simp
theorem keep_v16 (D : Valuation τ sig (Elt Ideal)) : StableHlo.after (hostOps0.drop 55) D main_v16 = D main_v16 := by after_reads_simp
theorem keep_v56 (D : Valuation τ sig (Elt Ideal)) : StableHlo.after (hostOps0.drop 63) D main_v56 = D main_v56 := by after_reads_simp

theorem B_v49 : StableHlo.after hostOps0 A main_v49 = B A main_v49 := by rw [cut A 55]; exact keep_v49 _
theorem B_v11 : StableHlo.after hostOps0 A main_v11 = B A main_v11 := by rw [cut A 55]; exact keep_v11 _
theorem B_v16 : StableHlo.after hostOps0 A main_v16 = B A main_v16 := by rw [cut A 55]; exact keep_v16 _
theorem C_v56 : StableHlo.after hostOps0 A main_v56 = C A main_v56 := by rw [cut A 63]; exact keep_v56 _

/-- The teacher's logits. -/
theorem v56 (i : Fin 1536) (v : Fin 32000) : StableHlo.after hostOps0 A main_v56 (ix2 i v) = (args A).zt i v := by
  have h49 := v49 A i
  have h11 := fun e => v11 A e v
  have h16 := fun e => v16 A e v
  rw [B_v49] at h49
  rw [B_v11] at h11
  rw [B_v16] at h16
  rw [cut A 55]
  change StableHlo.after (hostOps0.drop 55) (B A) main_v56 (ix2 i v) = _
  generalize B A = D at *
  after_reads_simp
  pointwise []
  simp only [h49, h11, h16]
  rfl

/-- The operations of the log-sum-exp, over any contents: the row's maximum, -/
theorem step_max (D : Valuation τ sig (Elt Ideal)) (i : Fin 1536) :
    StableHlo.after ((hostOps0.take 66).drop 63) D main_v58 (ix2 i 0) = Finset.fold max (Ideal.ofBits .f32 4286578688#32) (fun v => D main_v56 (ix2 i v)) Finset.univ := by
  after_reads_simp
  pointwise []
theorem step_max_keep (D : Valuation τ sig (Elt Ideal)) : StableHlo.after ((hostOps0.take 66).drop 63) D main_v56 = D main_v56 := by after_reads_simp

/-- the exponentials, -/
theorem step_exp (D : Valuation τ sig (Elt Ideal)) (i : Fin 1536) (v : Fin 32000) (z m : EReal) (hz : D main_v56 (ix2 i v) = z) (hm : D main_v58 (ix2 i 0) = m) :
    StableHlo.after ((hostOps0.take 69).drop 66) D main_v61 (ix2 i v) = Ideal.exp (z - m) := by
  after_reads_simp
  pointwise []
  rw [hz, hm]
theorem step_exp_keep56 (D : Valuation τ sig (Elt Ideal)) : StableHlo.after ((hostOps0.take 69).drop 66) D main_v56 = D main_v56 := by after_reads_simp
theorem step_exp_keep58 (D : Valuation τ sig (Elt Ideal)) : StableHlo.after ((hostOps0.take 69).drop 66) D main_v58 = D main_v58 := by after_reads_simp

/-- the log-sum-exp, -/
theorem step_lse (D : Valuation τ sig (Elt Ideal)) (i : Fin 1536) (e : Fin 32000 → EReal) (h : ∀ v, D main_v61 (ix2 i v) = e v) (m : EReal) (hm : D main_v58 (ix2 i 0) = m) :
    StableHlo.after ((hostOps0.take 74).drop 69) D main_v65 (ix2 i 0) = m + Ideal.log (∑ v, e v) := by
  after_reads_simp
  pointwise []
  simp only [h, hm]
theorem step_lse_keep56 (D : Valuation τ sig (Elt Ideal)) : StableHlo.after ((hostOps0.take 74).drop 69) D main_v56 = D main_v56 := by after_reads_simp

/-- the log probabilities. -/
theorem step_logp (D : Valuation τ sig (Elt Ideal)) (i : Fin 1536) (v : Fin 32000) (z l : EReal) (hz : D main_v56 (ix2 i v) = z) (hl : D main_v65 (ix2 i 0) = l) :
    StableHlo.after (hostOps0.drop 74) D main_v67 (ix2 i v) = z - l := by
  after_reads_simp
  pointwise []
  rw [hz, hl]
theorem step_logp_keep (D : Valuation τ sig (Elt Ideal)) : StableHlo.after (hostOps0.drop 74) D main_v65 = D main_v65 := by after_reads_simp

/-- The contents at each cut. -/
def C66 : Valuation τ sig (Elt Ideal) := StableHlo.after ((hostOps0.take 66).drop 63) (C A)
def C69 : Valuation τ sig (Elt Ideal) := StableHlo.after ((hostOps0.take 69).drop 66) (C66 A)
def C74 : Valuation τ sig (Elt Ideal) := StableHlo.after ((hostOps0.take 74).drop 69) (C69 A)

theorem whole : StableHlo.after hostOps0 A = StableHlo.after (hostOps0.drop 74) (C74 A) := by
  rw [cut A 74, upto_cut A 69 74 (by decide), upto_cut A 66 69 (by decide), upto_cut A 63 66 (by decide)]
  rfl

theorem C_zt (i : Fin 1536) (v : Fin 32000) : C A main_v56 (ix2 i v) = (args A).zt i v :=
  (congrFun (C_v56 A) (ix2 i v)).symm.trans (v56 A i v)

theorem C66_zt (i : Fin 1536) (v : Fin 32000) : C66 A main_v56 (ix2 i v) = (args A).zt i v :=
  (congrFun (step_max_keep (C A)) (ix2 i v)).trans (C_zt A i v)

theorem C66_max (i : Fin 1536) : C66 A main_v58 (ix2 i 0) = Finset.fold max (Ideal.ofBits .f32 4286578688#32) ((args A).zt i) Finset.univ :=
  (step_max (C A) i).trans (by rw [funext fun v => C_zt A i v])

theorem C69_zt (i : Fin 1536) (v : Fin 32000) : C69 A main_v56 (ix2 i v) = (args A).zt i v :=
  (congrFun (step_exp_keep56 (C66 A)) (ix2 i v)).trans (C66_zt A i v)

theorem C74_zt (i : Fin 1536) (v : Fin 32000) : C74 A main_v56 (ix2 i v) = (args A).zt i v :=
  (congrFun (step_lse_keep56 (C69 A)) (ix2 i v)).trans (C69_zt A i v)

theorem C74_lse (i : Fin 1536) : C74 A main_v65 (ix2 i 0) = Spec.lse ((args A).zt i) :=
  step_lse (C69 A) i _ (fun v => step_exp (C66 A) i v _ _ (C66_zt A i v) (C66_max A i)) _
    ((congrFun (step_exp_keep58 (C66 A)) (ix2 i 0)).trans (C66_max A i))

/-- The teacher's log-sum-exp. -/
theorem v65 (i : Fin 1536) : StableHlo.after hostOps0 A main_v65 (ix2 i 0) = Spec.lse ((args A).zt i) := by
  rw [whole]
  exact (congrFun (step_logp_keep (C74 A)) (ix2 i 0)).trans (C74_lse A i)

/-- The teacher's log probabilities. -/
theorem v67 (i : Fin 1536) (v : Fin 32000) : StableHlo.after hostOps0 A main_v67 (ix2 i v) = (args A).zt i v - Spec.lse ((args A).zt i) := by
  rw [whole]
  exact step_logp (C74 A) i v _ _ (C74_zt A i v) (C74_lse A i)

end Cert.ReferenceIdeal.Host

end
-- ==== Proof.ReferenceIdeal.Pay.lean ====
/- What the reference's body computes, entry by entry, from the arrays it loads. -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Pay

open Cert.ReferenceIdeal.Gen
open Idealize.ShloMosaic Idealize.ShloMosaic.TcCoe
open Idealize.ShloMosaic.Pointwise

/-- The row of batch `b`, position `s`. -/
def tokRow (b : Fin 3) (s : Fin 512) : Fin 1536 := ⟨b.val * 512 + s.val, by omega⟩

/-- The loaded rows, as the quantiser reads them. -/
theorem rows (x0 : Vec Ideal S1536x1024 .f32) : k0_pay4 x0 = x0 := by
  unfold k0_pay4
  exact shapeCast_self _ _

/-- The largest magnitude of a row. -/
theorem amax (y : FVec Ideal S1536x1024 .f32) (i : Fin 1536) :
    (shapeCast S1536x1 (multiReduction .maximumf [1] S1536 (absf y) 0xFF800000#32 reduces_S1536x1024_S1536 (.inl rfl) rfl)
      shapeCasts_S1536_S1536x1 : FVec Ideal S1536x1 .f32) (ix2 i 0) = Spec.amax (fun k => y (ix2 i k)) := by
  pointwise []
  rfl

/-- The scale of a row whose largest magnitude is `z`. -/
theorem pick (z : FVec Ideal S1536x1 .f32) (i : Fin 1536) :
    (select (cmpf .oeq z (broadcast S1536x1 (Scalar.ofBits (F := Ideal) .f32 0x00000000#32)))
      (broadcast S1536x1 (Scalar.ofBits (F := Ideal) .f32 0x3F800000#32))
      (divf z (broadcast S1536x1 (Scalar.ofBits (F := Ideal) .f32 0x43E00000#32))) : FVec Ideal S1536x1 .f32) (ix2 i 0)
      = if (z (ix2 i 0) : EReal) = 0 then 1 else Ideal.div (z (ix2 i 0)) (Spec.f32 0x43E00000#32) := by
  pointwise []

/-- A row divided by its scale, kept in range. -/
theorem clip (y : FVec Ideal S1536x1024 .f32) (z : FVec Ideal S1536x1 .f32) (i : Fin 1536) (k : Fin 1024) :
    (truncf .fp8e4m3 (minimumf (broadcast S1536x1024 (Scalar.ofBits (F := Ideal) .f32 0x43E00000#32))
      (maximumf (broadcast S1536x1024 (Scalar.ofBits (F := Ideal) .f32 0xC3E00000#32))
        (divf y (broadcastTo S1536x1024 z broadcasts_S1536x1_S1536x1024)))) bitsLt_fp8e4m3_f32 : FVec Ideal S1536x1024 .fp8e4m3) (ix2 i k)
      = min (Spec.f32 0x43E00000#32) (max (Spec.f32 0xC3E00000#32) (Ideal.div (y (ix2 i k)) (z (ix2 i 0)))) := by
  pointwise []

theorem scaleRow (x0 : Vec Ideal S1536x1024 .f32) (i : Fin 1536) :
    k0_pay5 x0 (ix2 i 0) = Spec.qscale (fun k => x0 (ix2 i k)) := by
  have h := pick (shapeCast S1536x1 (multiReduction .maximumf [1] S1536 (absf (k0_pay4 x0)) 0xFF800000#32 reduces_S1536x1024_S1536 (.inl rfl) rfl)
      shapeCasts_S1536_S1536x1) i
  rw [amax, rows] at h
  refine Eq.trans ?_ h
  unfold k0_pay5
  rw [rows]

theorem codeRow (x0 : Vec Ideal S1536x1024 .f32) (i : Fin 1536) (k : Fin 1024) :
    k0_pay6 x0 (ix2 i k) = Spec.code (fun k => x0 (ix2 i k)) k := by
  have h := clip (k0_pay4 x0) (k0_pay5 x0) i k
  rw [scaleRow, rows] at h
  refine Eq.trans ?_ h
  unfold k0_pay6
  rw [rows]

theorem scale (x0 : Vec Ideal S1536x1024 .f32) (b : Fin 3) (s : Fin 512) :
    k0_pay8 x0 (ix2 b s) = Spec.qscale (fun k => x0 (ix2 (tokRow b s) k)) := by
  refine Eq.trans ?_ (scaleRow x0 (tokRow b s))
  pointwise [k0_pay8]
  rfl

theorem code (x0 : Vec Ideal S1536x1024 .f32) (b : Fin 3) (s : Fin 512) (k : Fin 1024) :
    k0_pay7 x0 (ix3 b s k) = Spec.code (fun k => x0 (ix2 (tokRow b s) k)) k := by
  refine Eq.trans ?_ (codeRow x0 (tokRow b s) k)
  pointwise [k0_pay7]
  rfl

/-- The logits over codes `c` and scales `z`. -/
theorem logit (c : FVec Ideal S1536x1024 .fp8e4m3) (z : FVec Ideal S1536x1 .f32) (x6 : FVec Ideal S32000x1024 .fp8e4m3)
    (x7 : Vec Ideal S1x32000 .f32) (i : Fin 1536) (v : Fin 32000) :
    (divf (mulf (mulf (matmul dot_S1536x1024_S32000x1024_S1536x32000_1_1_0_0_n_n none c x6 (constant S1536x32000 .f32 0x00000000#32))
      (broadcastTo S1536x32000 z broadcasts_S1536x1_S1536x32000))
      (broadcastTo S1536x32000 (shapeCast S1x32000 x7 shapeCasts_S1x32000_S1x32000) broadcasts_S1x32000_S1536x32000))
      (broadcast S1536x32000 (Scalar.ofBits (F := Ideal) .f32 0x40000000#32)) : FVec Ideal S1536x32000 .f32) (ix2 i v)
      = Ideal.div ((∑ k, (c (ix2 i k) : EReal) * (x6 (ix2 v k) : EReal)) * (z (ix2 i 0) : EReal) * (x7 (ix2 0 v) : EReal)) (Spec.f32 1073741824#32) := by
  pointwise []

theorem zs (x0 : Vec Ideal S1536x1024 .f32) (x6 : Vec Ideal S32000x1024 .fp8e4m3) (x7 : Vec Ideal S1x32000 .f32) (i : Fin 1536) (v : Fin 32000) :
    k0_pay9 x0 x6 x7 (ix2 i v)
      = Ideal.div ((∑ k, (Spec.code (fun k => x0 (ix2 i k)) k : EReal) * (x6 (ix2 v k) : EReal)) * Spec.qscale (fun k => x0 (ix2 i k)) * (x7 (ix2 0 v) : EReal)) (Spec.f32 1073741824#32) := by
  have h := logit (k0_pay6 x0) (k0_pay5 x0) x6 x7 i v
  simp only [scaleRow, codeRow] at h
  exact h

theorem zmax (x0 : Vec Ideal S1536x1024 .f32) (x6 : Vec Ideal S32000x1024 .fp8e4m3) (x7 : Vec Ideal S1x32000 .f32) (i : Fin 1536) :
    k0_pay10 x0 x6 x7 (ix2 i 0) = Finset.fold max (Spec.f32 4286578688#32) (fun v => k0_pay9 x0 x6 x7 (ix2 i v)) Finset.univ := by
  pointwise [k0_pay10]

theorem zexp (x0 : Vec Ideal S1536x1024 .f32) (x6 : Vec Ideal S32000x1024 .fp8e4m3) (x7 : Vec Ideal S1x32000 .f32) (i : Fin 1536) (v : Fin 32000) :
    k0_pay11 x0 x6 x7 (ix2 i v) = Ideal.exp ((k0_pay9 x0 x6 x7 (ix2 i v) : EReal) - (k0_pay10 x0 x6 x7 (ix2 i 0) : EReal)) := by
  pointwise [k0_pay11]

theorem lse (m : FVec Ideal S1536x1 .f32) (e : FVec Ideal S1536x32000 .f32) (i : Fin 1536) :
    k0_pay12 m e (ix2 i 0) = (m (ix2 i 0) : EReal) + Ideal.log (∑ v, (e (ix2 i v) : EReal)) := by
  pointwise [k0_pay12]

theorem lse_out_s (m : FVec Ideal S1536x1 .f32) (e : FVec Ideal S1536x32000 .f32) (b : Fin 3) (s : Fin 512) :
    k0_pay14 m e (ix2 b s) = (k0_pay12 m e (ix2 (tokRow b s) 0) : EReal) - Spec.f32 1093007826#32 := by
  pointwise [k0_pay14]
  rfl

theorem lse_out_t (x5 : Vec Ideal S1536x1 .f32) (b : Fin 3) (s : Fin 512) :
    k0_pay13 x5 (ix2 b s) = (x5 (ix2 (tokRow b s) 0) : EReal) - Spec.f32 1093007826#32 := by
  pointwise [k0_pay13]
  rfl

theorem p (x4 : Vec Ideal S1536x32000 .f32) (i : Fin 1536) (v : Fin 32000) : k0_pay17 x4 (ix2 i v) = Ideal.exp (x4 (ix2 i v)) := by
  pointwise [k0_pay17, k0_pay15]

theorem q (z : FVec Ideal S1536x32000 .f32) (m : FVec Ideal S1536x1 .f32) (e : FVec Ideal S1536x32000 .f32) (i : Fin 1536) (v : Fin 32000) :
    k0_pay18 z m e (ix2 i v) = Ideal.exp ((z (ix2 i v) : EReal) - (k0_pay12 m e (ix2 i 0) : EReal)) := by
  pointwise [k0_pay18, k0_pay16]

theorem w (x6 : Vec Ideal S32000x1024 .fp8e4m3) (x8 : Vec Ideal S32000x1 .f32) (v : Fin 32000) (k : Fin 1024) :
    k0_pay20 x6 x8 (ix2 v k) = (x6 (ix2 v k) : EReal) * (x8 (ix2 v 0) : EReal) := by
  pointwise [k0_pay20]

theorem loss (z : FVec Ideal S1536x32000 .f32) (m : FVec Ideal S1536x1 .f32) (e : FVec Ideal S1536x32000 .f32) (x4 : Vec Ideal S1536x32000 .f32)
    (x9 : Vec Ideal S1536x1 .f32) (b : Fin 3) (s : Fin 512) :
    k0_pay19 z m e x4 x9 (ix2 b s) = (x9 (ix2 (tokRow b s) 0) : EReal) * ∑ v, Ideal.exp (x4 (ix2 (tokRow b s) v))
      * ((x4 (ix2 (tokRow b s) v) : EReal) - ((z (ix2 (tokRow b s) v) : EReal) - (k0_pay12 m e (ix2 (tokRow b s) 0) : EReal))) := by
  pointwise [k0_pay19, k0_pay15, k0_pay16, k0_pay17, k0_pay18]
  rfl

theorem dyRow (p q : FVec Ideal S1536x32000 .f32) (w : FVec Ideal S32000x1024 .bf16) (x9 : Vec Ideal S1536x1 .f32) (i : Fin 1536) (k : Fin 1024) :
    k0_pay1 p q w x9 (ix2 i k) = Ideal.div (x9 (ix2 i 0)) (Spec.f32 1073741824#32) * ∑ v, ((q (ix2 i v) : EReal) - (p (ix2 i v) : EReal)) * (w (ix2 v k) : EReal) := by
  pointwise [k0_pay1]

theorem dy (p q : FVec Ideal S1536x32000 .f32) (w : FVec Ideal S32000x1024 .bf16) (x9 : Vec Ideal S1536x1 .f32) (b : Fin 3) (s : Fin 512) (k : Fin 1024) :
    k0_pay2 p q w x9 (ix3 b s k) = k0_pay1 p q w x9 (ix2 (tokRow b s) k) := by
  pointwise [k0_pay2]
  rfl

theorem dx (p q : FVec Ideal S1536x32000 .f32) (w : FVec Ideal S32000x1024 .bf16) (x9 : Vec Ideal S1536x1 .f32) (x3 : Vec Ideal S1x1024 .f32)
    (x2 : Vec Ideal S1536x1024 .f32) (x1 : Vec Ideal S1536x1 .f32) (b : Fin 3) (s : Fin 512) (k : Fin 1024) :
    k0_pay3 p q w x9 x3 x2 x1 (ix3 b s k) = (x1 (ix2 (tokRow b s) 0) : EReal) * ((k0_pay1 p q w x9 (ix2 (tokRow b s) k) : EReal) * (x3 (ix2 0 k) : EReal)
      - (x2 (ix2 (tokRow b s) k) : EReal) * Ideal.div (∑ x, (k0_pay1 p q w x9 (ix2 (tokRow b s) x) : EReal) * (x3 (ix2 0 x) : EReal) * (x2 (ix2 (tokRow b s) x) : EReal)) (Spec.f32 1149239296#32)) := by
  pointwise [k0_pay3]
  rfl

end Cert.ReferenceIdeal.Pay

end
-- ==== Proof.ReferenceIdeal.Result.lean ====
/- What the reference's call leaves in each result, as the mathematics, once the arrays it reads hold what the
   mathematics says. -/
module

public import proofs.«01_k».proof.Proof.ReferenceIdeal.Pay
public import Idealize.ShloMosaic.Lib.Pipeline.ValueKit

@[expose] public section

set_option maxRecDepth 16384

noncomputable section

namespace Cert.ReferenceIdeal.Result

open Cert.ReferenceIdeal.Gen
open Idealize.ShloMosaic Idealize.ShloMosaic.TcCoe
open Cert.ReferenceIdeal.Pay (tokRow)

variable (a : Spec.Args)
variable (x0 : Vec Ideal S1536x1024 .f32) (x1 : Vec Ideal S1536x1 .f32) (x2 : Vec Ideal S1536x1024 .f32) (x3 : Vec Ideal S1x1024 .f32)
  (x4 : Vec Ideal S1536x32000 .f32) (x5 : Vec Ideal S1536x1 .f32) (x6 : Vec Ideal S32000x1024 .fp8e4m3) (x7 : Vec Ideal S1x32000 .f32)
  (x8 : Vec Ideal S32000x1 .f32) (x9 : Vec Ideal S1536x1 .f32)

/-- The arrays the call reads hold the mathematics' values. -/
structure In : Prop where
  y : ∀ i k, (x0 (ix2 i k) : EReal) = a.y i k
  r : ∀ i, (x1 (ix2 i 0) : EReal) = Spec.rr (a.X i)
  n : ∀ i k, (x2 (ix2 i k) : EReal) = a.X i k * Spec.rr (a.X i)
  g : ∀ k, (x3 (ix2 0 k) : EReal) = a.gs k
  lp : ∀ i v, (x4 (ix2 i v) : EReal) = a.zt i v - Spec.lse (a.zt i)
  lt : ∀ i, (x5 (ix2 i 0) : EReal) = Spec.lse (a.zt i)
  w : ∀ v k, (x6 (ix2 v k) : EReal) = a.W v k
  wr : ∀ v, (x7 (ix2 0 v) : EReal) = a.ws v
  wc : ∀ v, (x8 (ix2 v 0) : EReal) = a.ws v
  tok : ∀ i, (x9 (ix2 i 0) : EReal) = a.tok i

variable {a x0 x1 x2 x3 x4 x5 x6 x7 x8 x9}

theorem row (h : In a x0 x1 x2 x3 x4 x5 x6 x7 x8 x9) (i : Fin 1536) : (fun k => x0 (ix2 i k)) = a.y i := funext fun k => h.y i k

theorem zs (h : In a x0 x1 x2 x3 x4 x5 x6 x7 x8 x9) (i : Fin 1536) (v : Fin 32000) : k0_pay9 x0 x6 x7 (ix2 i v) = a.zs i v := by
  rw [Pay.zs, row h]
  simp only [h.w, h.wr]
  rfl

theorem lse (h : In a x0 x1 x2 x3 x4 x5 x6 x7 x8 x9) (i : Fin 1536) : k0_pay12 (k0_pay10 x0 x6 x7) (k0_pay11 x0 x6 x7) (ix2 i 0) = Spec.lse (a.zs i) := by
  rw [Pay.lse]
  simp only [Pay.zexp, Pay.zmax, zs h]
  rfl

theorem w (h : In a x0 x1 x2 x3 x4 x5 x6 x7 x8 x9) (v : Fin 32000) (k : Fin 1024) : k0_pay20 x6 x8 (ix2 v k) = a.W v k * a.ws v := by
  rw [Pay.w, h.w, h.wc]

theorem p (h : In a x0 x1 x2 x3 x4 x5 x6 x7 x8 x9) (i : Fin 1536) (v : Fin 32000) : k0_pay17 x4 (ix2 i v) = Ideal.exp (a.zt i v - Spec.lse (a.zt i)) := by
  rw [Pay.p, h.lp]

theorem q (h : In a x0 x1 x2 x3 x4 x5 x6 x7 x8 x9) (i : Fin 1536) (v : Fin 32000) :
    k0_pay18 (k0_pay9 x0 x6 x7) (k0_pay10 x0 x6 x7) (k0_pay11 x0 x6 x7) (ix2 i v) = Ideal.exp (a.zs i v - Spec.lse (a.zs i)) := by
  rw [Pay.q, zs h, lse h]

theorem dyRow (h : In a x0 x1 x2 x3 x4 x5 x6 x7 x8 x9) (i : Fin 1536) (k : Fin 1024) :
    k0_pay1 (k0_pay17 x4) (k0_pay18 (k0_pay9 x0 x6 x7) (k0_pay10 x0 x6 x7) (k0_pay11 x0 x6 x7)) (k0_pay20 x6 x8) x9 (ix2 i k) = a.dy i k := by
  rw [Pay.dyRow, h.tok]
  simp only [p h, q h, w h]
  rfl

theorem loss (h : In a x0 x1 x2 x3 x4 x5 x6 x7 x8 x9) (b : Fin 3) (s : Fin 512) : out0_10 x0 x1 x2 x3 x4 x5 x6 x7 x8 x9 (ix2 b s) = a.loss (tokRow b s) := by
  have e : out0_10 x0 x1 x2 x3 x4 x5 x6 x7 x8 x9 = k0_pay19 (k0_pay9 x0 x6 x7) (k0_pay10 x0 x6 x7) (k0_pay11 x0 x6 x7) x4 x9 := by
    unfold_out out0_10
    frame_out
  rw [e, Pay.loss, h.tok]
  simp only [h.lp, zs h, lse h]
  rfl

theorem lse_t (h : In a x0 x1 x2 x3 x4 x5 x6 x7 x8 x9) (b : Fin 3) (s : Fin 512) : out0_11 x0 x1 x2 x3 x4 x5 x6 x7 x8 x9 (ix2 b s) = Spec.lse (a.zt (tokRow b s)) - Spec.f32 1093007826#32 := by
  have e : out0_11 x0 x1 x2 x3 x4 x5 x6 x7 x8 x9 = k0_pay13 x5 := by
    unfold_out out0_11
    frame_out
  rw [e, Pay.lse_out_t, h.lt]

theorem lse_s (h : In a x0 x1 x2 x3 x4 x5 x6 x7 x8 x9) (b : Fin 3) (s : Fin 512) : out0_12 x0 x1 x2 x3 x4 x5 x6 x7 x8 x9 (ix2 b s) = Spec.lse (a.zs (tokRow b s)) - Spec.f32 1093007826#32 := by
  have e : out0_12 x0 x1 x2 x3 x4 x5 x6 x7 x8 x9 = k0_pay14 (k0_pay10 x0 x6 x7) (k0_pay11 x0 x6 x7) := by
    unfold_out out0_12
    frame_out
  rw [e, Pay.lse_out_s, lse h]

theorem dx (h : In a x0 x1 x2 x3 x4 x5 x6 x7 x8 x9) (b : Fin 3) (s : Fin 512) (k : Fin 1024) : out0_13 x0 x1 x2 x3 x4 x5 x6 x7 x8 x9 (ix3 b s k) = a.dx (tokRow b s) k := by
  have e : out0_13 x0 x1 x2 x3 x4 x5 x6 x7 x8 x9 = k0_pay3 (k0_pay17 x4) (k0_pay18 (k0_pay9 x0 x6 x7) (k0_pay10 x0 x6 x7) (k0_pay11 x0 x6 x7)) (k0_pay20 x6 x8) x9 x3 x2 x1 := by
    unfold_out out0_13
    frame_out
  rw [e, Pay.dx]
  simp only [dyRow h, h.r, h.g, h.n]
  rfl

theorem dy (h : In a x0 x1 x2 x3 x4 x5 x6 x7 x8 x9) (b : Fin 3) (s : Fin 512) (k : Fin 1024) : out0_14 x0 x1 x2 x3 x4 x5 x6 x7 x8 x9 (ix3 b s k) = a.dy (tokRow b s) k := by
  have e : out0_14 x0 x1 x2 x3 x4 x5 x6 x7 x8 x9 = k0_pay2 (k0_pay17 x4) (k0_pay18 (k0_pay9 x0 x6 x7) (k0_pay10 x0 x6 x7) (k0_pay11 x0 x6 x7)) (k0_pay20 x6 x8) x9 := by
    unfold_out out0_14
    frame_out
  rw [e, Pay.dy, dyRow h]

theorem code (h : In a x0 x1 x2 x3 x4 x5 x6 x7 x8 x9) (b : Fin 3) (s : Fin 512) (k : Fin 1024) : out0_15 x0 x1 x2 x3 x4 x5 x6 x7 x8 x9 (ix3 b s k) = Spec.code (a.y (tokRow b s)) k := by
  have e : out0_15 x0 x1 x2 x3 x4 x5 x6 x7 x8 x9 = k0_pay7 x0 := by
    unfold_out out0_15
    frame_out
  rw [e, Pay.code, row h]

theorem scale (h : In a x0 x1 x2 x3 x4 x5 x6 x7 x8 x9) (b : Fin 3) (s : Fin 512) : out0_16 x0 x1 x2 x3 x4 x5 x6 x7 x8 x9 (ix2 b s) = Spec.qscale (a.y (tokRow b s)) := by
  have e : out0_16 x0 x1 x2 x3 x4 x5 x6 x7 x8 x9 = k0_pay8 x0 := by
    unfold_out out0_16
    frame_out
  rw [e, Pay.scale, row h]

end Cert.ReferenceIdeal.Result

end
-- ==== Proof.ReferenceIdeal.Value.lean ====
/- What the reference's call's output arrays hold after it, entry by entry, from the arrays it finds. -/
module

public import proofs.«01_k».proof.Proof.ReferenceIdeal.Pay
public import Idealize.ShloMosaic.Lib.Pipeline.ValueKit
public import Idealize.ShloMosaic.Lib.ValueIdx

@[expose] public section

set_option maxRecDepth 16384

noncomputable section

namespace Cert.ReferenceIdeal.Value

open Cert.ReferenceIdeal.Gen
open Idealize.ShloMosaic Idealize.ShloMosaic.TcCoe Idealize.ShloMosaic.Pipeline

theorem rd0 (B : Vec Ideal S1536x1024 .f32) (t : Fin cfg0.N) : ((cfg0.win 0).blk t).view.read (Elt Ideal) B = B := by
  have e : ∀ t : Fin cfg0.N, win0_0.index t = ![0, 0] := (by decide +kernel : ∀ t : Fin grid0.N, _)
  funext y
  obtain ⟨i, k, rfl⟩ : ∃ (i : Fin 1536) (k : Fin 1024), y = ix2 i k := ⟨y 0, y 1, eq_ix2 y⟩
  refine congrArg B ?_
  blk_ext [e]

theorem rd1 (B : Vec Ideal S1536x1 .f32) (t : Fin cfg0.N) : ((cfg0.win 1).blk t).view.read (Elt Ideal) B = B := by
  have e : ∀ t : Fin cfg0.N, win0_1.index t = ![0, 0] := (by decide +kernel : ∀ t : Fin grid0.N, _)
  funext y
  obtain ⟨i, k, rfl⟩ : ∃ (i : Fin 1536) (k : Fin 1), y = ix2 i k := ⟨y 0, y 1, eq_ix2 y⟩
  refine congrArg B ?_
  blk_ext [e]

theorem rd2 (B : Vec Ideal S1536x1024 .f32) (t : Fin cfg0.N) : ((cfg0.win 2).blk t).view.read (Elt Ideal) B = B := by
  have e : ∀ t : Fin cfg0.N, win0_2.index t = ![0, 0] := (by decide +kernel : ∀ t : Fin grid0.N, _)
  funext y
  obtain ⟨i, k, rfl⟩ : ∃ (i : Fin 1536) (k : Fin 1024), y = ix2 i k := ⟨y 0, y 1, eq_ix2 y⟩
  refine congrArg B ?_
  blk_ext [e]

theorem rd3 (B : Vec Ideal S1x1024 .f32) (t : Fin cfg0.N) : ((cfg0.win 3).blk t).view.read (Elt Ideal) B = B := by
  have e : ∀ t : Fin cfg0.N, win0_3.index t = ![0, 0] := (by decide +kernel : ∀ t : Fin grid0.N, _)
  funext y
  obtain ⟨i, k, rfl⟩ : ∃ (i : Fin 1) (k : Fin 1024), y = ix2 i k := ⟨y 0, y 1, eq_ix2 y⟩
  refine congrArg B ?_
  blk_ext [e]

theorem rd4 (B : Vec Ideal S1536x32000 .f32) (t : Fin cfg0.N) : ((cfg0.win 4).blk t).view.read (Elt Ideal) B = B := by
  have e : ∀ t : Fin cfg0.N, win0_4.index t = ![0, 0] := (by decide +kernel : ∀ t : Fin grid0.N, _)
  funext y
  obtain ⟨i, k, rfl⟩ : ∃ (i : Fin 1536) (k : Fin 32000), y = ix2 i k := ⟨y 0, y 1, eq_ix2 y⟩
  refine congrArg B ?_
  blk_ext [e]

theorem rd5 (B : Vec Ideal S1536x1 .f32) (t : Fin cfg0.N) : ((cfg0.win 5).blk t).view.read (Elt Ideal) B = B := by
  have e : ∀ t : Fin cfg0.N, win0_5.index t = ![0, 0] := (by decide +kernel : ∀ t : Fin grid0.N, _)
  funext y
  obtain ⟨i, k, rfl⟩ : ∃ (i : Fin 1536) (k : Fin 1), y = ix2 i k := ⟨y 0, y 1, eq_ix2 y⟩
  refine congrArg B ?_
  blk_ext [e]

theorem rd6 (B : Vec Ideal S32000x1024 .fp8e4m3) (t : Fin cfg0.N) : ((cfg0.win 6).blk t).view.read (Elt Ideal) B = B := by
  have e : ∀ t : Fin cfg0.N, win0_6.index t = ![0, 0] := (by decide +kernel : ∀ t : Fin grid0.N, _)
  funext y
  obtain ⟨i, k, rfl⟩ : ∃ (i : Fin 32000) (k : Fin 1024), y = ix2 i k := ⟨y 0, y 1, eq_ix2 y⟩
  refine congrArg B ?_
  blk_ext [e]

theorem rd7 (B : Vec Ideal S1x32000 .f32) (t : Fin cfg0.N) : ((cfg0.win 7).blk t).view.read (Elt Ideal) B = B := by
  have e : ∀ t : Fin cfg0.N, win0_7.index t = ![0, 0] := (by decide +kernel : ∀ t : Fin grid0.N, _)
  funext y
  obtain ⟨i, k, rfl⟩ : ∃ (i : Fin 1) (k : Fin 32000), y = ix2 i k := ⟨y 0, y 1, eq_ix2 y⟩
  refine congrArg B ?_
  blk_ext [e]

theorem rd8 (B : Vec Ideal S32000x1 .f32) (t : Fin cfg0.N) : ((cfg0.win 8).blk t).view.read (Elt Ideal) B = B := by
  have e : ∀ t : Fin cfg0.N, win0_8.index t = ![0, 0] := (by decide +kernel : ∀ t : Fin grid0.N, _)
  funext y
  obtain ⟨i, k, rfl⟩ : ∃ (i : Fin 32000) (k : Fin 1), y = ix2 i k := ⟨y 0, y 1, eq_ix2 y⟩
  refine congrArg B ?_
  blk_ext [e]

theorem rd9 (B : Vec Ideal S1536x1 .f32) (t : Fin cfg0.N) : ((cfg0.win 9).blk t).view.read (Elt Ideal) B = B := by
  have e : ∀ t : Fin cfg0.N, win0_9.index t = ![0, 0] := (by decide +kernel : ∀ t : Fin grid0.N, _)
  funext y
  obtain ⟨i, k, rfl⟩ : ∃ (i : Fin 1536) (k : Fin 1), y = ix2 i k := ⟨y 0, y 1, eq_ix2 y⟩
  refine congrArg B ?_
  blk_ext [e]

variable (m : (ℓ : Loc nD τ sig) → Buf (Elt Ideal) ℓ) (c : Dev nD)

theorem x0 (t : Fin cfg0.N) : iblk m c 0 t = V m c main_v84 := by
  unfold iblk
  exact rd0 (V m c main_v84) t

theorem x1 (t : Fin cfg0.N) : iblk m c 1 t = V m c main_v79 := by
  unfold iblk
  exact rd1 (V m c main_v79) t

theorem x2 (t : Fin cfg0.N) : iblk m c 2 t = V m c main_v81 := by
  unfold iblk
  exact rd2 (V m c main_v81) t

theorem x3 (t : Fin cfg0.N) : iblk m c 3 t = V m c main_v85 := by
  unfold iblk
  exact rd3 (V m c main_v85) t

theorem x4 (t : Fin cfg0.N) : iblk m c 4 t = V m c main_v67 := by
  unfold iblk
  exact rd4 (V m c main_v67) t

theorem x5 (t : Fin cfg0.N) : iblk m c 5 t = V m c main_v65 := by
  unfold iblk
  exact rd5 (V m c main_v65) t

theorem x6 (t : Fin cfg0.N) : iblk m c 6 t = V m c main_arg7 := by
  unfold iblk
  exact rd6 (V m c main_arg7) t

theorem x7 (t : Fin cfg0.N) : iblk m c 7 t = V m c main_v86 := by
  unfold iblk
  exact rd7 (V m c main_v86) t

theorem x8 (t : Fin cfg0.N) : iblk m c 8 t = V m c main_v87 := by
  unfold iblk
  exact rd8 (V m c main_v87) t

theorem x9 (t : Fin cfg0.N) : iblk m c 9 t = V m c main_v33 := by
  unfold iblk
  exact rd9 (V m c main_v33) t

theorem emb10 (t : Fin cfg0.N) (b : Fin 3) (s : Fin 512) : (win0_10.blk t).view.emb (ix2 b s) = ix2 b s := by
  have e : ∀ t : Fin cfg0.N, win0_10.index t = ![0, 0] := (by decide +kernel : ∀ t : Fin grid0.N, _)
  blk_ext [e]

theorem arr10 : (dats m 0 c).arrAt 10 cfg0.N = out0_10 (V m c main_v84) (V m c main_v79) (V m c main_v81) (V m c main_v85) (V m c main_v67) (V m c main_v65) (V m c main_arg7) (V m c main_v86) (V m c main_v87) (V m c main_v33) := by
  refine (dats m 0 c).arrAt_eq_of_covers 10 _ (by decide +kernel) fun t hf y => ?_
  rw [after0_10]
  simp only [x0, x1, x2, x3, x4, x5, x6, x7, x8, x9]
  generalize out0_10 (V m c main_v84) (V m c main_v79) (V m c main_v81) (V m c main_v85) (V m c main_v67) (V m c main_v65) (V m c main_arg7) (V m c main_v86) (V m c main_v87) (V m c main_v33) = B
  blk_simp
  obtain ⟨b, s, rfl⟩ : ∃ (b : Fin 3) (s : Fin 512), y = ix2 b s := ⟨y 0, y 1, eq_ix2 y⟩
  rw [emb10]

theorem emb11 (t : Fin cfg0.N) (b : Fin 3) (s : Fin 512) : (win0_11.blk t).view.emb (ix2 b s) = ix2 b s := by
  have e : ∀ t : Fin cfg0.N, win0_11.index t = ![0, 0] := (by decide +kernel : ∀ t : Fin grid0.N, _)
  blk_ext [e]

theorem arr11 : (dats m 0 c).arrAt 11 cfg0.N = out0_11 (V m c main_v84) (V m c main_v79) (V m c main_v81) (V m c main_v85) (V m c main_v67) (V m c main_v65) (V m c main_arg7) (V m c main_v86) (V m c main_v87) (V m c main_v33) := by
  refine (dats m 0 c).arrAt_eq_of_covers 11 _ (by decide +kernel) fun t hf y => ?_
  rw [after0_11]
  simp only [x0, x1, x2, x3, x4, x5, x6, x7, x8, x9]
  generalize out0_11 (V m c main_v84) (V m c main_v79) (V m c main_v81) (V m c main_v85) (V m c main_v67) (V m c main_v65) (V m c main_arg7) (V m c main_v86) (V m c main_v87) (V m c main_v33) = B
  blk_simp
  obtain ⟨b, s, rfl⟩ : ∃ (b : Fin 3) (s : Fin 512), y = ix2 b s := ⟨y 0, y 1, eq_ix2 y⟩
  rw [emb11]

theorem emb12 (t : Fin cfg0.N) (b : Fin 3) (s : Fin 512) : (win0_12.blk t).view.emb (ix2 b s) = ix2 b s := by
  have e : ∀ t : Fin cfg0.N, win0_12.index t = ![0, 0] := (by decide +kernel : ∀ t : Fin grid0.N, _)
  blk_ext [e]

theorem arr12 : (dats m 0 c).arrAt 12 cfg0.N = out0_12 (V m c main_v84) (V m c main_v79) (V m c main_v81) (V m c main_v85) (V m c main_v67) (V m c main_v65) (V m c main_arg7) (V m c main_v86) (V m c main_v87) (V m c main_v33) := by
  refine (dats m 0 c).arrAt_eq_of_covers 12 _ (by decide +kernel) fun t hf y => ?_
  rw [after0_12]
  simp only [x0, x1, x2, x3, x4, x5, x6, x7, x8, x9]
  generalize out0_12 (V m c main_v84) (V m c main_v79) (V m c main_v81) (V m c main_v85) (V m c main_v67) (V m c main_v65) (V m c main_arg7) (V m c main_v86) (V m c main_v87) (V m c main_v33) = B
  blk_simp
  obtain ⟨b, s, rfl⟩ : ∃ (b : Fin 3) (s : Fin 512), y = ix2 b s := ⟨y 0, y 1, eq_ix2 y⟩
  rw [emb12]

theorem emb13 (t : Fin cfg0.N) (b : Fin 3) (s : Fin 512) (k : Fin 1024) : (win0_13.blk t).view.emb (ix3 b s k) = ix3 b s k := by
  have e : ∀ t : Fin cfg0.N, win0_13.index t = ![0, 0, 0] := (by decide +kernel : ∀ t : Fin grid0.N, _)
  blk_ext [e]

theorem arr13 : (dats m 0 c).arrAt 13 cfg0.N = out0_13 (V m c main_v84) (V m c main_v79) (V m c main_v81) (V m c main_v85) (V m c main_v67) (V m c main_v65) (V m c main_arg7) (V m c main_v86) (V m c main_v87) (V m c main_v33) := by
  refine (dats m 0 c).arrAt_eq_of_covers 13 _ (by decide +kernel) fun t hf y => ?_
  rw [after0_13]
  simp only [x0, x1, x2, x3, x4, x5, x6, x7, x8, x9]
  generalize out0_13 (V m c main_v84) (V m c main_v79) (V m c main_v81) (V m c main_v85) (V m c main_v67) (V m c main_v65) (V m c main_arg7) (V m c main_v86) (V m c main_v87) (V m c main_v33) = B
  blk_simp
  obtain ⟨b, s, k, rfl⟩ : ∃ (b : Fin 3) (s : Fin 512) (k : Fin 1024), y = ix3 b s k := ⟨y 0, y 1, y 2, eq_ix3 y⟩
  rw [emb13]

theorem emb14 (t : Fin cfg0.N) (b : Fin 3) (s : Fin 512) (k : Fin 1024) : (win0_14.blk t).view.emb (ix3 b s k) = ix3 b s k := by
  have e : ∀ t : Fin cfg0.N, win0_14.index t = ![0, 0, 0] := (by decide +kernel : ∀ t : Fin grid0.N, _)
  blk_ext [e]

theorem arr14 : (dats m 0 c).arrAt 14 cfg0.N = out0_14 (V m c main_v84) (V m c main_v79) (V m c main_v81) (V m c main_v85) (V m c main_v67) (V m c main_v65) (V m c main_arg7) (V m c main_v86) (V m c main_v87) (V m c main_v33) := by
  refine (dats m 0 c).arrAt_eq_of_covers 14 _ (by decide +kernel) fun t hf y => ?_
  rw [after0_14]
  simp only [x0, x1, x2, x3, x4, x5, x6, x7, x8, x9]
  generalize out0_14 (V m c main_v84) (V m c main_v79) (V m c main_v81) (V m c main_v85) (V m c main_v67) (V m c main_v65) (V m c main_arg7) (V m c main_v86) (V m c main_v87) (V m c main_v33) = B
  blk_simp
  obtain ⟨b, s, k, rfl⟩ : ∃ (b : Fin 3) (s : Fin 512) (k : Fin 1024), y = ix3 b s k := ⟨y 0, y 1, y 2, eq_ix3 y⟩
  rw [emb14]

theorem emb15 (t : Fin cfg0.N) (b : Fin 3) (s : Fin 512) (k : Fin 1024) : (win0_15.blk t).view.emb (ix3 b s k) = ix3 b s k := by
  have e : ∀ t : Fin cfg0.N, win0_15.index t = ![0, 0, 0] := (by decide +kernel : ∀ t : Fin grid0.N, _)
  blk_ext [e]

theorem arr15 : (dats m 0 c).arrAt 15 cfg0.N = out0_15 (V m c main_v84) (V m c main_v79) (V m c main_v81) (V m c main_v85) (V m c main_v67) (V m c main_v65) (V m c main_arg7) (V m c main_v86) (V m c main_v87) (V m c main_v33) := by
  refine (dats m 0 c).arrAt_eq_of_covers 15 _ (by decide +kernel) fun t hf y => ?_
  rw [after0_15]
  simp only [x0, x1, x2, x3, x4, x5, x6, x7, x8, x9]
  generalize out0_15 (V m c main_v84) (V m c main_v79) (V m c main_v81) (V m c main_v85) (V m c main_v67) (V m c main_v65) (V m c main_arg7) (V m c main_v86) (V m c main_v87) (V m c main_v33) = B
  blk_simp
  obtain ⟨b, s, k, rfl⟩ : ∃ (b : Fin 3) (s : Fin 512) (k : Fin 1024), y = ix3 b s k := ⟨y 0, y 1, y 2, eq_ix3 y⟩
  rw [emb15]

theorem emb16 (t : Fin cfg0.N) (b : Fin 3) (s : Fin 512) : (win0_16.blk t).view.emb (ix2 b s) = ix2 b s := by
  have e : ∀ t : Fin cfg0.N, win0_16.index t = ![0, 0] := (by decide +kernel : ∀ t : Fin grid0.N, _)
  blk_ext [e]

theorem arr16 : (dats m 0 c).arrAt 16 cfg0.N = out0_16 (V m c main_v84) (V m c main_v79) (V m c main_v81) (V m c main_v85) (V m c main_v67) (V m c main_v65) (V m c main_arg7) (V m c main_v86) (V m c main_v87) (V m c main_v33) := by
  refine (dats m 0 c).arrAt_eq_of_covers 16 _ (by decide +kernel) fun t hf y => ?_
  rw [after0_16]
  simp only [x0, x1, x2, x3, x4, x5, x6, x7, x8, x9]
  generalize out0_16 (V m c main_v84) (V m c main_v79) (V m c main_v81) (V m c main_v85) (V m c main_v67) (V m c main_v65) (V m c main_arg7) (V m c main_v86) (V m c main_v87) (V m c main_v33) = B
  blk_simp
  obtain ⟨b, s, rfl⟩ : ∃ (b : Fin 3) (s : Fin 512), y = ix2 b s := ⟨y 0, y 1, eq_ix2 y⟩
  rw [emb16]

end Cert.ReferenceIdeal.Value

end
-- ==== Proof.Algebraic.lean ====
/- The idealised kernel and the reference, from memories agreeing on the arguments, end with equal results. -/
module

public import proofs.«01_k».proof.Defs
public import proofs.«01_k».proof.Proof.KernelIdeal.Value
public import proofs.«01_k».proof.Proof.ReferenceIdeal.Host
public import proofs.«01_k».proof.Proof.ReferenceIdeal.Result
public import proofs.«01_k».proof.Proof.ReferenceIdeal.Value

@[expose] public section

set_option maxRecDepth 16384

noncomputable section

namespace Cert.Algebraic

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.ReferenceIdeal.nD)

/-- The reference's buffers at launch. -/
abbrev A : Valuation Cert.ReferenceIdeal.τ Cert.ReferenceIdeal.sig (Elt Ideal) := fun b => m' (c, b)

/-- The arguments agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

theorem ofRaw_congr {a0 b0 : Vec Ideal ⟨3, ![3, 512, 1024]⟩ .bf16} {a1 b1 : Vec Ideal ⟨3, ![3, 512, 2560]⟩ .bf16} {a2 b2 : Vec Ideal ⟨1, ![1024]⟩ .f32} {a3 b3 : Vec Ideal ⟨1, ![2560]⟩ .f32} {a4 b4 : Vec Ideal ⟨2, ![1280, 32000]⟩ .i8} {a5 b5 : Vec Ideal ⟨2, ![20, 32000]⟩ .f32} {a6 b6 : Vec Ideal ⟨2, ![20, 32000]⟩ .f32} {a7 b7 : Vec Ideal ⟨2, ![32000, 1024]⟩ .fp8e4m3} {a8 b8 : Vec Ideal ⟨1, ![32000]⟩ .f32} {a9 b9 : Vec Ideal ⟨1, ![3]⟩ .i32} {a10 b10 : Vec Ideal ⟨1, ![3]⟩ .i32} {a11 b11 : Vec Ideal ⟨1, ![1]⟩ .i32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    Spec.ofRaw a0 a1 a2 a3 a4 a5 a6 a7 a8 a9 a10 a11 = Spec.ofRaw b0 b1 b2 b3 b4 b5 b6 b7 b8 b9 b10 b11 := by
  subst h0 h1 h2 h3 h4 h5 h6 h7 h8 h9 h10 h11
  rfl

variable {m m' c}

theorem args_eq (h : Agree m m' c) : Cert.ReferenceIdeal.Host.args (A m' c) = Cert.KernelIdeal.Value.args m c := by
  obtain ⟨h0, h1, h2, h3, h4, h5, h6, h7, h8, h9, h10, h11⟩ := h
  exact ofRaw_congr h0 h1 h2 h3 h4 h5 h6 h7 h8 h9 h10 h11

variable (m m' c)

/-- What the reference's call finds. -/
theorem found : Cert.ReferenceIdeal.Result.In (Cert.ReferenceIdeal.Host.args (A m' c)) (Cert.ReferenceIdeal.Gen.V m' c Cert.ReferenceIdeal.main_v84)
    (Cert.ReferenceIdeal.Gen.V m' c Cert.ReferenceIdeal.main_v79) (Cert.ReferenceIdeal.Gen.V m' c Cert.ReferenceIdeal.main_v81) (Cert.ReferenceIdeal.Gen.V m' c Cert.ReferenceIdeal.main_v85) (Cert.ReferenceIdeal.Gen.V m' c Cert.ReferenceIdeal.main_v67) (Cert.ReferenceIdeal.Gen.V m' c Cert.ReferenceIdeal.main_v65) (Cert.ReferenceIdeal.Gen.V m' c Cert.ReferenceIdeal.main_arg7) (Cert.ReferenceIdeal.Gen.V m' c Cert.ReferenceIdeal.main_v86) (Cert.ReferenceIdeal.Gen.V m' c Cert.ReferenceIdeal.main_v87) (Cert.ReferenceIdeal.Gen.V m' c Cert.ReferenceIdeal.main_v33) where
  y := Cert.ReferenceIdeal.Host.v84 (A m' c)
  r := Cert.ReferenceIdeal.Host.v79 (A m' c)
  n := Cert.ReferenceIdeal.Host.v81 (A m' c)
  g := Cert.ReferenceIdeal.Host.v85 (A m' c)
  lp := Cert.ReferenceIdeal.Host.v67 (A m' c)
  lt := Cert.ReferenceIdeal.Host.v65 (A m' c)
  w v k := congrFun (Cert.ReferenceIdeal.Gen.V_main_arg7 m' c) (ix2 v k)
  wr := Cert.ReferenceIdeal.Host.v86 (A m' c)
  wc := Cert.ReferenceIdeal.Host.v87 (A m' c)
  tok := Cert.ReferenceIdeal.Host.v33 (A m' c)

variable {m m' c}

theorem loss (h : Agree m m' c) : (Cert.ReferenceIdeal.Gen.dats m' 0 c).arrAt 10 Cert.ReferenceIdeal.cfg0.N = Cert.KernelIdeal.Run.W7 m c Cert.KernelIdeal.main_v29 := by
  refine (Cert.ReferenceIdeal.Value.arr10 m' c).trans ?_
  funext y
  obtain ⟨b, s, rfl⟩ : ∃ (b : Fin 3) (s : Fin 512), y = ix2 b s := ⟨y 0, y 1, eq_ix2 y⟩
  refine (Cert.ReferenceIdeal.Result.loss (found m' c) b s).trans ?_
  rw [args_eq h]
  exact (Cert.KernelIdeal.Value.loss m c b s).symm

theorem lse_t (h : Agree m m' c) : (Cert.ReferenceIdeal.Gen.dats m' 0 c).arrAt 11 Cert.ReferenceIdeal.cfg0.N = Cert.KernelIdeal.Run.W7 m c Cert.KernelIdeal.main_v36 := by
  refine (Cert.ReferenceIdeal.Value.arr11 m' c).trans ?_
  funext y
  obtain ⟨b, s, rfl⟩ : ∃ (b : Fin 3) (s : Fin 512), y = ix2 b s := ⟨y 0, y 1, eq_ix2 y⟩
  refine (Cert.ReferenceIdeal.Result.lse_t (found m' c) b s).trans ?_
  rw [args_eq h]
  exact (Cert.KernelIdeal.Value.lse_t m c b s).symm

theorem lse_s (h : Agree m m' c) : (Cert.ReferenceIdeal.Gen.dats m' 0 c).arrAt 12 Cert.ReferenceIdeal.cfg0.N = Cert.KernelIdeal.Run.W7 m c Cert.KernelIdeal.main_v43 := by
  refine (Cert.ReferenceIdeal.Value.arr12 m' c).trans ?_
  funext y
  obtain ⟨b, s, rfl⟩ : ∃ (b : Fin 3) (s : Fin 512), y = ix2 b s := ⟨y 0, y 1, eq_ix2 y⟩
  refine (Cert.ReferenceIdeal.Result.lse_s (found m' c) b s).trans ?_
  rw [args_eq h]
  exact (Cert.KernelIdeal.Value.lse_s m c b s).symm

theorem dx (h : Agree m m' c) : (Cert.ReferenceIdeal.Gen.dats m' 0 c).arrAt 13 Cert.ReferenceIdeal.cfg0.N = Cert.KernelIdeal.Run.W7 m c Cert.KernelIdeal.main_v44 := by
  refine (Cert.ReferenceIdeal.Value.arr13 m' c).trans ?_
  funext y
  obtain ⟨b, s, k, rfl⟩ : ∃ (b : Fin 3) (s : Fin 512) (k : Fin 1024), y = ix3 b s k := ⟨y 0, y 1, y 2, eq_ix3 y⟩
  refine (Cert.ReferenceIdeal.Result.dx (found m' c) b s k).trans ?_
  rw [args_eq h]
  exact (Cert.KernelIdeal.Value.dx m c b s k).symm

theorem dy (h : Agree m m' c) : (Cert.ReferenceIdeal.Gen.dats m' 0 c).arrAt 14 Cert.ReferenceIdeal.cfg0.N = Cert.KernelIdeal.Run.W7 m c Cert.KernelIdeal.main_v45 := by
  refine (Cert.ReferenceIdeal.Value.arr14 m' c).trans ?_
  funext y
  obtain ⟨b, s, k, rfl⟩ : ∃ (b : Fin 3) (s : Fin 512) (k : Fin 1024), y = ix3 b s k := ⟨y 0, y 1, y 2, eq_ix3 y⟩
  refine (Cert.ReferenceIdeal.Result.dy (found m' c) b s k).trans ?_
  rw [args_eq h]
  exact (Cert.KernelIdeal.Value.dy m c b s k).symm

theorem code (h : Agree m m' c) : (Cert.ReferenceIdeal.Gen.dats m' 0 c).arrAt 15 Cert.ReferenceIdeal.cfg0.N = Cert.KernelIdeal.Run.W7 m c Cert.KernelIdeal.main_v46 := by
  refine (Cert.ReferenceIdeal.Value.arr15 m' c).trans ?_
  funext y
  obtain ⟨b, s, k, rfl⟩ : ∃ (b : Fin 3) (s : Fin 512) (k : Fin 1024), y = ix3 b s k := ⟨y 0, y 1, y 2, eq_ix3 y⟩
  refine (Cert.ReferenceIdeal.Result.code (found m' c) b s k).trans ?_
  rw [args_eq h]
  exact (Cert.KernelIdeal.Value.code m c b s k).symm

theorem scale (h : Agree m m' c) : (Cert.ReferenceIdeal.Gen.dats m' 0 c).arrAt 16 Cert.ReferenceIdeal.cfg0.N = Cert.KernelIdeal.Run.W7 m c Cert.KernelIdeal.main_v49 := by
  refine (Cert.ReferenceIdeal.Value.arr16 m' c).trans ?_
  funext y
  obtain ⟨b, s, rfl⟩ : ∃ (b : Fin 3) (s : Fin 512), y = ix2 b s := ⟨y 0, y 1, eq_ix2 y⟩
  refine (Cert.ReferenceIdeal.Result.scale (found m' c) b s).trans ?_
  rw [args_eq h]
  exact (Cert.KernelIdeal.Value.scale m c b s).symm

theorem loss_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_0) = Cert.KernelIdeal.Run.W7 m c Cert.KernelIdeal.main_v29 :=
  ((hr c).1 10).trans (loss h)

theorem lse_t_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_1) = Cert.KernelIdeal.Run.W7 m c Cert.KernelIdeal.main_v36 :=
  ((hr c).1 11).trans (lse_t h)

theorem lse_s_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_2) = Cert.KernelIdeal.Run.W7 m c Cert.KernelIdeal.main_v43 :=
  ((hr c).1 12).trans (lse_s h)

theorem dx_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_3) = Cert.KernelIdeal.Run.W7 m c Cert.KernelIdeal.main_v44 :=
  ((hr c).1 13).trans (dx h)

theorem dy_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_4) = Cert.KernelIdeal.Run.W7 m c Cert.KernelIdeal.main_v45 :=
  ((hr c).1 14).trans (dy h)

theorem code_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_5) = Cert.KernelIdeal.Run.W7 m c Cert.KernelIdeal.main_v46 :=
  ((hr c).1 15).trans (code h)

theorem scale_end (h : Agree m m' c) (r : PUnit × MemSt Cert.ReferenceIdeal.nD Cert.ReferenceIdeal.τ Cert.ReferenceIdeal.sig (Elt Ideal))
    (hr : Pipeline.FramePost Cert.ReferenceIdeal.cfgs (Cert.ReferenceIdeal.Gen.dats m') 0 (Cert.ReferenceIdeal.Gen.V m') r) :
    r.2.mem ((c.tc : Thread Cert.ReferenceIdeal.nD Cert.ReferenceIdeal.τ).loc Cert.ReferenceIdeal.main_v88_6) = Cert.KernelIdeal.Run.W7 m c Cert.KernelIdeal.main_v49 :=
  ((hr c).1 16).trans (scale h)

theorem claim [hKernelIdeal : Cert.KernelIdeal.Facts] [hReferenceIdeal : Cert.ReferenceIdeal.Facts] : Cert.algebraic_KernelIdeal_ReferenceIdeal := by
  intro m g m' g' _ hag
  refine ⟨fun c => Cert.KernelIdeal.Run.W7 m c Cert.KernelIdeal.main_v29, fun c => Cert.KernelIdeal.Run.W7 m c Cert.KernelIdeal.main_v36, fun c => Cert.KernelIdeal.Run.W7 m c Cert.KernelIdeal.main_v43, fun c => Cert.KernelIdeal.Run.W7 m c Cert.KernelIdeal.main_v44, fun c => Cert.KernelIdeal.Run.W7 m c Cert.KernelIdeal.main_v45, fun c => Cert.KernelIdeal.Run.W7 m c Cert.KernelIdeal.main_v46, fun c => Cert.KernelIdeal.Run.W7 m c Cert.KernelIdeal.main_v49, ?_, ?_⟩
  · refine (θ_run Cert.KernelIdeal.defs _ _).mono (fun r h c => ?_) (Cert.KernelIdeal.Run.run m g)
    exact ⟨h.1 c _ (Cert.KernelIdeal.Run.mem_uc Cert.KernelIdeal.main_v29 (by decide)),
      h.1 c _ (Cert.KernelIdeal.Run.mem_uc Cert.KernelIdeal.main_v36 (by decide)),
      h.1 c _ (Cert.KernelIdeal.Run.mem_uc Cert.KernelIdeal.main_v43 (by decide)),
      h.1 c _ (Cert.KernelIdeal.Run.mem_uc Cert.KernelIdeal.main_v44 (by decide)),
      h.1 c _ (Cert.KernelIdeal.Run.mem_uc Cert.KernelIdeal.main_v45 (by decide)),
      h.1 c _ (Cert.KernelIdeal.Run.mem_uc Cert.KernelIdeal.main_v46 (by decide)),
      h.1 c _ (Cert.KernelIdeal.Run.mem_uc Cert.KernelIdeal.main_v49 (by decide)),
      (h.1 c _ Cert.KernelIdeal.Run.mem_arg0).trans (Cert.KernelIdeal.Run.kept_arg0 m c),
      (h.1 c _ Cert.KernelIdeal.Run.mem_arg1).trans (Cert.KernelIdeal.Run.kept_arg1 m c),
      (h.1 c _ Cert.KernelIdeal.Run.mem_arg2).trans (Cert.KernelIdeal.Run.kept_arg2 m c),
      (h.1 c _ Cert.KernelIdeal.Run.mem_arg3).trans (Cert.KernelIdeal.Run.kept_arg3 m c),
      (h.1 c _ Cert.KernelIdeal.Run.mem_arg4).trans (Cert.KernelIdeal.Run.kept_arg4 m c),
      (h.1 c _ Cert.KernelIdeal.Run.mem_arg5).trans (Cert.KernelIdeal.Run.kept_arg5 m c),
      (h.1 c _ Cert.KernelIdeal.Run.mem_arg6).trans (Cert.KernelIdeal.Run.kept_arg6 m c),
      (h.1 c _ Cert.KernelIdeal.Run.mem_arg7).trans (Cert.KernelIdeal.Run.kept_arg7 m c),
      (h.1 c _ Cert.KernelIdeal.Run.mem_arg8).trans (Cert.KernelIdeal.Run.kept_arg8 m c),
      (h.1 c _ Cert.KernelIdeal.Run.mem_arg9).trans (Cert.KernelIdeal.Run.kept_arg9 m c),
      (h.1 c _ Cert.KernelIdeal.Run.mem_arg10).trans (Cert.KernelIdeal.Run.kept_arg10 m c),
      (h.1 c _ Cert.KernelIdeal.Run.mem_arg11).trans (Cert.KernelIdeal.Run.kept_arg11 m c)⟩
  · refine (θ_run Cert.ReferenceIdeal.defs _ _).mono (fun r h c => ?_)
      (θ_run_and (Cert.ReferenceIdeal.Gen.run_main m' g') (Cert.ReferenceIdeal.Gen.unchanged m' g'))
    exact ⟨loss_end (hag c) r h.1,
      lse_t_end (hag c) r h.1,
      lse_s_end (hag c) r h.1,
      dx_end (hag c) r h.1,
      dy_end (hag c) r h.1,
      code_end (hag c) r h.1,
      scale_end (hag c) r h.1,
      h.2 c⟩

end Cert.Algebraic

end
-- ==== Proof.lean ====
/- The certificate: every claim of `Cert.Claim`, each proved in the modules beside this file. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Algebraic

@[expose] public section

noncomputable section

namespace Cert.Proof

open Idealize.ShloMosaic Idealize.SL.Sem

/-- The three named constants: each printed pattern stands for the number it is named after. -/
theorem preserves : Cert.preserves_Kernel_KernelIdeal :=
  ⟨IdealRules.named_const.statement Cert.KernelIdeal.κ "half_log2e" .f32 0x3F38AA3B#32 (((Real.log 2)⁻¹ * (1 / 2) : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, preserves,
  @Cert.Algebraic.claim Cert.KernelIdeal.Gen.facts Cert.ReferenceIdeal.Gen.facts⟩

end Cert.Proof

end
